-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33_9) = v0 c
          ∧ r.2.mem ((c.tc : Thread Cert.ReferenceIdeal.nD Cert.ReferenceIdeal.τ).loc Cert.ReferenceIdeal.main_v33_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x85 : Shape := ⟨3, ![4, 20000, 85]⟩
abbrev S4x20000x80 : Shape := ⟨3, ![4, 20000, 80]⟩
abbrev S4x20000x4 : Shape := ⟨3, ![4, 20000, 4]⟩
abbrev S4x8x2500x4 : Shape := ⟨4, ![4, 8, 2500, 4]⟩
abbrev S4x20000x1 : Shape := ⟨3, ![4, 20000, 1]⟩
abbrev S4x8x2500x1 : Shape := ⟨4, ![4, 8, 2500, 1]⟩
abbrev S4x8x2500x80 : Shape := ⟨4, ![4, 8, 2500, 80]⟩
abbrev S4x8x2500x8 : Shape := ⟨4, ![4, 8, 2500, 8]⟩
abbrev S1x1x2500x4 : Shape := ⟨4, ![1, 1, 2500, 4]⟩
abbrev S1x1x2500x1 : Shape := ⟨4, ![1, 1, 2500, 1]⟩
abbrev S1x1x2500x80 : Shape := ⟨4, ![1, 1, 2500, 80]⟩
abbrev S1x1x2500x8 : Shape := ⟨4, ![1, 1, 2500, 8]⟩
abbrev S2500x4 : Shape := ⟨2, ![2500, 4]⟩
abbrev S2500x1 : Shape := ⟨2, ![2500, 1]⟩
abbrev S2500x80 : Shape := ⟨2, ![2500, 80]⟩
abbrev S2500 : Shape := ⟨1, ![2500]⟩
abbrev S2500x8 : Shape := ⟨2, ![2500, 8]⟩
abbrev S4x20000x8 : Shape := ⟨3, ![4, 20000, 8]⟩
abbrev S4x20000 : Shape := ⟨2, ![4, 20000]⟩
abbrev S4x304x8 : Shape := ⟨3, ![4, 304, 8]⟩
abbrev S1x20000x8 : Shape := ⟨3, ![1, 20000, 8]⟩
abbrev S1x20000x1 : Shape := ⟨3, ![1, 20000, 1]⟩
abbrev S1x304x8 : Shape := ⟨3, ![1, 304, 8]⟩
abbrev S8x384 : Shape := ⟨2, ![8, 384]⟩
abbrev S304x8 : Shape := ⟨2, ![304, 8]⟩
abbrev S1x384 : Shape := ⟨2, ![1, 384]⟩
abbrev S1x8 : Shape := ⟨2, ![1, 8]⟩
abbrev S1x1x1 : Shape := ⟨3, ![1, 1, 1]⟩
abbrev S1x1 : Shape := ⟨2, ![1, 1]⟩
abbrev S1 : Shape := ⟨1, ![1]⟩
abbrev S1x1x8 : Shape := ⟨3, ![1, 1, 8]⟩
abbrev S1x1x384 : Shape := ⟨3, ![1, 1, 384]⟩
abbrev S4x300x6 : Shape := ⟨3, ![4, 300, 6]⟩
abbrev S4x300x1 : Shape := ⟨3, ![4, 300, 1]⟩
abbrev S4x300 : Shape := ⟨2, ![4, 300]⟩
abbrev S_ : Shape := ⟨0, ![]⟩
abbrev S4x300x80 : Shape := ⟨3, ![4, 300, 80]⟩

abbrev nBuf : Space → Nat
  | .hbm => 54
  | .vmem => 15
  | .smem => 0
  | _ => 0

abbrev bufTy : (tb : Table) → Fin (tcTables nBuf tb) → BufTy
  | .hbm, ⟨0, _⟩ => ⟨S4x20000x85, .f32⟩
  | .hbm, ⟨1, _⟩ => ⟨S4x20000x80, .f32⟩
  | .hbm, ⟨2, _⟩ => ⟨S4x20000x4, .f32⟩
  | .hbm, ⟨3, _⟩ => ⟨S4x8x2500x4, .f32⟩
  | .hbm, ⟨4, _⟩ => ⟨S4x20000x1, .f32⟩
  | .hbm, ⟨5, _⟩ => ⟨S4x8x2500x1, .f32⟩
  | .hbm, ⟨6, _⟩ => ⟨S4x20000x80, .f32⟩
  | .hbm, ⟨7, _⟩ => ⟨S4x8x2500x80, .f32⟩
  | .hbm, ⟨8, _⟩ => ⟨S4x8x2500x8, .f32⟩
  | .hbm, ⟨9, _⟩ => ⟨S4x20000x8, .f32⟩
  | .hbm, ⟨10, _⟩ => ⟨S4x20000x1, .f32⟩
  | .hbm, ⟨11, _⟩ => ⟨S4x20000, .f32⟩
  | .hbm, ⟨12, _⟩ => ⟨S4x20000, .i32⟩
  | .hbm, ⟨13, _⟩ => ⟨S4x20000, .f32⟩
  | .hbm, ⟨14, _⟩ => ⟨S4x20000, .f32⟩
  | .hbm, ⟨15, _⟩ => ⟨S4x20000, .i32⟩
  | .hbm, ⟨16, _⟩ => ⟨S4x20000x1, .i32⟩
  | .hbm, ⟨17, _⟩ => ⟨S4x304x8, .f32⟩
  | .hbm, ⟨18, _⟩ => ⟨S4x300x6, .f32⟩
  | .hbm, ⟨19, _⟩ => ⟨S4x300x1, .f32⟩
  | .hbm, ⟨20, _⟩ => ⟨S4x300, .f32⟩
  | .hbm, ⟨21, _⟩ => ⟨S4x300, .i32⟩
  | .hbm, ⟨22, _⟩ => ⟨S4x300x1, .f32⟩
  | .hbm, ⟨23, _⟩ => ⟨S_, .f32⟩
  | .hbm, ⟨24, _⟩ => ⟨S4x300x1, .f32⟩
  | .hbm, ⟨25, _⟩ => ⟨S4x300x1, .i1⟩
  | .hbm, ⟨26, _⟩ => ⟨S4x300x1, .i32⟩
  | .hbm, ⟨27, _⟩ => ⟨S_, .i32⟩
  | .hbm, ⟨28, _⟩ => ⟨S4x300x1, .i32⟩
  | .hbm, ⟨29, _⟩ => ⟨S4x300x1, .i1⟩
  | .hbm, ⟨30, _⟩ => ⟨S_, .i32⟩
  | .hbm, ⟨31, _⟩ => ⟨S4x300x1, .i32⟩
  | .hbm, ⟨32, _⟩ => ⟨S4x300x1, .i32⟩
  | .hbm, ⟨33, _⟩ => ⟨S4x300x1, .i32⟩
  | .hbm, ⟨34, _⟩ => ⟨S1, .i32⟩
  | .hbm, ⟨35, _⟩ => ⟨S_, .i32⟩
  | .hbm, ⟨36, _⟩ => ⟨S4x300x1, .i32⟩
  | .hbm, ⟨37, _⟩ => ⟨S4x300x1, .i1⟩
  | .hbm, ⟨38, _⟩ => ⟨S1x1x1, .i32⟩
  | .hbm, ⟨39, _⟩ => ⟨S4x300x1, .i32⟩
  | .hbm, ⟨40, _⟩ => ⟨S4x300x1, .i1⟩
  | .hbm, ⟨41, _⟩ => ⟨S4x300x1, .i1⟩
  | .hbm, ⟨42, _⟩ => ⟨S_, .i1⟩
  | .hbm, ⟨43, _⟩ => ⟨S4x300, .i1⟩
  | .hbm, ⟨44, _⟩ => ⟨S4x300x80, .f32⟩
  | .hbm, ⟨45, _⟩ => ⟨S4x300x80, .i1⟩
  | .hbm, ⟨46, _⟩ => ⟨S_, .f32⟩
  | .hbm, ⟨47, _⟩ => ⟨S4x300x80, .f32⟩
  | .hbm, ⟨48, _⟩ => ⟨S4x300x80, .f32⟩
  | .hbm, ⟨49, _⟩ => ⟨S_, .f32⟩
  | .hbm, ⟨50, _⟩ => ⟨S_, .f32⟩
  | .hbm, ⟨51, _⟩ => ⟨S4x300x80, .i1⟩
  | .hbm, ⟨52, _⟩ => ⟨S4x300x80, .f32⟩
  | .hbm, ⟨53, _⟩ => ⟨S4x300x80, .f32⟩
  | .local _ .vmem, ⟨0, _⟩ => ⟨S1x1x2500x4, .f32⟩
  | .local _ .vmem, ⟨1, _⟩ => ⟨S1x1x2500x4, .f32⟩
  | .local _ .vmem, ⟨2, _⟩ => ⟨S1x1x2500x1, .f32⟩
  | .local _ .vmem, ⟨3, _⟩ => ⟨S1x1x2500x1, .f32⟩
  | .local _ .vmem, ⟨4, _⟩ => ⟨S1x1x2500x80, .f32⟩
  | .local _ .vmem, ⟨5, _⟩ => ⟨S1x1x2500x80, .f32⟩
  | .local _ .vmem, ⟨6, _⟩ => ⟨S1x1x2500x8, .f32⟩
  | .local _ .vmem, ⟨7, _⟩ => ⟨S1x1x2500x8, .f32⟩
  | .local _ .vmem, ⟨8, _⟩ => ⟨S1x20000x8, .f32⟩
  | .local _ .vmem, ⟨9, _⟩ => ⟨S1x20000x8, .f32⟩
  | .local _ .vmem, ⟨10, _⟩ => ⟨S1x20000x1, .i32⟩
  | .local _ .vmem, ⟨11, _⟩ => ⟨S1x20000x1, .i32⟩
  | .local _ .vmem, ⟨12, _⟩ => ⟨S1x304x8, .f32⟩
  | .local _ .vmem, ⟨13, _⟩ => ⟨S1x304x8, .f32⟩
  | .local _ .vmem, ⟨14, _⟩ => ⟨S8x384, .f32⟩
  | _, _ => ⟨S4x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_c_2 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_c_3 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v23 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v24 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2500x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2500x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2500x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2500x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def k1_off1 : Fin 3 → Nat :=
  let c0_5 : Index := 0#32
  let c0_i32 : BitVec 32 := 0#32
  let c19999_i32 : BitVec 32 := 19999#32
  let v10 : BitVec 32 := Scalar.minsi c0_i32 c19999_i32
  let v11 : Index := Scalar.indexCast v10
  let c0_6 : Index := 0#32
  ![0, v11.toNat, 0]
def k1_off2 (v17 : BitVec 32) : Fin 3 → Nat :=
  let c0_8 : Index := 0#32
  let v18 : Index := Scalar.indexCast v17
  let c0_9 : Index := 0#32
  ![0, v18.toNat, 0]

def k1_chk1 (v17 : BitVec 32) : Prop :=
  (∀ a, (k1_off2 v17) a + S1x1x8.size a ≤ S1x20000x8.size a)
theorem k1_off2_inb : ∀ (v17 : BitVec 32) (k1_hw1 : k1_chk1 v17), ∀ a, (k1_off2 v17) a + S1x1x8.size a ≤ S1x20000x8.size a := fun v17 k1_hw1 => k1_hw1

def k1_off3 (arg6 : BitVec 32) : Fin 3 → Nat :=
  let c0_59 : Index := 0#32
  let v159 : Index := Scalar.indexCast arg6
  let c0_60 : Index := 0#32
  ![0, v159.toNat, 0]
def k1_cond1 (v108 : BitVec 1) : BitVec 1 :=
  let v_true : BitVec 1 := 1#1
  let v109 : BitVec 1 := Scalar.xori v108 v_true
  let v110 : BitVec 32 := Scalar.extui v109
  let c0_i32_38 : BitVec 32 := 0#32
  let v111 : BitVec 1 := Scalar.cmpi .ne v110 c0_i32_38
  v111

def k1_chk2 (arg6 : BitVec 32) (v108 : BitVec 1) : Prop :=
  (∀ (k1_h1 : k1_cond1 v108 = 1#1), ∀ a, (k1_off3 arg6) a + S1x1x8.size a ≤ S1x304x8.size a)
theorem k1_off3_inb : ∀ (arg6 : BitVec 32) (v108 : BitVec 1) (k1_hw2 : k1_chk2 arg6 v108), ∀ (k1_h1 : k1_cond1 v108 = 1#1), ∀ a, (k1_off3 arg6) a + S1x1x8.size a ≤ S1x304x8.size a := fun arg6 v108 k1_hw2 k1_h1 => k1_hw2 k1_h1

def k1_off4 (arg5 : BitVec 32) : Fin 3 → Nat :=
  let c0_43 : Index := 0#32
  let c1_i32_41 : BitVec 32 := 1#32
  let v114 : BitVec 32 := Scalar.addi arg5 c1_i32_41
  let c19999_i32_42 : BitVec 32 := 19999#32
  let v115 : BitVec 32 := Scalar.minsi v114 c19999_i32_42
  let v116 : Index := Scalar.indexCast v115
  let c0_44 : Index := 0#32
  ![0, v116.toNat, 0]

def k1_chk3 (arg5 : BitVec 32) : Prop :=
  (∀ a, (k1_off4 arg5) a + S1x1x1.size a ≤ S1x20000x1.size a)
theorem k1_off4_inb : ∀ (arg5 : BitVec 32) (k1_hw3 : k1_chk3 arg5), ∀ a, (k1_off4 arg5) a + S1x1x1.size a ≤ S1x20000x1.size a := fun arg5 k1_hw3 => k1_hw3

def k1_off5 (v122 : BitVec 32) : Fin 3 → Nat :=
  let c0_46 : Index := 0#32
  let v123 : Index := Scalar.indexCast v122
  let c0_47 : Index := 0#32
  ![0, v123.toNat, 0]

def k1_chk4 (v122 : BitVec 32) : Prop :=
  (∀ a, (k1_off5 v122) a + S1x1x8.size a ≤ S1x20000x8.size a)
theorem k1_off5_inb : ∀ (v122 : BitVec 32) (k1_hw4 : k1_chk4 v122), ∀ a, (k1_off5 v122) a + S1x1x8.size a ≤ S1x20000x8.size a := fun v122 k1_hw4 => k1_hw4

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x20000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x304x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x20000x85 : Shape := ⟨3, ![4, 20000, 85]⟩
abbrev S4x20000x80 : Shape := ⟨3, ![4, 20000, 80]⟩
abbrev S4x20000x1 : Shape := ⟨3, ![4, 20000, 1]⟩
abbrev S4x20000 : Shape := ⟨2, ![4, 20000]⟩
abbrev S_ : Shape := ⟨0, ![]⟩
abbrev S4x20000x2 : Shape := ⟨3, ![4, 20000, 2]⟩
abbrev S4x20000x4 : Shape := ⟨3, ![4, 20000, 4]⟩
abbrev S4x300x6 : Shape := ⟨3, ![4, 300, 6]⟩
abbrev S4x300x80 : Shape := ⟨3, ![4, 300, 80]⟩
abbrev S4 : Shape := ⟨1, ![4]⟩
abbrev S4x1x1 : Shape := ⟨3, ![4, 1, 1]⟩
abbrev S4x1x4 : Shape := ⟨3, ![4, 1, 4]⟩
abbrev S4x4 : Shape := ⟨2, ![4, 4]⟩
abbrev S4x1 : Shape := ⟨2, ![4, 1]⟩
abbrev S4x6 : Shape := ⟨2, ![4, 6]⟩
abbrev S1 : Shape := ⟨1, ![1]⟩
abbrev S4x1x80 : Shape := ⟨3, ![4, 1, 80]⟩
abbrev S4x80 : Shape := ⟨2, ![4, 80]⟩
abbrev S4x1x2 : Shape := ⟨3, ![4, 1, 2]⟩

abbrev nBuf : Space → Nat
  | .hbm => 224
  | .vmem => 0
  | .smem => 0
  | _ => 0

abbrev hbmTy0_0 (i : Nat) : BufTy := match i % 128 with
  | 0 => ⟨S4x20000x85, .f32⟩
  | 1 => ⟨S4x20000x80, .f32⟩
  | 2 => ⟨S4x20000x1, .f32⟩
  | 3 => ⟨S4x20000, .f32⟩
  | 4 => ⟨S4x20000x80, .f32⟩
  | 5 => ⟨S4x20000x1, .f32⟩
  | 6 => ⟨S4x20000x80, .f32⟩
  | 7 => ⟨S4x20000x80, .f32⟩
  | 8 => ⟨S_, .f32⟩
  | 9 => ⟨S4x20000, .f32⟩
  | 10 => ⟨S4x20000x80, .i32⟩
  | 11 => ⟨S_, .f32⟩
  | 12 => ⟨S_, .i32⟩
  | 13 => ⟨S4x20000, .f32⟩
  | 14 => ⟨S4x20000, .i32⟩
  | 15 => ⟨S4x20000x2, .f32⟩
  | 16 => ⟨S4x20000x2, .f32⟩
  | 17 => ⟨S_, .f32⟩
  | 18 => ⟨S4x20000x2, .f32⟩
  | 19 => ⟨S4x20000x2, .f32⟩
  | 20 => ⟨S4x20000x2, .f32⟩
  | 21 => ⟨S_, .f32⟩
  | 22 => ⟨S4x20000x2, .f32⟩
  | 23 => ⟨S4x20000x2, .f32⟩
  | 24 => ⟨S4x20000x2, .f32⟩
  | 25 => ⟨S4x20000x4, .f32⟩
  | 26 => ⟨S_, .f32⟩
  | 27 => ⟨S4x20000, .f32⟩
  | 28 => ⟨S4x20000, .i1⟩
  | 29 => ⟨S_, .f32⟩
  | 30 => ⟨S4x20000, .f32⟩
  | 31 => ⟨S4x20000, .i1⟩
  | 32 => ⟨S4x20000, .i1⟩
  | 33 => ⟨S4x20000, .f32⟩
  | 34 => ⟨S_, .f32⟩
  | 35 => ⟨S4x20000, .f32⟩
  | 36 => ⟨S4x20000, .f32⟩
  | 37 => ⟨S4x20000x1, .f32⟩
  | 38 => ⟨S4x20000x4, .f32⟩
  | 39 => ⟨S4x20000x4, .f32⟩
  | 40 => ⟨S_, .f32⟩
  | 41 => ⟨S_, .f32⟩
  | 42 => ⟨S4x20000, .f32⟩
  | 43 => ⟨S4x20000, .f32⟩
  | 44 => ⟨S4x20000, .i32⟩
  | 45 => ⟨S4x20000, .f32⟩
  | 46 => ⟨S_, .f32⟩
  | 47 => ⟨S4x300x6, .f32⟩
  | 48 => ⟨S_, .f32⟩
  | 49 => ⟨S4x300x80, .f32⟩
  | 50 => ⟨S_, .i32⟩
  | 51 => ⟨S_, .i32⟩
  | 52 => ⟨S4x20000x4, .f32⟩
  | 53 => ⟨S4x20000, .f32⟩
  | 54 => ⟨S4x20000, .f32⟩
  | 55 => ⟨S4x20000x80, .f32⟩
  | 56 => ⟨S4x20000x4, .f32⟩
  | 57 => ⟨S4x20000, .i32⟩
  | 58 => ⟨S_, .i32⟩
  | 59 => ⟨S_, .i32⟩
  | 60 => ⟨S4x20000, .f32⟩
  | 61 => ⟨S4x300x6, .f32⟩
  | 62 => ⟨S4x300x80, .f32⟩
  | 63 => ⟨S_, .i32⟩
  | 64 => ⟨S_, .i1⟩
  | 65 => ⟨S_, .i32⟩
  | 66 => ⟨S_, .i32⟩
  | 67 => ⟨S4x20000, .i32⟩
  | 68 => ⟨S_, .f32⟩
  | 69 => ⟨S_, .i32⟩
  | 70 => ⟨S4, .f32⟩
  | 71 => ⟨S4, .i32⟩
  | 72 => ⟨S_, .f32⟩
  | 73 => ⟨S4, .f32⟩
  | 74 => ⟨S_, .f32⟩
  | 75 => ⟨S4, .f32⟩
  | 76 => ⟨S4, .i1⟩
  | 77 => ⟨S4x1x1, .i32⟩
  | 78 => ⟨S_, .i32⟩
  | 79 => ⟨S4x1x1, .i32⟩
  | 80 => ⟨S4x1x1, .i1⟩
  | 81 => ⟨S_, .i32⟩
  | 82 => ⟨S4x1x1, .i32⟩
  | 83 => ⟨S4x1x1, .i32⟩
  | 84 => ⟨S4x1x1, .i32⟩
  | 85 => ⟨S4x1x4, .f32⟩
  | 86 => ⟨S4x4, .f32⟩
  | 87 => ⟨S4x20000x1, .f32⟩
  | 88 => ⟨S4x1x1, .i32⟩
  | 89 => ⟨S_, .i32⟩
  | 90 => ⟨S4x1x1, .i32⟩
  | 91 => ⟨S4x1x1, .i1⟩
  | 92 => ⟨S_, .i32⟩
  | 93 => ⟨S4x1x1, .i32⟩
  | 94 => ⟨S4x1x1, .i32⟩
  | 95 => ⟨S4x1x1, .i32⟩
  | 96 => ⟨S4x1x1, .f32⟩
  | 97 => ⟨S4x1, .f32⟩
  | 98 => ⟨S4x20000x1, .f32⟩
  | 99 => ⟨S4x1x1, .i32⟩
  | 100 => ⟨S_, .i32⟩
  | 101 => ⟨S4x1x1, .i32⟩
  | 102 => ⟨S4x1x1, .i1⟩
  | 103 => ⟨S_, .i32⟩
  | 104 => ⟨S4x1x1, .i32⟩
  | 105 => ⟨S4x1x1, .i32⟩
  | 106 => ⟨S4x1x1, .i32⟩
  | 107 => ⟨S4x1x1, .f32⟩
  | 108 => ⟨S4x1, .f32⟩
  | 109 => ⟨S4x6, .f32⟩
  | 110 => ⟨S4x1, .i1⟩
  | 111 => ⟨S_, .f32⟩
  | 112 => ⟨S_, .f32⟩
  | 113 => ⟨S4x6, .i1⟩
  | 114 => ⟨S4x6, .f32⟩
  | 115 => ⟨S4x6, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1, .i32⟩
  | 123 => ⟨S4x300x6, .f32⟩
  | 124 => ⟨S4x1, .i1⟩
  | 125 => ⟨S4x1x1, .i32⟩
  | 126 => ⟨S_, .i32⟩
  | 127 => ⟨S4x1x1, .i32⟩
  | _ => ⟨S4x20000x85, .f32⟩

abbrev hbmTy0_1 (i : Nat) : BufTy := match i % 128 with
  | 0 => ⟨S4x1x1, .i1⟩
  | 1 => ⟨S_, .i32⟩
  | 2 => ⟨S4x1x1, .i32⟩
  | 3 => ⟨S4x1x1, .i32⟩
  | 4 => ⟨S4x1x1, .i32⟩
  | 5 => ⟨S4x1x80, .f32⟩
  | 6 => ⟨S4x80, .f32⟩
  | 7 => ⟨S_, .f32⟩
  | 8 => ⟨S_, .f32⟩
  | 9 => ⟨S4x80, .i1⟩
  | 10 => ⟨S4x80, .f32⟩
  | 11 => ⟨S4x80, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1, .i32⟩
  | 19 => ⟨S4x300x80, .f32⟩
  | 20 => ⟨S4x1x1, .i32⟩
  | 21 => ⟨S_, .i32⟩
  | 22 => ⟨S4x1x1, .i32⟩
  | 23 => ⟨S4x1x1, .i1⟩
  | 24 => ⟨S_, .i32⟩
  | 25 => ⟨S4x1x1, .i32⟩
  | 26 => ⟨S4x1x1, .i32⟩
  | 27 => ⟨S4x1x1, .i32⟩
  | 28 => ⟨S4x1x4, .f32⟩
  | 29 => ⟨S4x4, .f32⟩
  | 30 => ⟨S4x1x4, .f32⟩
  | 31 => ⟨S4x1x1, .f32⟩
  | 32 => ⟨S4x1, .f32⟩
  | 33 => ⟨S4x1x1, .f32⟩
  | 34 => ⟨S4x1, .f32⟩
  | 35 => ⟨S4x1, .f32⟩
  | 36 => ⟨S4x1x1, .f32⟩
  | 37 => ⟨S4x1, .f32⟩
  | 38 => ⟨S4x1x1, .f32⟩
  | 39 => ⟨S4x1, .f32⟩
  | 40 => ⟨S4x1, .f32⟩
  | 41 => ⟨S4x1, .f32⟩
  | 42 => ⟨S4x20000x1, .f32⟩
  | 43 => ⟨S4x20000, .f32⟩
  | 44 => ⟨S4x20000x1, .f32⟩
  | 45 => ⟨S4x20000, .f32⟩
  | 46 => ⟨S4x20000, .f32⟩
  | 47 => ⟨S4x20000x1, .f32⟩
  | 48 => ⟨S4x20000, .f32⟩
  | 49 => ⟨S4x20000x1, .f32⟩
  | 50 => ⟨S4x20000, .f32⟩
  | 51 => ⟨S4x20000, .f32⟩
  | 52 => ⟨S4x20000, .f32⟩
  | 53 => ⟨S4x1x2, .f32⟩
  | 54 => ⟨S4x20000x2, .f32⟩
  | 55 => ⟨S4x20000x2, .f32⟩
  | 56 => ⟨S4x20000x2, .f32⟩
  | 57 => ⟨S4x1x2, .f32⟩
  | 58 => ⟨S4x20000x2, .f32⟩
  | 59 => ⟨S4x20000x2, .f32⟩
  | 60 => ⟨S4x20000x2, .f32⟩
  | 61 => ⟨S4x20000x2, .f32⟩
  | 62 => ⟨S_, .f32⟩
  | 63 => ⟨S4x20000x2, .f32⟩
  | 64 => ⟨S4x20000x2, .f32⟩
  | 65 => ⟨S4x20000x1, .f32⟩
  | 66 => ⟨S4x20000, .f32⟩
  | 67 => ⟨S4x20000x1, .f32⟩
  | 68 => ⟨S4x20000, .f32⟩
  | 69 => ⟨S4x20000, .f32⟩
  | 70 => ⟨S4x20000, .f32⟩
  | 71 => ⟨S4x20000, .f32⟩
  | 72 => ⟨S4x20000, .f32⟩
  | 73 => ⟨S_, .f32⟩
  | 74 => ⟨S4x20000, .f32⟩
  | 75 => ⟨S4x20000, .f32⟩
  | 76 => ⟨S4x20000, .f32⟩
  | 77 => ⟨S4x1, .i1⟩
  | 78 => ⟨S_, .f32⟩
  | 79 => ⟨S4x20000, .f32⟩
  | 80 => ⟨S4x20000, .i1⟩
  | 81 => ⟨S4x20000, .i1⟩
  | 82 => ⟨S4x20000, .i1⟩
  | 83 => ⟨S_, .f32⟩
  | 84 => ⟨S_, .f32⟩
  | 85 => ⟨S4x20000, .f32⟩
  | 86 => ⟨S4x20000, .f32⟩
  | 87 => ⟨S4x1, .i32⟩
  | 88 => ⟨S4x20000, .i32⟩
  | 89 => ⟨S4x20000, .i1⟩
  | 90 => ⟨S_, .f32⟩
  | 91 => ⟨S_, .f32⟩
  | 92 => ⟨S4x20000, .f32⟩
  | 93 => ⟨S4x20000, .f32⟩
  | 94 => ⟨S_, .i32⟩
  | 95 => ⟨S_, .i32⟩
  | _ => ⟨S4x20000x85, .f32⟩

abbrev hbmTy (i : Nat) : BufTy := match i / 128 with
  | 0 => hbmTy0_0 i
  | 1 => hbmTy0_1 i
  | _ => ⟨S4x20000x85, .f32⟩

abbrev bufTy : (tb : Table) → Fin (tcTables nBuf tb) → BufTy
  | .hbm, ⟨i, _⟩ => hbmTy i
  | _, _ => ⟨S4x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_c : Ref sig .tc := ⟨.hbm, 50, rfl⟩
abbrev main_c_8 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v33_3 : Ref sig .tc := ⟨.hbm, 55, rfl⟩
abbrev main_v33_4 : Ref sig .tc := ⟨.hbm, 56, rfl⟩
abbrev main_v33_5 : Ref sig .tc := ⟨.hbm, 57, rfl⟩
abbrev main_v33_6 : Ref sig .tc := ⟨.hbm, 58, rfl⟩
abbrev main_v33_7 : Ref sig .tc := ⟨.hbm, 59, rfl⟩
abbrev main_v33_8 : Ref sig .tc := ⟨.hbm, 60, rfl⟩
abbrev main_v33_9 : Ref sig .tc := ⟨.hbm, 61, rfl⟩
abbrev main_v33_10 : Ref sig .tc := ⟨.hbm, 62, rfl⟩
abbrev main_while0c_c_19 : Ref sig .tc := ⟨.hbm, 63, rfl⟩
abbrev main_while0c_v34 : Ref sig .tc := ⟨.hbm, 64, rfl⟩
abbrev main_while0b_c_19 : Ref sig .tc := ⟨.hbm, 65, rfl⟩
abbrev main_while0b_v34 : Ref sig .tc := ⟨.hbm, 66, rfl⟩
abbrev main_while0b_call2_v0 : Ref sig .tc := ⟨.hbm, 67, rfl⟩
abbrev main_while0b_call2_cst : Ref sig .tc := ⟨.hbm, 68, rfl⟩
abbrev main_while0b_call2_c : Ref sig .tc := ⟨.hbm, 69, rfl⟩
abbrev main_while0b_call2_v1_0 : Ref sig .tc := ⟨.hbm, 70, rfl⟩
abbrev main_while0b_v35 : Ref sig .tc := ⟨.hbm, 71, rfl⟩
abbrev main_while0b_cst_20 : Ref sig .tc := ⟨.hbm, 72, rfl⟩
abbrev main_while0b_v36 : Ref sig .tc := ⟨.hbm, 73, rfl⟩
abbrev main_while0b_cst_21 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_call3_c : Ref sig .tc := ⟨.hbm, 78, rfl⟩
abbrev main_while0b_call3_v0 : Ref sig .tc := ⟨.hbm, 79, rfl⟩
abbrev main_while0b_call3_v1 : Ref sig .tc := ⟨.hbm, 80, rfl⟩
abbrev main_while0b_call3_c_0 : Ref sig .tc := ⟨.hbm, 81, rfl⟩
abbrev main_while0b_call3_v2 : Ref sig .tc := ⟨.hbm, 82, rfl⟩
abbrev main_while0b_call3_v3 : Ref sig .tc := ⟨.hbm, 83, rfl⟩
abbrev main_while0b_call3_v4 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_call4_c : Ref sig .tc := ⟨.hbm, 89, rfl⟩
abbrev main_while0b_call4_v0 : Ref sig .tc := ⟨.hbm, 90, rfl⟩
abbrev main_while0b_call4_v1 : Ref sig .tc := ⟨.hbm, 91, rfl⟩
abbrev main_while0b_call4_c_0 : Ref sig .tc := ⟨.hbm, 92, rfl⟩
abbrev main_while0b_call4_v2 : Ref sig .tc := ⟨.hbm, 93, rfl⟩
abbrev main_while0b_call4_v3 : Ref sig .tc := ⟨.hbm, 94, rfl⟩
abbrev main_while0b_call4_v4 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_call5_c : Ref sig .tc := ⟨.hbm, 100, rfl⟩
abbrev main_while0b_call5_v0 : Ref sig .tc := ⟨.hbm, 101, rfl⟩
abbrev main_while0b_call5_v1 : Ref sig .tc := ⟨.hbm, 102, rfl⟩
abbrev main_while0b_call5_c_0 : Ref sig .tc := ⟨.hbm, 103, rfl⟩
abbrev main_while0b_call5_v2 : Ref sig .tc := ⟨.hbm, 104, rfl⟩
abbrev main_while0b_call5_v3 : Ref sig .tc := ⟨.hbm, 105, rfl⟩
abbrev main_while0b_call5_v4 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_cst_22 : Ref sig .tc := ⟨.hbm, 111, rfl⟩
abbrev main_while0b_call6_v0 : Ref sig .tc := ⟨.hbm, 112, rfl⟩
abbrev main_while0b_call6_v1 : Ref sig .tc := ⟨.hbm, 113, rfl⟩
abbrev main_while0b_call6_v2 : Ref sig .tc := ⟨.hbm, 114, rfl⟩
abbrev main_while0b_v52 : Ref sig .tc := ⟨.hbm, 115, rfl⟩
abbrev main_while0b_c_23 : Ref sig .tc := ⟨.hbm, 116, rfl⟩
abbrev main_while0b_v53 : Ref sig .tc := ⟨.hbm, 117, rfl⟩
abbrev main_while0b_c_24 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_call7_c : Ref sig .tc := ⟨.hbm, 126, rfl⟩
abbrev main_while0b_call7_v0 : Ref sig .tc := ⟨.hbm, 127, rfl⟩
abbrev main_while0b_call7_v1 : Ref sig .tc := ⟨.hbm, 128, rfl⟩
abbrev main_while0b_call7_c_0 : Ref sig .tc := ⟨.hbm, 129, rfl⟩
abbrev main_while0b_call7_v2 : Ref sig .tc := ⟨.hbm, 130, rfl⟩
abbrev main_while0b_call7_v3 : Ref sig .tc := ⟨.hbm, 131, rfl⟩
abbrev main_while0b_call7_v4 : Ref sig .tc := ⟨.hbm, 132, rfl⟩
abbrev main_while0b_v61 : Ref sig .tc := ⟨.hbm, 133, rfl⟩
abbrev main_while0b_v62 : Ref sig .tc := ⟨.hbm, 134, rfl⟩
abbrev main_while0b_cst_25 : Ref sig .tc := ⟨.hbm, 135, rfl⟩
abbrev main_while0b_call8_v0 : Ref sig .tc := ⟨.hbm, 136, rfl⟩
abbrev main_while0b_call8_v1 : Ref sig .tc := ⟨.hbm, 137, rfl⟩
abbrev main_while0b_call8_v2 : Ref sig .tc := ⟨.hbm, 138, rfl⟩
abbrev main_while0b_v63 : Ref sig .tc := ⟨.hbm, 139, rfl⟩
abbrev main_while0b_c_26 : Ref sig .tc := ⟨.hbm, 140, rfl⟩
abbrev main_while0b_v64 : Ref sig .tc := ⟨.hbm, 141, rfl⟩
abbrev main_while0b_c_27 : Ref sig .tc := ⟨.hbm, 142, rfl⟩
abbrev main_while0b_v65 : Ref sig .tc := ⟨.hbm, 143, rfl⟩
abbrev main_while0b_v66 : Ref sig .tc := ⟨.hbm, 144, rfl⟩
abbrev main_while0b_v67 : Ref sig .tc := ⟨.hbm, 145, rfl⟩
abbrev main_while0b_v68 : Ref sig .tc := ⟨.hbm, 146, rfl⟩
abbrev main_while0b_v69 : Ref sig .tc := ⟨.hbm, 147, rfl⟩
abbrev main_while0b_v70 : Ref sig .tc := ⟨.hbm, 148, rfl⟩
abbrev main_while0b_call9_c : Ref sig .tc := ⟨.hbm, 149, rfl⟩
abbrev main_while0b_call9_v0 : Ref sig .tc := ⟨.hbm, 150, rfl⟩
abbrev main_while0b_call9_v1 : Ref sig .tc := ⟨.hbm, 151, rfl⟩
abbrev main_while0b_call9_c_0 : Ref sig .tc := ⟨.hbm, 152, rfl⟩
abbrev main_while0b_call9_v2 : Ref sig .tc := ⟨.hbm, 153, rfl⟩
abbrev main_while0b_call9_v3 : Ref sig .tc := ⟨.hbm, 154, rfl⟩
abbrev main_while0b_call9_v4 : Ref sig .tc := ⟨.hbm, 155, rfl⟩
abbrev main_while0b_v71 : Ref sig .tc := ⟨.hbm, 156, rfl⟩
abbrev main_while0b_v72 : Ref sig .tc := ⟨.hbm, 157, rfl⟩
abbrev main_while0b_v73 : Ref sig .tc := ⟨.hbm, 158, rfl⟩
abbrev main_while0b_v74 : Ref sig .tc := ⟨.hbm, 159, rfl⟩
abbrev main_while0b_v75 : Ref sig .tc := ⟨.hbm, 160, rfl⟩
abbrev main_while0b_v76 : Ref sig .tc := ⟨.hbm, 161, rfl⟩
abbrev main_while0b_v77 : Ref sig .tc := ⟨.hbm, 162, rfl⟩
abbrev main_while0b_v78 : Ref sig .tc := ⟨.hbm, 163, rfl⟩
abbrev main_while0b_v79 : Ref sig .tc := ⟨.hbm, 164, rfl⟩
abbrev main_while0b_v80 : Ref sig .tc := ⟨.hbm, 165, rfl⟩
abbrev main_while0b_v81 : Ref sig .tc := ⟨.hbm, 166, rfl⟩
abbrev main_while0b_v82 : Ref sig .tc := ⟨.hbm, 167, rfl⟩
abbrev main_while0b_v83 : Ref sig .tc := ⟨.hbm, 168, rfl⟩
abbrev main_while0b_v84 : Ref sig .tc := ⟨.hbm, 169, rfl⟩
abbrev main_while0b_v85 : Ref sig .tc := ⟨.hbm, 170, rfl⟩
abbrev main_while0b_v86 : Ref sig .tc := ⟨.hbm, 171, rfl⟩
abbrev main_while0b_v87 : Ref sig .tc := ⟨.hbm, 172, rfl⟩
abbrev main_while0b_v88 : Ref sig .tc := ⟨.hbm, 173, rfl⟩
abbrev main_while0b_v89 : Ref sig .tc := ⟨.hbm, 174, rfl⟩
abbrev main_while0b_v90 : Ref sig .tc := ⟨.hbm, 175, rfl⟩
abbrev main_while0b_v91 : Ref sig .tc := ⟨.hbm, 176, rfl⟩
abbrev main_while0b_v92 : Ref sig .tc := ⟨.hbm, 177, rfl⟩
abbrev main_while0b_v93 : Ref sig .tc := ⟨.hbm, 178, rfl⟩
abbrev main_while0b_v94 : Ref sig .tc := ⟨.hbm, 179, rfl⟩
abbrev main_while0b_v95 : Ref sig .tc := ⟨.hbm, 180, rfl⟩
abbrev main_while0b_v96 : Ref sig .tc := ⟨.hbm, 181, rfl⟩
abbrev main_while0b_v97 : Ref sig .tc := ⟨.hbm, 182, rfl⟩
abbrev main_while0b_v98 : Ref sig .tc := ⟨.hbm, 183, rfl⟩
abbrev main_while0b_v99 : Ref sig .tc := ⟨.hbm, 184, rfl⟩
abbrev main_while0b_v100 : Ref sig .tc := ⟨.hbm, 185, rfl⟩
abbrev main_while0b_v101 : Ref sig .tc := ⟨.hbm, 186, rfl⟩
abbrev main_while0b_v102 : Ref sig .tc := ⟨.hbm, 187, rfl⟩
abbrev main_while0b_v103 : Ref sig .tc := ⟨.hbm, 188, rfl⟩
abbrev main_while0b_v104 : Ref sig .tc := ⟨.hbm, 189, rfl⟩
abbrev main_while0b_cst_28 : Ref sig .tc := ⟨.hbm, 190, rfl⟩
abbrev main_while0b_v105 : Ref sig .tc := ⟨.hbm, 191, rfl⟩
abbrev main_while0b_v106 : Ref sig .tc := ⟨.hbm, 192, rfl⟩
abbrev main_while0b_v107 : Ref sig .tc := ⟨.hbm, 193, rfl⟩
abbrev main_while0b_v108 : Ref sig .tc := ⟨.hbm, 194, rfl⟩
abbrev main_while0b_v109 : Ref sig .tc := ⟨.hbm, 195, rfl⟩
abbrev main_while0b_v110 : Ref sig .tc := ⟨.hbm, 196, rfl⟩
abbrev main_while0b_v111 : Ref sig .tc := ⟨.hbm, 197, rfl⟩
abbrev main_while0b_v112 : Ref sig .tc := ⟨.hbm, 198, rfl⟩
abbrev main_while0b_v113 : Ref sig .tc := ⟨.hbm, 199, rfl⟩
abbrev main_while0b_v114 : Ref sig .tc := ⟨.hbm, 200, rfl⟩
abbrev main_while0b_cst_29 : Ref sig .tc := ⟨.hbm, 201, rfl⟩
abbrev main_while0b_v115 : Ref sig .tc := ⟨.hbm, 202, rfl⟩
abbrev main_while0b_v116 : Ref sig .tc := ⟨.hbm, 203, rfl⟩
abbrev main_while0b_v117 : Ref sig .tc := ⟨.hbm, 204, rfl⟩
abbrev main_while0b_v118 : Ref sig .tc := ⟨.hbm, 205, rfl⟩
abbrev main_while0b_cst_30 : Ref sig .tc := ⟨.hbm, 206, rfl⟩
abbrev main_while0b_v119 : Ref sig .tc := ⟨.hbm, 207, rfl⟩
abbrev main_while0b_v120 : Ref sig .tc := ⟨.hbm, 208, rfl⟩
abbrev main_while0b_v121 : Ref sig .tc := ⟨.hbm, 209, rfl⟩
abbrev main_while0b_v122 : Ref sig .tc := ⟨.hbm, 210, rfl⟩
abbrev main_while0b_cst_31 : Ref sig .tc := ⟨.hbm, 211, rfl⟩
abbrev main_while0b_call10_v0 : Ref sig .tc := ⟨.hbm, 212, rfl⟩
abbrev main_while0b_call10_v1 : Ref sig .tc := ⟨.hbm, 213, rfl⟩
abbrev main_while0b_v123 : Ref sig .tc := ⟨.hbm, 214, rfl⟩
abbrev main_while0b_v124 : Ref sig .tc := ⟨.hbm, 215, rfl⟩
abbrev main_while0b_v125 : Ref sig .tc := ⟨.hbm, 216, rfl⟩
abbrev main_while0b_v126 : Ref sig .tc := ⟨.hbm, 217, rfl⟩
abbrev main_while0b_cst_32 : Ref sig .tc := ⟨.hbm, 218, rfl⟩
abbrev main_while0b_call11_v0 : Ref sig .tc := ⟨.hbm, 219, rfl⟩
abbrev main_while0b_call11_v1 : Ref sig .tc := ⟨.hbm, 220, rfl⟩
abbrev main_while0b_v127 : Ref sig .tc := ⟨.hbm, 221, rfl⟩
abbrev main_while0b_c_33 : Ref sig .tc := ⟨.hbm, 222, rfl⟩
abbrev main_while0b_v128 : Ref sig .tc := ⟨.hbm, 223, rfl⟩

abbrev nD : Nat := 1
abbrev τ : Topo := Topo.v7x

variable {F : FTy → Type} [FloatOps F]

abbrev main_while0_count : Scf.Loop 32 := ⟨0#32, 300#32, 1#32⟩
-- ==== Proof.Held.lean ====
/-
  What both kernel bodies' runs share: the resource algebra, a staging buffer held at the contents that read a given array,
  and what a load or a store through a rectangle does to it.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.WholeRead

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra of both pipelines' staging cells. -/
abbrev UR : Type := URounds (GSem nD τ sig) Unit

local notation "𝕄" => MT nD τ sig Unit (Elt F) ℕ UR ℕ

/-- Its embedding into the machine's algebra. -/
def EP : Emb UR (MT nD τ sig Unit (Elt F) ℕ UR ℕ) :=
  (Emb.refl _).trans (uEmb (nD := nD) (sig := sig) (Ix := Unit) (Val := Elt F) (Name := ℕ) (U := UR) (Lvl := ℕ)).toEmb

instance EP_landsIn : (EP : Emb UR 𝕄).LandsIn (upEmb : UEmb _ 𝕄) := by unfold EP; infer_instance

/-- The variants count the trips a loop has left. -/
abbrev 𝒱₀ : Variants := Variants.nat

/-- Writing an array through a rectangle of all its sizes at zero offsets replaces it. -/
theorem overlay_whole {S : Shape} {α : Type} {off : Fin S.rank → ℕ} (h : off = fun _ => 0)
    (inb : ∀ a, off a + S.size a ≤ S.size a) (X w : S.Idx → α) : (Rect.unit (s := S) off S.size inb).overlay X w = w := by
  subst h
  funext y
  have hy : (Rect.unit (s := S) (fun _ => 0) S.size inb).emb y = y := by
    funext a; refine Fin.ext ?_; simp [Rect.emb_apply]
  conv_lhs => rw [← hy]
  exact Rect.overlay_emb (Rect.unit (s := S) (fun _ => 0) S.size inb) X w y

/-- Reading an array through a rectangle of all its sizes at zero offsets gives the array. -/
theorem ld_whole {S : Shape} {e : EltTy} {off : Fin S.rank → ℕ} (h : off = fun _ => 0)
    (inb : ∀ a, off a + S.size a ≤ S.size a) (X : S.Idx → Elt F e) : View.ld X (Rect.unit (s := S) off S.size inb) = X := by
  subst h
  funext y
  have hy : (Rect.unit (s := S) (fun _ => 0) S.size inb).idx y = y := by
    funext a; refine Fin.ext ?_; simp [LoadRect.idx]
  exact congrArg X hy

section Access

variable {sp : Space} {s : Shape} {e : EltTy} {M : Memref sig .tc sp s e}

/-- Memref `M`'s buffer held whole at the contents that read `X`. -/
def at' (c : Dev nD) (h : M.IsWhole) (X : s.Idx → Elt F e) : sProp 𝕄 :=
  M.view.loc (c : Thread nD τ) ↦{fullShare} h.unread X

/-- Owning a whole memref at `X` is holding its buffer at the contents that read `X`. -/
theorem owns_eq (c : Dev nD) (h : M.IsWhole) (X : s.Idx → Elt F e) :
    (owns (Ix := Unit) (Name := ℕ) (U := UR) (Lvl := ℕ) (c : Thread nD τ) M fullShare X : sProp 𝕄) ⊣⊢ at' c h X := by
  unfold owns at'
  rw [h.set_eq_univ]
  constructor
  · iintro ⟨%f, %hf, H⟩
    rw [h.eq_unread hf]; iexact H
  · iintro H
    iexists _; isplitr; swap; (· iexact H)
    ipureintro; exact h.read_unread X

/-- A store through a rectangle leaves the array overwritten there. -/
theorem write_unread (h : M.IsWhole) (X : s.Idx → Elt F e) (r : Rect s) (w : r.shape.Idx → Elt F e) :
    ((M.access r) : View sig .tc _ _ _).write (Elt F) (h.unread X) w Finset.univ = h.unread (r.overlay X w) := by
  refine h.eq_unread (funext fun y => ?_)
  by_cases hy : y ∈ r.set
  · obtain ⟨x, rfl⟩ : ∃ x, r.emb x = y := r.exists_idx_of_mem hy
    rw [Rect.overlay_emb]
    exact View.read_slice_write_emb r (v := M.view) _ w (Finset.mem_univ x)
  · rw [Rect.overlay_of_not_mem _ _ _ hy]
    have hy' : y ∉ Finset.univ.map r.emb := by rwa [Rect.map_emb_univ]
    exact (View.read_slice_write_of_not_mem r (v := M.view) _ _ _ hy').trans (congrFun (h.read_unread X) y)

variable {Λ : Labels} {defs : Defs nD τ sig (Elt F) Λ} (bd : Option 𝒱₀.V) (E : Set ℕ) {α : Type}

/-- A load through a rectangle of a whole buffer held at `X` reads `X` there. -/
theorem wp_load_at (c : Dev nD) {cs : CoreSpace} {M : Memref sig .tc cs s e} (h : M.IsWhole) (X : s.Idx → Elt F e) {r : Rect s}
    {hl : M.view.LoadsAt r.toLoadRect}
    {k : (r.shape.Idx → Elt F e) → Prog (TpuEff nD τ sig (Elt F) Λ .tc) α} {Q : α → sProp 𝕄} :
    at' c h X ⊢ iprop((at' c h X -∗ wp frame (wpE defs 𝒱₀ (c : Thread nD τ) bd) E (k (View.ld X r)) Q)
      -∗ wp frame (wpE defs 𝒱₀ (c : Thread nD τ) bd) E (.op (.load M r.toLoadRect hl) k) Q) := by
  have H := wp_load (defs := defs) 𝒱₀ (c : Thread nD τ) (bd := bd) (Γ := .empty) E (m := M) (r := r.toLoadRect) (hl := hl) (k := k) (Q := Q)
    (S := Finset.univ) (q := fullShare) (f := h.unread X) (Finset.subset_univ _)
  have e1 : M.view.readAt (Elt F) r.toLoadRect (h.unread X) = View.ld X r := by
    rw [View.readAt_eq_ld, h.read_unread]
  rw [e1] at H
  exact H

/-- A store through a rectangle of a whole buffer held at `X` leaves it held at `X` overwritten there. -/
theorem wp_store_at (c : Dev nD) {cs : CoreSpace} {M : Memref sig .tc cs s e} (h : M.IsWhole) (X : s.Idx → Elt F e) {r : Rect s}
    {w : r.shape.Idx → Elt F e} {hx : (M.access r).Stores Finset.univ} {hm : Finset.univ = Finset.univ ∨ ∀ a, r.stride a = 1}
    {k : PUnit → Prog (TpuEff nD τ sig (Elt F) Λ .tc) α} {Q : α → sProp 𝕄} :
    at' c h X ⊢ iprop((at' c h (r.overlay X w) -∗ wp frame (wpE defs 𝒱₀ (c : Thread nD τ) bd) E (k ⟨⟩) Q)
      -∗ wp frame (wpE defs 𝒱₀ (c : Thread nD τ) bd) E (.op (.store M r w Finset.univ hx hm) k) Q) := by
  have H := wp_store (defs := defs) 𝒱₀ (c : Thread nD τ) (bd := bd) (Γ := .empty) E (m := M) (r := r) (w := w) (hx := hx) (hm := hm) (k := k) (Q := Q)
    (S := Finset.univ) (f := h.unread X) (Finset.subset_univ _)
  rw [write_unread h X r w] at H
  exact H

end Access

end Cert.KernelIdeal.Nms

end
-- ==== Proof.PrepRun.lean ====
/-
  The preparation kernel's body: from its four staging buffers held it runs to its return, the three inputs as they were and
  the result holding the rows the body computes from them. Then the pipeline's proof data of that call.
-/
module

public import proofs.«01_k».proof.Proof.Held

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UR ℕ

/-- The rows the preparation body stores, over the boxes, the objectness and the class scores it loads. -/
def prepRows (X0 : S1x1x2500x4.Idx → Elt F .f32) (X1 : S1x1x2500x1.Idx → Elt F .f32) (X2 : S1x1x2500x80.Idx → Elt F .f32) :
    S1x1x2500x8.Idx → Elt F .f32 :=
  k0_pay1 (k0_pay5 X1 X2) (k0_pay6 X1 X2) (k0_pay11 X0) (k0_pay12 X0) (k0_pay13 X0) (k0_pay14 X0) (k0_pay15 X1) (k0_pay16 (F := F))

/-- The body's run. -/
theorem prep_run (c : Dev nD) (i : grid0.Coords)
    (M0 : Memref sig .tc .vmem S1x1x2500x4 .f32) (h0 : M0.IsWhole) (M1 : Memref sig .tc .vmem S1x1x2500x1 .f32) (h1 : M1.IsWhole)
    (M2 : Memref sig .tc .vmem S1x1x2500x80 .f32) (h2 : M2.IsWhole) (M3 : Memref sig .tc .vmem S1x1x2500x8 .f32) (h3 : M3.IsWhole)
    (X0 : S1x1x2500x4.Idx → Elt F .f32) (X1 : S1x1x2500x1.Idx → Elt F .f32) (X2 : S1x1x2500x80.Idx → Elt F .f32)
    (X3 : S1x1x2500x8.Idx → Elt F .f32) (Q : PUnit → sProp 𝕄) :
    iprop(at' c h0 X0 ∗ at' c h1 X1 ∗ at' c h2 X2 ∗ at' c h3 X3
        ∗ (iprop(at' c h0 X0 ∗ at' c h1 X1 ∗ at' c h2 X2 ∗ at' c h3 (prepRows X0 X1 X2)) -∗ Q ⟨⟩))
      ⊢ wp frame (wpE (defs₀ (F := F)) 𝒱₀ (c : Thread nD τ) none) Set.univ (cc0__prep_body i M0 h0 M1 h1 M2 h2 M3 h3) Q := by
  simp only [cc0__prep_body_eq_skeleton]; unfold cc0__prep_body_skel
  simp only [k0_part1_eq_skeleton]; unfold k0_part1_skel
  simp only [Prog.lift, Prog.bind_op, Prog.bind_ret, Prog.pure_eq_ret]
  have z : (![0, 0, 0, 0] : Fin 4 → ℕ) = fun _ => 0 := funext fun a => by fin_cases a <;> rfl
  iintro ⟨H0, H1, H2, H3, Hk⟩
  iapply (wp_load_at none Set.univ c h0 X0) $$ H0; iintro H0
  iapply (wp_load_at none Set.univ c h1 X1) $$ H1; iintro H1
  iapply (wp_load_at none Set.univ c h2 X2) $$ H2; iintro H2
  iapply (wp_load_at none Set.univ c h3 X3) $$ H3; iintro H3
  iapply (wp_store_at none Set.univ c h3 X3) $$ H3; iintro H3
  rw [wp_ret]; imodintro
  iapply Hk
  isplitl [H0]; · iexact H0
  isplitl [H1]; · iexact H1
  isplitl [H2]; · iexact H2
  rw [overlay_whole (S := S1x1x2500x8) z, ld_whole (S := S1x1x2500x4) z, ld_whole (S := S1x1x2500x1) z, ld_whole (S := S1x1x2500x80) z]
  iexact H3

/-- The same over owned staging memrefs, whatever else is held. -/
theorem prep_owns (c : Dev nD) (i : grid0.Coords)
    (M0 : Memref sig .tc .vmem S1x1x2500x4 .f32) (h0 : M0.IsWhole) (M1 : Memref sig .tc .vmem S1x1x2500x1 .f32) (h1 : M1.IsWhole)
    (M2 : Memref sig .tc .vmem S1x1x2500x80 .f32) (h2 : M2.IsWhole) (M3 : Memref sig .tc .vmem S1x1x2500x8 .f32) (h3 : M3.IsWhole)
    (X0 : S1x1x2500x4.Idx → Elt F .f32) (X1 : S1x1x2500x1.Idx → Elt F .f32) (X2 : S1x1x2500x80.Idx → Elt F .f32)
    {D0 D1 D2 D3 : Type} (Y0 : D0 → S1x1x2500x4.Idx → Elt F .f32) (Y1 : D1 → S1x1x2500x1.Idx → Elt F .f32)
    (Y2 : D2 → S1x1x2500x80.Idx → Elt F .f32) (X3 : D3 → S1x1x2500x8.Idx → Elt F .f32)
    (e0 : ∀ d, Y0 d = X0) (e1 : ∀ d, Y1 d = X1) (e2 : ∀ d, Y2 d = X2) (P O : sProp 𝕄) :
    iprop(P ∗ O ∗ (∃ d : D0, owns (c : Thread nD τ) M0 fullShare (Y0 d)) ∗ (∃ d : D1, owns (c : Thread nD τ) M1 fullShare (Y1 d))
        ∗ (∃ d : D2, owns (c : Thread nD τ) M2 fullShare (Y2 d)) ∗ (∃ d : D3, owns (c : Thread nD τ) M3 fullShare (X3 d)))
      ⊢ wp frame (wpE (defs₀ (F := F)) 𝒱₀ (c : Thread nD τ) none) Set.univ (cc0__prep_body i M0 h0 M1 h1 M2 h2 M3 h3) fun _ =>
        iprop(P ∗ O ∗ owns (c : Thread nD τ) M0 fullShare X0 ∗ owns (c : Thread nD τ) M1 fullShare X1
          ∗ owns (c : Thread nD τ) M2 fullShare X2 ∗ owns (c : Thread nD τ) M3 fullShare (prepRows X0 X1 X2)) := by
  iintro ⟨HΦ, Howes, ⟨%d0, H0⟩, ⟨%d1, H1⟩, ⟨%d2, H2⟩, ⟨%d3, H3⟩⟩
  rw [e0 d0, e1 d1, e2 d2]
  ihave H0 := (owns_eq c h0 X0).1 $$ H0
  ihave H1 := (owns_eq c h1 X1).1 $$ H1
  ihave H2 := (owns_eq c h2 X2).1 $$ H2
  ihave H3 := (owns_eq c h3 (X3 d3)).1 $$ H3
  iapply (prep_run c i M0 h0 M1 h1 M2 h2 M3 h3 X0 X1 X2 (X3 d3))
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iapply (owns_eq c h0 X0).2; iexact H0
  isplitl [H1]; · iapply (owns_eq c h1 X1).2; iexact H1
  isplitl [H2]; · iapply (owns_eq c h2 X2).2; iexact H2
  iapply (owns_eq c h3 (prepRows X0 X1 X2)).2; iexact H3

/-! ## The pipeline's proof data of the call -/

-- the buffers' contents when the call begins
variable (V : (c : Dev nD) → (b : Ref sig .tc) → Buf (Elt F) ((c : Thread nD τ).loc b))

/-- The three input blocks at a grid point, as the pipeline fetches them. -/
abbrev boxBlk (c : Dev nD) (t : Fin (cfg0 (F := F)).N) : S1x1x2500x4.Idx → Elt F .f32 :=
  (((cfg0 (F := F)).win 0).blk t).view.read (Elt F) (V c main_v1)
abbrev objBlk (c : Dev nD) (t : Fin (cfg0 (F := F)).N) : S1x1x2500x1.Idx → Elt F .f32 :=
  (((cfg0 (F := F)).win 1).blk t).view.read (Elt F) (V c main_v3)
abbrev clsBlk (c : Dev nD) (t : Fin (cfg0 (F := F)).N) : S1x1x2500x80.Idx → Elt F .f32 :=
  (((cfg0 (F := F)).win 2).blk t).view.read (Elt F) (V c main_v5)

/-- What rides through the call: every scoped buffer the pipeline does not stage. -/
abbrev rest0 (c : Dev nD) : sProp 𝕄 := Pipeline.scopedRest (Ix := Unit) (Name := ℕ) (U := UR) (Lvl := ℕ) (Val := Elt F) spec0 c

/-- The proof data: the arrays at `V`; after the body the inputs as fetched and the result at the computed rows. -/
def dat0 (c : Dev nD) : Dat τ (Elt F) Unit ℕ UR ℕ (cfg0 (F := F)) c where
  A w := V c (Pipeline.arrRef spec0 w)
  after w t := match w with
    | ⟨0, _⟩ => boxBlk V c t
    | ⟨1, _⟩ => objBlk V c t
    | ⟨2, _⟩ => clsBlk V c t
    | ⟨3, _⟩ => prepRows (boxBlk V c t) (objBlk V c t) (clsBlk V c t)
  Φ _ := rest0 c
  q _ := fullShare
  owed _ := 0

theorem before0_0 (c : Dev nD) (t : Fin (cfg0 (F := F)).N) (d) : (dat0 V c).before 0 t d = boxBlk V c t := by
  unfold Dat.before; rw [if_pos (fetch0_0 t)]; rfl
theorem before0_1 (c : Dev nD) (t : Fin (cfg0 (F := F)).N) (d) : (dat0 V c).before 1 t d = objBlk V c t := by
  unfold Dat.before; rw [if_pos (fetch0_1 t)]; rfl
theorem before0_2 (c : Dev nD) (t : Fin (cfg0 (F := F)).N) (d) : (dat0 V c).before 2 t d = clsBlk V c t := by
  unfold Dat.before; rw [if_pos (fetch0_2 t)]; rfl

/-- The pipeline's obligation at every grid point. -/
theorem obligation0 (c : Dev nD) : BodyObligation (dat0 V c) (defs₀ (F := F)) 𝒱₀ () Set.univ := fun t => by
  rw [bigSep_W0, bigSep_W0]
  rw [show (dat0 V c).Φ t.castSucc = rest0 c from rfl, show (dat0 V c).Φ t.succ = rest0 c from rfl,
    show (dat0 V c).owesAt () t.succ = (dat0 V c).owesAt () t.castSucc from rfl]
  exact prep_owns c (grid0.coords t) (st0_0 t) (hstage0_0 (((cfg0 (F := F)).slots t 0).cast nbuf0_0))
    (st0_1 t) (hstage0_1 (((cfg0 (F := F)).slots t 1).cast nbuf0_1)) (st0_2 t) (hstage0_2 (((cfg0 (F := F)).slots t 2).cast nbuf0_2))
    (st0_3 t) (hstage0_3 (((cfg0 (F := F)).slots t 3).cast nbuf0_3)) (boxBlk V c t) (objBlk V c t) (clsBlk V c t)
    (fun d => (dat0 V c).before 0 t d) (fun d => (dat0 V c).before 1 t d) (fun d => (dat0 V c).before 2 t d)
    (fun d => (dat0 V c).before 3 t d) (before0_0 V c t) (before0_1 V c t) (before0_2 V c t) (rest0 c) ((dat0 V c).owesAt () t.castSucc)

end Cert.KernelIdeal.Nms

end
-- ==== Proof.NmsLoop.lean ====
/-
  The suppression kernel's loop as a function of the candidate rows and their order: what one trip makes of the loop's state,
  the trips run one after another, and the bounds of the words the body computes its offsets from.
-/
module

public import proofs.«01_k».proof.Proof.Held
public import Idealize.ShloMosaic.Lib.WordCmp
public import Idealize.ShloMosaic.Lib.Tactic.WordOmega
public import Idealize.ShloMosaic.Lib.Pointwise

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

variable {F : FTy → Type} [FloatOps F]

/-- The lane numbers of a candidate row and of a row of the kept table. -/
abbrev lanes8 : IVec S1x8 32 := iota .tc S1x8 32 [1] iota_S1x8_d1_w32
abbrev lanesK : IVec S1x384 32 := iota .tc S1x384 32 [1] iota_S1x384_d1_w32

variable (F) in
/-- What the loop carries and what it keeps in memory: the number kept, the candidate's position and row, the kept table,
    the rows written. -/
structure St where
  cnt : BitVec 32
  pos : BitVec 32
  row : FVec F S1x8 .f32
  kept : S8x384.Idx → Elt F .f32
  out : S1x304x8.Idx → Elt F .f32

/-- One row of the kept table. -/
abbrev keptRow0 (K : S8x384.Idx → Elt F .f32) := View.ld K (Rect.unit (s := S8x384) ![0, 0] S1x384.size inb_S8x384_S1x384_0_0)
abbrev keptRow1 (K : S8x384.Idx → Elt F .f32) := View.ld K (Rect.unit (s := S8x384) ![1, 0] S1x384.size inb_S8x384_S1x384_1_0)
abbrev keptRow2 (K : S8x384.Idx → Elt F .f32) := View.ld K (Rect.unit (s := S8x384) ![2, 0] S1x384.size inb_S8x384_S1x384_2_0)
abbrev keptRow3 (K : S8x384.Idx → Elt F .f32) := View.ld K (Rect.unit (s := S8x384) ![3, 0] S1x384.size inb_S8x384_S1x384_3_0)
abbrev keptRow4 (K : S8x384.Idx → Elt F .f32) := View.ld K (Rect.unit (s := S8x384) ![4, 0] S1x384.size inb_S8x384_S1x384_4_0)

/-- The loop's test: candidates left, room left, and the candidate's score above zero. -/
def go (i : BitVec 32) (s : St F) : BitVec 1 :=
  Scalar.andi (Scalar.andi (Scalar.cmpi .slt i 20000#32) (Scalar.cmpi .slt s.cnt 300#32))
    (Scalar.cmpf .ogt (k1_pay5 lanes8 s.row) (Scalar.ofBits .f32 0x00000000#32))

/-- Whether a kept box overlaps the candidate's too much. -/
def sup (s : St F) : BitVec 1 :=
  Scalar.cmpf .ogt (k1_pay23 lanesK s.cnt (k1_pay15 lanes8 s.row) (k1_pay16 lanes8 s.row) (k1_pay17 lanes8 s.row) (k1_pay18 lanes8 s.row)
    (k1_pay19 lanes8 s.row) (keptRow0 s.kept) (keptRow1 s.kept) (keptRow2 s.kept) (keptRow3 s.kept) (keptRow4 s.kept))
    (Scalar.ofBits .f32 0x00000000#32)

/-- The kept table with the candidate's shifted box and its area written in the lane of the number kept. -/
def keep (s : St F) : S8x384.Idx → Elt F .f32 :=
  let K0 := (Rect.unit (s := S8x384) ![0, 0] S1x384.size inb_S8x384_S1x384_0_0).overlay s.kept
    (k1_pay7 lanesK s.cnt (k1_pay18 lanes8 s.row) (keptRow0 s.kept))
  let K1 := (Rect.unit (s := S8x384) ![1, 0] S1x384.size inb_S8x384_S1x384_1_0).overlay K0
    (k1_pay8 lanesK s.cnt (k1_pay19 lanes8 s.row) (keptRow1 s.kept))
  let K2 := (Rect.unit (s := S8x384) ![2, 0] S1x384.size inb_S8x384_S1x384_2_0).overlay K1
    (k1_pay9 lanesK s.cnt (k1_pay20 (k1_pay15 lanes8 s.row) (k1_pay17 lanes8 s.row)) (keptRow2 s.kept))
  let K3 := (Rect.unit (s := S8x384) ![3, 0] S1x384.size inb_S8x384_S1x384_3_0).overlay K2
    (k1_pay10 lanesK s.cnt (k1_pay21 (k1_pay16 lanes8 s.row) (k1_pay17 lanes8 s.row)) (keptRow3 s.kept))
  (Rect.unit (s := S8x384) ![4, 0] S1x384.size inb_S8x384_S1x384_4_0).overlay K3
    (k1_pay11 lanesK s.cnt (k1_pay22 (k1_pay15 lanes8 s.row) (k1_pay16 lanes8 s.row) (k1_pay17 lanes8 s.row) (k1_pay18 lanes8 s.row)
      (k1_pay19 lanes8 s.row)) (keptRow4 s.kept))

/-- The rows written, with the candidate's in the place of the number kept. -/
def put (s : St F) : S1x304x8.Idx → Elt F .f32 :=
  if h : ∀ a, k1_off3 s.cnt a + S1x1x8.size a ≤ S1x304x8.size a then
    (Rect.unit (s := S1x304x8) (k1_off3 s.cnt) S1x1x8.size h).overlay s.out (k1_pay12 lanes8 s.pos s.row)
  else s.out

/-- The position of the candidate after trip `i`. -/
def wordAt (X2 : S1x20000x1.Idx → Elt F .i32) (i : BitVec 32) : BitVec 32 :=
  if h : k1_chk3 i then
    extractAt ![0, 0, 0] (k1_pay13 (F := F) (View.ld X2 (Rect.unit (s := S1x20000x1) (k1_off4 i) S1x1x1.size (k1_off4_inb i h)))) inpos_S1x1x1_p0_0_0
  else 0#32

/-- The row at a position. -/
def rowAt (X1 : S1x20000x8.Idx → Elt F .f32) (w : BitVec 32) : FVec F S1x8 .f32 :=
  if h : k1_chk4 w then k1_pay14 (View.ld X1 (Rect.unit (s := S1x20000x8) (k1_off5 w) S1x1x8.size (k1_off5_inb w h)))
  else k1_pay14 fun _ => Scalar.ofBits .f32 0x00000000#32

/-- One trip: the candidate inserted unless suppressed, and the next one fetched. -/
def next (X1 : S1x20000x8.Idx → Elt F .f32) (X2 : S1x20000x1.Idx → Elt F .i32) (i : BitVec 32) (s : St F) : St F where
  cnt := Scalar.addi s.cnt (Scalar.select (sup s) 0#32 1#32)
  pos := wordAt X2 i
  row := rowAt X1 (wordAt X2 i)
  kept := if k1_cond1 (sup s) = 1#1 then keep s else s.kept
  out := if k1_cond1 (sup s) = 1#1 then put s else s.out

/-- The loop with at most `k` trips left, at counter `i`. -/
def run (X1 : S1x20000x8.Idx → Elt F .f32) (X2 : S1x20000x1.Idx → Elt F .i32) : ℕ → BitVec 32 → St F → St F
  | 0, _, s => s
  | k + 1, i, s => if go i s = 1#1 then run X1 X2 k (Scalar.addi i 1#32) (next X1 X2 i s) else s

/-- The first candidate's position. -/
def firstWord (X2 : S1x20000x1.Idx → Elt F .i32) : BitVec 32 :=
  extractAt ![0, 0, 0] (k1_pay3 (F := F) (View.ld X2 (Rect.unit (s := S1x20000x1) k1_off1 S1x1x1.size k1_off1_inb))) inpos_S1x1x1_p0_0_0

/-- The loop's state at its entry. -/
def init (X1 : S1x20000x8.Idx → Elt F .f32) (X2 : S1x20000x1.Idx → Elt F .i32) : St F where
  cnt := 0#32
  pos := firstWord X2
  row := rowAt X1 (firstWord X2)
  kept := k1_pay2
  out := k1_pay1

/-- The rows the suppression body leaves. -/
def nmsRows (X1 : S1x20000x8.Idx → Elt F .f32) (X2 : S1x20000x1.Idx → Elt F .i32) : S1x304x8.Idx → Elt F .f32 :=
  (run X1 X2 20000 0#32 (init X1 X2)).out

/-! ## The bounds -/

/-- The one index of a `1 × 1 × 1` array. -/
abbrev o111 : S1x1x1.Idx := ix3 (n0 := 1) (n1 := 1) (n2 := 1) 0 0 0

theorem one_idx (i : S1x1x1.Idx) : i = o111 := by
  rw [eq_ix3 i]
  exact congr (congr (congrArg ix3 (Subsingleton.elim (α := Fin 1) _ _)) (Subsingleton.elim (α := Fin 1) _ _)) (Subsingleton.elim (α := Fin 1) _ _)

/-- The body adds the one word it reads up, and so has that word. -/
theorem one_word (v : S1x1x1.Idx → BitVec 32) (h : S1x1x1.Reduces [1, 2] S1) (x : S1.Idx) :
    multiReductionI .add [1, 2] S1 (v : IVec S1x1x1 32) 0#32 h rfl x = v o111 := by
  refine (multiReductionI_eq_fold .add _ _ h rfl x).trans ?_
  rw [show (Finset.univ.filter fun i => h.drop i = x) = {o111} from ?_, Finset.fold_singleton]
  · exact BitVec.add_zero _
  · ext i
    simp only [Finset.mem_filter, Finset.mem_univ, true_and, Finset.mem_singleton]
    refine ⟨fun _ => one_idx i, fun _ => funext fun a => ?_⟩
    fin_cases a
    exact Subsingleton.elim (α := Fin 1) _ _

theorem pay3_word (v : Vec F S1x1x1 .i32) : extractAt ![0, 0, 0] (k1_pay3 (F := F) v) inpos_S1x1x1_p0_0_0 = v o111 := by
  unfold k1_pay3
  refine (one_word _ _ _).trans ?_
  exact congrArg v (one_idx _)

theorem pay13_word (v : Vec F S1x1x1 .i32) : extractAt ![0, 0, 0] (k1_pay13 (F := F) v) inpos_S1x1x1_p0_0_0 = v o111 := by
  unfold k1_pay13
  refine (one_word _ _ _).trans ?_
  exact congrArg v (one_idx _)

/-- A position below 20000 names a row of the block. -/
theorem chk1_of_lt (w : BitVec 32) (h : w.toNat < 20000) : k1_chk1 w := by
  intro a
  fin_cases a <;> simp [k1_off2, Scalar.indexCast] <;> omega

theorem chk4_of_lt (w : BitVec 32) (h : w.toNat < 20000) : k1_chk4 w := by
  intro a
  fin_cases a <;> simp [k1_off5, Scalar.indexCast] <;> omega

/-- A number kept below 300 names a row of the result. -/
theorem put_inb (w : BitVec 32) (h : w.toNat < 300) : ∀ a, k1_off3 w a + S1x1x8.size a ≤ S1x304x8.size a := by
  intro a
  fin_cases a <;> simp [k1_off3, Scalar.indexCast] <;> omega

/-- The offset of the next word, at a counter inside the candidates. -/
theorem off4_eq (i : BitVec 32) (h : i.toNat < 20000) : k1_off4 i = ![0, min (i.toNat + 1) 19999, 0] := by
  have e : (Scalar.minsi (Scalar.addi i 1#32) 19999#32).toNat = min (i.toNat + 1) 19999 := by
    have e1 : (i + 1#32).toNat = i.toNat + 1 := by rw [BitVec.toNat_add]; simp; omega
    show (IntOp.minsi (i + 1#32) 19999#32).toNat = _
    unfold IntOp.minsi
    have e2 : (i + 1#32).slt 19999#32 = decide (i.toNat + 1 < 19999) := by
      rw [BitVec.slt, BitVec.toInt_eq_toNat_of_lt (by omega), BitVec.toInt_eq_toNat_of_lt (by decide), e1]
      exact decide_eq_decide.2 (by show ((i.toNat + 1 : ℕ) : ℤ) < ((19999 : ℕ) : ℤ) ↔ _; exact Nat.cast_lt)
    rw [e2]
    by_cases hh : i.toNat + 1 < 19999
    · rw [if_pos (decide_eq_true hh), e1]; omega
    · rw [if_neg (by simpa using hh)]; show 19999 = _; omega
  unfold k1_off4
  simp only [Scalar.indexCast]
  rw [← e]

theorem chk3_of_lt (i : BitVec 32) (h : i.toNat < 20000) : k1_chk3 i := by
  intro a
  rw [off4_eq i h]
  fin_cases a <;> simp <;> omega

/-- The test holding says candidates are left and there is room. -/
theorem go_lt {i : BitVec 32} {s : St F} (h : go i s = 1#1) (hi : i.toNat ≤ 20000) (hc : s.cnt.toNat ≤ 300) :
    i.toNat < 20000 ∧ s.cnt.toNat < 300 := by
  unfold go at h
  generalize Scalar.cmpf .ogt (k1_pay5 lanes8 s.row) (Scalar.ofBits .f32 0x00000000#32) = q at h
  generalize s.cnt = n at *
  simp only [Scalar.andi, Scalar.cmpi] at h
  constructor <;> by_contra hh
  · rw [WordCmp.cmpi_slt_of_lt (by omega) (by decide)] at h
    rw [show decide (i.toNat < (20000#32 : BitVec 32).toNat) = false from decide_eq_false hh] at h
    simp [IntOp.andi] at h
  · rw [WordCmp.cmpi_slt_of_lt (x := n) (by omega) (by decide)] at h
    rw [show decide (n.toNat < (300#32 : BitVec 32).toNat) = false from decide_eq_false hh] at h
    simp [IntOp.andi] at h

/-- A trip counts one kept at most. -/
theorem next_cnt (X1 : S1x20000x8.Idx → Elt F .f32) (X2 : S1x20000x1.Idx → Elt F .i32) (i : BitVec 32) (s : St F)
    (h : s.cnt.toNat < 300) : (next X1 X2 i s).cnt.toNat ≤ 300 := by
  show (Scalar.addi s.cnt (Scalar.select (sup s) 0#32 1#32)).toNat ≤ 300
  generalize s.cnt = n at *
  generalize sup s = q
  show (n + _).toNat ≤ 300
  unfold Scalar.select
  split <;> rw [BitVec.toNat_add] <;> simp <;> omega

theorem firstWord_eq (X2 : S1x20000x1.Idx → Elt F .i32) : firstWord X2 = X2 (ix3 (n0 := 1) (n1 := 20000) (n2 := 1) 0 0 0) := by
  unfold firstWord
  rw [pay3_word]
  refine congrArg X2 (funext fun a => Fin.ext ?_)
  fin_cases a <;> rfl

/-- The next word, at a counter inside the candidates, is the one at the next place, the last staying. -/
theorem wordAt_eq (X2 : S1x20000x1.Idx → Elt F .i32) (i : BitVec 32) (h : i.toNat < 20000) :
    ∃ y, wordAt X2 i = X2 y ∧ (y 1).val = min (i.toNat + 1) 19999 := by
  unfold wordAt
  rw [dif_pos (chk3_of_lt i h), pay13_word]
  refine ⟨_, rfl, ?_⟩
  simp [LoadRect.idx, off4_eq i h]

end Cert.KernelIdeal.Nms

end
-- ==== Proof.NmsBody.lean ====
/-
  The suppression kernel's body: its loop meets, from any state, the specification that the loop run as a function leaves the
  buffers at what that function gives; so the body, from its staging buffers and its table held, runs to its return with the
  result at the rows that function writes. The candidates' positions are below 20000, which is what the body assumes of them.
-/
module

public import proofs.«01_k».proof.Proof.NmsLoop

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UR ℕ

section Label

variable (c : Dev nD) (i1 : grid1.Coords)
  {M1 : Memref sig .tc .vmem S1x20000x8 .f32} (h1 : M1.IsWhole) {M2 : Memref sig .tc .vmem S1x20000x1 .i32} (h2 : M2.IsWhole)
  {M3 : Memref sig .tc .vmem S1x304x8 .f32} (h3 : M3.IsWhole) {M4 : Memref sig .tc .vmem S8x384 .f32} (h4 : M4.IsWhole)
  (X1 : S1x20000x8.Idx → Elt F .f32) (X2 : S1x20000x1.Idx → Elt F .i32)

/-- The four buffers of the body: the rows and their order as fetched, the result and the table at `O` and `K`. -/
def bufs (O : S1x304x8.Idx → Elt F .f32) (K : S8x384.Idx → Elt F .f32) : sProp 𝕄 :=
  iprop(at' c h1 X1 ∗ at' c h2 X2 ∗ at' c h3 O ∗ at' c h4 K)

/-- The loop's specification with at most `k` trips left. -/
def loopSpec (k : ℕ) (i : BitVec 32) (s : St F) : sWPT 𝕄 (BitVec 32 × BitVec 32 × BitVec 32 × FVec F S1x8 .f32) := do
  sWPT.consume (bufs c h1 h2 h3 h4 X1 X2 s.out s.kept)
  let r ← sWPT.arbitrary
  sWPT.produce (bufs c h1 h2 h3 h4 X1 X2 (run X1 X2 k i s).out (run X1 X2 k i s).kept)
  pure r

theorem loopSpec_apply (k : ℕ) (i : BitVec 32) (s : St F) (Q : BitVec 32 × BitVec 32 × BitVec 32 × FVec F S1x8 .f32 → sProp 𝕄) :
    loopSpec c h1 h2 h3 h4 X1 X2 k i s Q
      = iprop(bufs c h1 h2 h3 h4 X1 X2 s.out s.kept
        ∗ ∀ r : BitVec 32 × BitVec 32 × BitVec 32 × FVec F S1x8 .f32,
          (bufs c h1 h2 h3 h4 X1 X2 (run X1 X2 k i s).out (run X1 X2 k i s).kept -∗ Q r)) := rfl

/-- The label's record at the loop's state. -/
abbrev loopArgs (w : BitVec 32) (hw : k1_chk1 w) (i : BitVec 32) (s : St F) : (Λ₀ F).Args (2 : (Λ₀ F).Label) :=
  ⟨i1, w, hw, lanes8, M4, h4, lanesK, M3, h3, M2, h2, M1, h1, i, s.cnt, s.pos, s.row⟩

variable (hX2 : ∀ y, ((X2 y : BitVec 32)).toNat < 20000)

/-- Every word the loop fetches is a position. -/
theorem wordAt_lt (hX2 : ∀ y, ((X2 y : BitVec 32)).toNat < 20000) (i : BitVec 32) (h : i.toNat < 20000) : (wordAt X2 i).toNat < 20000 := by
  obtain ⟨y, hy, -⟩ := wordAt_eq X2 i h
  rw [hy]; exact hX2 y

/-- The state after a trip with the next position and its row spelt as the body computes them. -/
abbrev afterTrip (s : St F) (v : BitVec 32) (hv : k1_chk4 v) (K : S8x384.Idx → Elt F .f32) (O : S1x304x8.Idx → Elt F .f32) : St F where
  cnt := Scalar.addi s.cnt (Scalar.select (sup s) 0#32 1#32)
  pos := v
  row := k1_pay14 (View.ld X1 (Rect.unit (s := S1x20000x8) (k1_off5 v) S1x1x8.size (k1_off5_inb v hv)))
  kept := K
  out := O

theorem afterTrip_eq (i : BitVec 32) (s : St F) (v : BitVec 32) (e : wordAt X2 i = v) (hv : k1_chk4 v)
    (K : S8x384.Idx → Elt F .f32) (O : S1x304x8.Idx → Elt F .f32) :
    afterTrip X1 s v hv K O
      = ⟨Scalar.addi s.cnt (Scalar.select (sup s) 0#32 1#32), wordAt X2 i, rowAt X1 (wordAt X2 i), K, O⟩ := by
  rw [e]
  have e' : rowAt X1 v = _ := dif_pos hv
  rw [e']

theorem addi_toNat (i : BitVec 32) (k : ℕ) (h : i.toNat + (k + 1) = 20000) : (Scalar.addi i 1#32).toNat + k = 20000 := by
  show (i + 1#32).toNat + k = 20000
  rw [BitVec.toNat_add]
  simp
  omega

/-- The loop's body, entered with at most `k` trips left at counter `20000 - k`, meets the specification. -/
theorem loopSpec_le (hX2 : ∀ y, ((X2 y : BitVec 32)).toNat < 20000) (E : Set ℕ) (w : BitVec 32) (hw : k1_chk1 w) :
    ∀ k (i : BitVec 32) (s : St F), i.toNat + k = 20000 → s.cnt.toNat ≤ 300 → ∀ Q, loopSpec c h1 h2 h3 h4 X1 X2 k i s Q
      ⊢ wp frame (wpE (defs₀ (F := F)) 𝒱₀ (c : Thread nD τ) (some k)) E
          (defs₀ (F := F) .tc (2 : (Λ₀ F).Label) (loopArgs i1 h1 h2 h3 h4 w hw i s)) Q := by
  intro k
  induction k with
  | zero =>
    intro i s hi hc Q
    rw [loopSpec_apply]
    show _ ⊢ wp frame (wpE (defs₀ (F := F)) 𝒱₀ (c : Thread nD τ) (some 0)) E
      (cc1_while1 i1 w hw lanes8 M4 h4 lanesK M3 h3 M2 h2 M1 h1 i s.cnt s.pos s.row) Q
    simp only [cc1_while1_eq_skeleton]; unfold cc1_while1_skel
    have htest : ¬ go i s = 1#1 := fun h => by have := (go_lt h (by omega) hc).1; omega
    unfold go at htest
    simp only [htest, ↓reduceIte, Prog.pure_eq_ret]
    iintro ⟨H, Hk⟩
    rw [wp_ret]; imodintro
    iapply Hk
    iexact H
  | succ k ih =>
    intro i s hi hc Q
    rw [loopSpec_apply]
    show _ ⊢ wp frame (wpE (defs₀ (F := F)) 𝒱₀ (c : Thread nD τ) (some (k + 1))) E
      (cc1_while1 i1 w hw lanes8 M4 h4 lanesK M3 h3 M2 h2 M1 h1 i s.cnt s.pos s.row) Q
    simp only [cc1_while1_eq_skeleton]; unfold cc1_while1_skel
    by_cases htest : go i s = 1#1
    · obtain ⟨hi', hc'⟩ := go_lt htest (by omega) hc
      have hrun : run X1 X2 (k + 1) i s = run X1 X2 k (Scalar.addi i 1#32) (next X1 X2 i s) := if_pos htest
      have hcn := next_cnt X1 X2 i s hc'
      rw [hrun]
      unfold go at htest
      simp only [htest, ↓reduceIte, k1_part1_eq_skeleton, k1_part2_eq_skeleton]
      unfold k1_part1_skel k1_part2_skel
      simp only [Prog.lift, Prog.bind_op, Prog.bind_ret, Prog.pure_eq_ret]
      unfold bufs
      iintro ⟨⟨H1, H2, H3, H4⟩, Hk⟩
      iapply (wp_assume 𝒱₀ (c : Thread nD τ) (some (k + 1)) E (chk3_of_lt i hi'))
      iapply (wp_load_at (some (k + 1)) E c h4 s.kept) $$ H4; iintro H4
      iapply (wp_load_at (some (k + 1)) E c h4 s.kept) $$ H4; iintro H4
      iapply (wp_load_at (some (k + 1)) E c h4 s.kept) $$ H4; iintro H4
      iapply (wp_load_at (some (k + 1)) E c h4 s.kept) $$ H4; iintro H4
      iapply (wp_load_at (some (k + 1)) E c h4 s.kept) $$ H4; iintro H4
      iapply (wp_assume 𝒱₀ (c : Thread nD τ) (some (k + 1)) E (show k1_chk2 s.cnt (sup s) from fun _ => put_inb _ hc'))
      have e4 : wordAt X2 i = extractAt ![0, 0, 0] (k1_pay13 (F := F) (View.ld X2 (Rect.unit (s := S1x20000x1) (k1_off4 i) S1x1x1.size
          (k1_off4_inb i (chk3_of_lt i hi'))))) inpos_S1x1x1_p0_0_0 := dif_pos (chk3_of_lt i hi')
      have hw4 := chk4_of_lt _ (wordAt_lt X2 hX2 i hi')
      rw [e4] at hw4
      by_cases hcond : k1_cond1 (sup s) = 1#1
      · have hs : afterTrip X1 s _ hw4 (keep s) ((Rect.unit (s := S1x304x8) (k1_off3 s.cnt) S1x1x8.size (put_inb _ hc')).overlay s.out
            (k1_pay12 lanes8 s.pos s.row)) = next X1 X2 i s := by
          unfold next put
          rw [if_pos hcond, if_pos hcond, dif_pos (put_inb _ hc')]
          exact afterTrip_eq X1 X2 i s _ e4 _ _ _
        unfold sup at hcond
        rw [dif_pos hcond]
        iapply (wp_load_at (some (k + 1)) E c h4 s.kept) $$ H4; iintro H4
        iapply (wp_store_at (some (k + 1)) E c h4 s.kept) $$ H4; iintro H4
        iapply (wp_load_at (some (k + 1)) E c h4 _) $$ H4; iintro H4
        iapply (wp_store_at (some (k + 1)) E c h4 _) $$ H4; iintro H4
        iapply (wp_load_at (some (k + 1)) E c h4 _) $$ H4; iintro H4
        iapply (wp_store_at (some (k + 1)) E c h4 _) $$ H4; iintro H4
        iapply (wp_load_at (some (k + 1)) E c h4 _) $$ H4; iintro H4
        iapply (wp_store_at (some (k + 1)) E c h4 _) $$ H4; iintro H4
        iapply (wp_load_at (some (k + 1)) E c h4 _) $$ H4; iintro H4
        iapply (wp_store_at (some (k + 1)) E c h4 _) $$ H4; iintro H4
        iapply (wp_load_at (some (k + 1)) E c h3 s.out) $$ H3; iintro H3
        iapply (wp_store_at (some (k + 1)) E c h3 s.out) $$ H3; iintro H3
        iapply (wp_load_at (some (k + 1)) E c h2 X2) $$ H2; iintro H2
        iapply (wp_assume 𝒱₀ (c : Thread nD τ) (some (k + 1)) E hw4)
        iapply (wp_load_at (some (k + 1)) E c h1 X1) $$ H1; iintro H1
        iapply (wp_call_spec 𝒱₀ (c : Thread nD τ) (some (k + 1)) E (loopSpec c h1 h2 h3 h4 X1 X2 k (Scalar.addi i 1#32) (afterTrip X1 s _ hw4 (keep s) ((Rect.unit (s := S1x304x8) (k1_off3 s.cnt) S1x1x8.size (put_inb _ hc')).overlay s.out (k1_pay12 lanes8 s.pos s.row)))) k
          (fun u hu => by cases hu; exact Nat.lt_succ_self k) (ih (Scalar.addi i 1#32) (afterTrip X1 s _ hw4 (keep s) ((Rect.unit (s := S1x304x8) (k1_off3 s.cnt) S1x1x8.size (put_inb _ hc')).overlay s.out (k1_pay12 lanes8 s.pos s.row))) (addi_toNat i k hi) (by have := congrArg (fun t => t.cnt.toNat) hs; exact this ▸ hcn)))
        rw [loopSpec_apply]; unfold bufs
        isplitl [H1 H2 H3 H4]
        · isplitl [H1]; · iexact H1
          isplitl [H2]; · iexact H2
          isplitl [H3]; · iexact H3
          iexact H4
        iintro %r ⟨H1, H2, H3, H4⟩
        rw [wp_ret]; imodintro
        iapply Hk
        rw [← hs]
        isplitl [H1]; · iexact H1
        isplitl [H2]; · iexact H2
        isplitl [H3]; · iexact H3
        iexact H4
      · have hs : afterTrip X1 s _ hw4 s.kept s.out = next X1 X2 i s := by
          unfold next
          rw [if_neg hcond, if_neg hcond]
          exact afterTrip_eq X1 X2 i s _ e4 _ _ _
        unfold sup at hcond
        rw [dif_neg hcond]
        iapply (wp_load_at (some (k + 1)) E c h2 X2) $$ H2; iintro H2
        iapply (wp_assume 𝒱₀ (c : Thread nD τ) (some (k + 1)) E hw4)
        iapply (wp_load_at (some (k + 1)) E c h1 X1) $$ H1; iintro H1
        iapply (wp_call_spec 𝒱₀ (c : Thread nD τ) (some (k + 1)) E (loopSpec c h1 h2 h3 h4 X1 X2 k (Scalar.addi i 1#32) (afterTrip X1 s _ hw4 s.kept s.out)) k
          (fun u hu => by cases hu; exact Nat.lt_succ_self k) (ih (Scalar.addi i 1#32) (afterTrip X1 s _ hw4 s.kept s.out) (addi_toNat i k hi) (by have := congrArg (fun t => t.cnt.toNat) hs; exact this ▸ hcn)))
        rw [loopSpec_apply]; unfold bufs
        isplitl [H1 H2 H3 H4]
        · isplitl [H1]; · iexact H1
          isplitl [H2]; · iexact H2
          isplitl [H3]; · iexact H3
          iexact H4
        iintro %r ⟨H1, H2, H3, H4⟩
        rw [wp_ret]; imodintro
        iapply Hk
        rw [← hs]
        isplitl [H1]; · iexact H1
        isplitl [H2]; · iexact H2
        isplitl [H3]; · iexact H3
        iexact H4
    · have hrun : run X1 X2 (k + 1) i s = s := if_neg htest
      rw [hrun]
      unfold go at htest
      simp only [htest, ↓reduceIte, Prog.pure_eq_ret]
      iintro ⟨H, Hk⟩
      rw [wp_ret]; imodintro
      iapply Hk
      iexact H

/-- The body's run: the result ends at the rows the loop writes, the table at something. -/
theorem nms_run (hX2 : ∀ y, ((X2 y : BitVec 32)).toNat < 20000) (O : S1x304x8.Idx → Elt F .f32) (K : S8x384.Idx → Elt F .f32)
    (Q : PUnit → sProp 𝕄) :
    iprop(bufs c h1 h2 h3 h4 X1 X2 O K ∗ (∀ K' : S8x384.Idx → Elt F .f32, bufs c h1 h2 h3 h4 X1 X2 (nmsRows X1 X2) K' -∗ Q ⟨⟩))
      ⊢ wp frame (wpE (defs₀ (F := F)) 𝒱₀ (c : Thread nD τ) none) Set.univ (cc1__nms_body i1 M1 h1 M2 h2 M3 h3 M4 h4) Q := by
  simp only [cc1__nms_body_eq_skeleton]; unfold cc1__nms_body_skel
  simp only [Prog.lift, Prog.bind_op, Prog.bind_ret, Prog.pure_eq_ret]
  have z3 : (![0, 0, 0] : Fin 3 → ℕ) = fun _ => 0 := funext fun a => by fin_cases a <;> rfl
  have z2 : (![0, 0] : Fin 2 → ℕ) = fun _ => 0 := funext fun a => by fin_cases a <;> rfl
  have hf : (firstWord X2).toNat < 20000 := by rw [firstWord_eq]; exact hX2 _
  have hw := chk1_of_lt _ hf
  have hi : ∀ h, (⟨0#32, firstWord X2, k1_pay4 (View.ld X1 (Rect.unit (s := S1x20000x8) (k1_off2 (firstWord X2)) S1x1x8.size (k1_off2_inb (firstWord X2) h))),
      k1_pay2, k1_pay1⟩ : St F) = init X1 X2 := by
    intro h
    unfold init rowAt
    rw [dif_pos (chk4_of_lt _ hf)]
    rfl
  unfold bufs
  iintro ⟨⟨H1, H2, H3, H4⟩, Hk⟩
  iapply (wp_load_at none Set.univ c h3 O) $$ H3; iintro H3
  iapply (wp_store_at none Set.univ c h3 O) $$ H3; iintro H3
  iapply (wp_load_at none Set.univ c h4 K) $$ H4; iintro H4
  iapply (wp_store_at none Set.univ c h4 K) $$ H4; iintro H4
  rw [overlay_whole (S := S1x304x8) z3, overlay_whole (S := S8x384) z2]
  iapply (wp_load_at none Set.univ c h2 X2) $$ H2; iintro H2
  iapply (wp_assume 𝒱₀ (c : Thread nD τ) none Set.univ hw)
  iapply (wp_load_at none Set.univ c h1 X1) $$ H1; iintro H1
  iapply (wp_call_spec 𝒱₀ (c : Thread nD τ) none Set.univ (loopSpec c h1 h2 h3 h4 X1 X2 20000 0#32
      ⟨0#32, firstWord X2, k1_pay4 (View.ld X1 (Rect.unit (s := S1x20000x8) (k1_off2 (firstWord X2)) S1x1x8.size (k1_off2_inb (firstWord X2) hw))),
        k1_pay2, k1_pay1⟩) 20000
    (fun u hu => nomatch hu) (loopSpec_le c i1 h1 h2 h3 h4 X1 X2 hX2 Set.univ (firstWord X2) hw 20000 0#32 _ rfl (by show (0#32 : BitVec 32).toNat ≤ 300; decide)))
  rw [loopSpec_apply]; unfold bufs
  isplitl [H1 H2 H3 H4]
  · isplitl [H1]; · iexact H1
    isplitl [H2]; · iexact H2
    isplitl [H3]; · iexact H3
    iexact H4
  iintro %r ⟨H1, H2, H3, H4⟩
  rw [wp_ret]; imodintro
  iapply Hk
  rw [hi hw]
  isplitl [H1]; · iexact H1
  isplitl [H2]; · iexact H2
  isplitl [H3]; · iexact H3
  iexact H4

end Label

end Cert.KernelIdeal.Nms

end
-- ==== Proof.NmsRun.lean ====
/-
  The suppression call: its body over owned staging buffers, the pipeline's proof data of the call, and the obligation at
  every grid point, given that the words of the sorted order name rows.
-/
module

public import proofs.«01_k».proof.Proof.NmsBody

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UR ℕ

/-- The body's run over owned staging memrefs, the scratch buffer held at some contents, whatever else is held. -/
theorem nms_owns (c : Dev nD) (i : grid1.Coords)
    (M1 : Memref sig .tc .vmem S1x20000x8 .f32) (h1 : M1.IsWhole) (M2 : Memref sig .tc .vmem S1x20000x1 .i32) (h2 : M2.IsWhole)
    (M3 : Memref sig .tc .vmem S1x304x8 .f32) (h3 : M3.IsWhole) (M4 : Memref sig .tc .vmem S8x384 .f32) (h4 : M4.IsWhole)
    (X1 : S1x20000x8.Idx → Elt F .f32) (X2 : S1x20000x1.Idx → Elt F .i32) (hX2 : ∀ y, ((X2 y : BitVec 32)).toNat < 20000)
    {D1 D2 D3 : Type} (Y1 : D1 → S1x20000x8.Idx → Elt F .f32) (Y2 : D2 → S1x20000x1.Idx → Elt F .i32)
    (Y3 : D3 → S1x304x8.Idx → Elt F .f32) (e1 : ∀ d, Y1 d = X1) (e2 : ∀ d, Y2 d = X2) (P O : sProp 𝕄) :
    iprop((P ∗ ∃ K, at' c h4 K) ∗ O ∗ (∃ d : D1, owns (c : Thread nD τ) M1 fullShare (Y1 d))
        ∗ (∃ d : D2, owns (c : Thread nD τ) M2 fullShare (Y2 d)) ∗ (∃ d : D3, owns (c : Thread nD τ) M3 fullShare (Y3 d)))
      ⊢ wp frame (wpE (defs₀ (F := F)) 𝒱₀ (c : Thread nD τ) none) Set.univ (cc1__nms_body i M1 h1 M2 h2 M3 h3 M4 h4) fun _ =>
        iprop((P ∗ ∃ K, at' c h4 K) ∗ O ∗ owns (c : Thread nD τ) M1 fullShare X1 ∗ owns (c : Thread nD τ) M2 fullShare X2
          ∗ owns (c : Thread nD τ) M3 fullShare (nmsRows X1 X2)) := by
  iintro ⟨⟨HP, ⟨%K, H4⟩⟩, HO, ⟨%d1, H1⟩, ⟨%d2, H2⟩, ⟨%d3, H3⟩⟩
  rw [e1 d1, e2 d2]
  ihave H1 := (owns_eq c h1 X1).1 $$ H1
  ihave H2 := (owns_eq c h2 X2).1 $$ H2
  ihave H3 := (owns_eq c h3 (Y3 d3)).1 $$ H3
  iapply (nms_run c i h1 h2 h3 h4 X1 X2 hX2 (Y3 d3) K)
  unfold bufs
  isplitl [H1 H2 H3 H4]
  · isplitl [H1]; · iexact H1
    isplitl [H2]; · iexact H2
    isplitl [H3]; · iexact H3
    iexact H4
  iintro %K' ⟨H1, H2, H3, H4⟩
  isplitl [HP H4]
  · isplitl [HP]; · iexact HP
    iexists K'; iexact H4
  isplitl [HO]; · iexact HO
  isplitl [H1]; · iapply (owns_eq c h1 X1).2; iexact H1
  isplitl [H2]; · iapply (owns_eq c h2 X2).2; iexact H2
  iapply (owns_eq c h3 (nmsRows X1 X2)).2; iexact H3

/-! ## The pipeline's proof data of the call -/

variable (V : (c : Dev nD) → (b : Ref sig .tc) → Buf (Elt F) ((c : Thread nD τ).loc b))

/-- The two input blocks at a grid point, as the pipeline fetches them: one image's rows, and its sorted order. -/
abbrev rowsBlk (c : Dev nD) (t : Fin (cfg1 (F := F)).N) : S1x20000x8.Idx → Elt F .f32 :=
  (((cfg1 (F := F)).win 0).blk t).view.read (Elt F) (V c main_v7)
abbrev ordBlk (c : Dev nD) (t : Fin (cfg1 (F := F)).N) : S1x20000x1.Idx → Elt F .i32 :=
  (((cfg1 (F := F)).win 1).blk t).view.read (Elt F) (V c main_v13)

/-- A buffer of the core, whole at some contents. -/
abbrev anyBuf (c : Dev nD) (b : Ref sig .tc) : sProp 𝕄 :=
  iprop(∃ f : Buf (Elt F) ((c : Thread nD τ).loc b), ((c : Thread nD τ).loc b) ↦{fullShare} f)

/-- What only rides through the call: the staging buffers of the other call. -/
def ride1 (c : Dev nD) : sProp 𝕄 :=
  iprop(anyBuf c cc0_stg0_0 ∗ anyBuf c cc0_stg0_1 ∗ anyBuf c cc0_stg1_0 ∗ anyBuf c cc0_stg1_1 ∗ anyBuf c cc0_stg2_0
    ∗ anyBuf c cc0_stg2_1 ∗ anyBuf c cc0_stg3_0 ∗ anyBuf c cc0_stg3_1)

/-- The invariant: what rides through, and the scratch buffer at some contents. -/
def inv1 (c : Dev nD) : sProp 𝕄 := iprop(ride1 c ∗ ∃ K, at' c (Memref.isWhole_whole cc1_scratch0) K)

/-- Holding the scratch buffer at any contents is holding it at what those contents read. -/
theorem scratch_iff (c : Dev nD) :
    (anyBuf c cc1_scratch0 : sProp 𝕄) ⊣⊢ iprop(∃ K, at' (F := F) c (Memref.isWhole_whole cc1_scratch0) K) := by
  constructor
  · iintro ⟨%f, H⟩
    iexists (Memref.whole cc1_scratch0).view.read (Elt F) f
    unfold at'
    rw [← (Memref.isWhole_whole cc1_scratch0).eq_unread (f := f) rfl]
    iexact H
  · iintro ⟨%K, H⟩
    unfold at'
    iexists _; iexact H

/-- The scoped buffers the call does not stage are what rides through and the scratch buffer. -/
theorem rest1_iff (c : Dev nD) :
    (Pipeline.scopedRest (Ix := Unit) (Name := ℕ) (U := UR) (Lvl := ℕ) (Val := Elt F) spec1 c : sProp 𝕄) ⊣⊢ inv1 c := by
  rw [scopedRest1_eq]
  unfold inv1 ride1
  constructor
  · iintro ⟨H0, H1, H2, H3, H4, H5, H6, H7, HS⟩
    ihave HS := (scratch_iff c).1 $$ HS
    isplitr [HS]
    · iframe
    iexact HS
  · iintro ⟨⟨H0, H1, H2, H3, H4, H5, H6, H7⟩, HS⟩
    ihave HS := (scratch_iff c).2 $$ HS
    iframe

/-- The proof data: the arrays at `V`; after the body the inputs as fetched and the result at the kept rows. -/
def dat1 (c : Dev nD) : Dat τ (Elt F) Unit ℕ UR ℕ (cfg1 (F := F)) c where
  A w := V c (Pipeline.arrRef spec1 w)
  after w t := match w with
    | ⟨0, _⟩ => rowsBlk V c t
    | ⟨1, _⟩ => ordBlk V c t
    | ⟨2, _⟩ => nmsRows (rowsBlk V c t) (ordBlk V c t)
  Φ _ := inv1 c
  q _ := fullShare
  owed _ := 0

theorem before1_0 (c : Dev nD) (t : Fin (cfg1 (F := F)).N) (d) : (dat1 V c).before 0 t d = rowsBlk V c t := by
  unfold Dat.before; rw [if_pos (fetch1_0 t)]; rfl
theorem before1_1 (c : Dev nD) (t : Fin (cfg1 (F := F)).N) (d) : (dat1 V c).before 1 t d = ordBlk V c t := by
  unfold Dat.before; rw [if_pos (fetch1_1 t)]; rfl

/-- The pipeline's obligation at every grid point, where the words of the order name rows. -/
theorem obligation1 (c : Dev nD) (hV : ∀ j, ((V c main_v13 j : BitVec 32)).toNat < 20000) :
    BodyObligation (dat1 V c) (defs₀ (F := F)) 𝒱₀ () Set.univ := fun t => by
  rw [bigSep_W1, bigSep_W1]
  rw [show (dat1 V c).Φ t.castSucc = inv1 c from rfl, show (dat1 V c).Φ t.succ = inv1 c from rfl,
    show (dat1 V c).owesAt () t.succ = (dat1 V c).owesAt () t.castSucc from rfl]
  exact nms_owns c (grid1.coords t) (st1_0 t) (hstage1_0 (((cfg1 (F := F)).slots t 0).cast nbuf1_0))
    (st1_1 t) (hstage1_1 (((cfg1 (F := F)).slots t 1).cast nbuf1_1)) (st1_2 t) (hstage1_2 (((cfg1 (F := F)).slots t 2).cast nbuf1_2))
    (Memref.whole cc1_scratch0) (Memref.isWhole_whole _) (rowsBlk V c t) (ordBlk V c t) (fun y => hV _)
    (fun d => (dat1 V c).before 0 t d) (fun d => (dat1 V c).before 1 t d) (fun d => (dat1 V c).before 2 t d)
    (before1_0 V c t) (before1_1 V c t) (ride1 c) ((dat1 V c).owesAt () t.castSucc)

end Cert.KernelIdeal.Nms

end
-- ==== Proof.KernelRun.lean ====
/-
  The kernel's program from launch to end, over any element type: the valuations between its items, the two calls' records,
  and one run that keeps the arguments, ends with every counter at zero and leaves the two results at the last valuation.
-/
module

public import proofs.«01_k».proof.Proof.PrepRun
public import proofs.«01_k».proof.Proof.NmsRun
public import proofs.«01_k».proof.Proof.Gen.KernelIdeal.Regions
public import Idealize.ShloMosaic.Lib.Pipeline.RegionsLoop
public import Idealize.ShloMosaic.Lib.Tactic

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UR ℕ

/-! ## The order's words name rows -/

/-- The scores the sort orders by, negated: column 6 of the prepared rows. -/
def negScores (R : S4x8x2500x8.Idx → Elt F .f32) : S4x20000.Idx → Elt F .f32 :=
  Host.negf (shapeCast S4x20000 (extractStridedSlice S4x20000x1 ![0, 0, 6] (shapeCast S4x20000x8 R shapeCasts_S4x8x2500x8_S4x20000x8)
    slices_S4x20000x8_S4x20000x1_0_0_6) shapeCasts_S4x20000x1_S4x20000)

/-- The order: the rows' numbers carried along by a stable sort of the negated scores. -/
def order (R : S4x8x2500x8.Idx → Elt F .f32) : S4x20000.Idx → Elt F .i32 :=
  (Host.sort2 S4x20000 1 comparator_f32_i32_d1 (negScores R) (iotaInDim S4x20000 32 1)).2

theorem order_lt (R : S4x8x2500x8.Idx → Elt F .f32) (j : S4x20000.Idx) : ((order R j : BitVec 32)).toNat < 20000 := by
  unfold order Host.sort2
  rw [dif_pos (show 1 < S4x20000.rank by decide)]
  show (BitVec.ofNat 32 _).toNat < 20000
  rw [BitVec.toNat_ofNat]
  refine lt_of_le_of_lt (Nat.mod_le _ _) ?_
  exact Fin.isLt _

/-- What the host puts in the order's buffer and in the rows' buffer before the suppression call. -/
theorem after1_v13 (W : Valuation τ sig (Elt F)) :
    StableHlo.after hostOps1 W main_v13
      = (broadcastInDim S4x20000x1 ![0, 1] bcast_S4x20000_S4x20000x1_0_1 (order (W main_v6)) : S4x20000x1.Idx → Elt F .i32) := by
  unfold order negScores
  after_results
  try rfl

theorem after1_v7 (W : Valuation τ sig (Elt F)) :
    StableHlo.after hostOps1 W main_v7 = (shapeCast S4x20000x8 (W main_v6) shapeCasts_S4x8x2500x8_S4x20000x8 : S4x20000x8.Idx → Elt F .f32) := by
  after_results
  try rfl

theorem after1_lt (W : Valuation τ sig (Elt F)) (j) : ((StableHlo.after hostOps1 W main_v13 j : BitVec 32)).toNat < 20000 := by
  rw [after1_v13]
  exact order_lt _ _

/-! ## The valuations between the items -/

variable (m : (ℓ : Loc nD τ sig) → Buf (Elt F) ℓ)

/-- The prepared rows, as the first call leaves them. -/
def out6 (c : Dev nD) : Buf (Elt F) ((c : Thread nD τ).loc main_v6) :=
  (dat0 (fun c b => V1 m c b) c).arrAt 3 (cfg0 (F := F)).N

/-- The contents the calls leave, before the second call is reached. -/
def outsA : Outs (F := F) := fun _ r c => if h : r = main_v6 then h ▸ out6 m c else m ((c : Thread nD τ).loc r)

/-- The kept rows, as the second call leaves them. -/
def out14 (c : Dev nD) : Buf (Elt F) ((c : Thread nD τ).loc main_v14) :=
  (dat1 (fun c b => V3 m (outsA m) c b) c).arrAt 2 (cfg1 (F := F)).N

/-- The contents the two calls leave. -/
def outs : Outs (F := F) := fun J r c => if h : r = main_v14 then h ▸ out14 m c else outsA m J r c

theorem outs_v6 (c : Dev nD) : outs m 2 main_v6 c = out6 m c := by
  unfold outs outsA
  rw [dif_neg (by decide), dif_pos rfl]

theorem outsA_v6 (c : Dev nD) : outsA m 2 main_v6 c = out6 m c := by
  unfold outsA
  rw [dif_pos rfl]

theorem outs_v14 (c : Dev nD) : outs m 4 main_v14 c = out14 m c := by
  unfold outs
  rw [dif_pos rfl]

theorem V3_outs (c : Dev nD) : V3 m (outs m) c = V3 m (outsA m) c := by
  unfold V3 V2
  rw [outs_v6, outsA_v6]

/-! ## The two calls' records -/

/-- No core owes another anything: no level is assigned. -/
abbrev L : GSem nD τ sig → Finset Unit := fun _ => ∅
abbrev lv : GSem nD τ sig → Unit → ℕ := fun _ _ => 0

section Records

-- what the unscoped buffers hold as each call is entered
variable (VA VB : (c : Dev nD) → (b : Ref sig .tc) → Buf (Elt F) ((c : Thread nD τ).loc b))

/-- Both calls' proof data. -/
def pdats : (p : Fin 2) → (c : Dev nD) → Dat τ (Elt F) Unit ℕ UR ℕ ((cfgs (F := F)) p) c
  | 0 => fun c => dat0 VA c
  | 1 => fun c => dat1 VB c

/-- What a core's thread holds beside its unscoped buffers: that it owes nothing. -/
def settled (c : Dev nD) : sProp 𝕄 := iprop(∃ W, owes (c : Thread nD τ) (0 : CellTallies nD τ sig Unit) W)

set_option backward.isDefEq.respectTransparency.types false in
/-- The preparation call's record. -/
def reg0 (Vp : (c : Dev nD) → (b : Ref sig .tc) → Buf (Elt F) ((c : Thread nD τ).loc b))
    (hout' : ∀ c, Vp c main_v6 = (dat0 VA c).arrAt 3 (cfg0 (F := F)).N) (hne : ∀ c (b : Ref sig .tc), b ≠ main_v6 → Vp c b = VA c b) :
    RegionSeg (pcfgs (F := F)) adm (pdats VA VB) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (obligation0 VA c).loose
  hwaits := Pipeline.hwaits_of_owed_zero _ _ _ _ L lv 0 fun _ _ => rfl
  pre c := iprop(unscopedBufs c (VA c) ∗ settled c)
  post c := iprop(unscopedBufs c (Vp c) ∗ settled c)
  X _ := BI.emp
  Y _ := BI.emp
  Z c := Pipeline.unscopedRest (Ix := Unit) (Name := ℕ) (U := UR) (Lvl := ℕ) spec0 c (VA c)
  hentry c := by
    rw [Pipeline.ownSems0_none]
    have hsplit := Pipeline.arrays_of_unscopedBufs (p := 0) (pcfgs (F := F)) adm (pdats VA VB) (launch0 (F := F)).win (launch0 (F := F)).arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold settled Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = rest0 c from rfl]
    iintro ⟨-, -, Hr⟩; iexact Hr
  hout c := by
    rw [Pipeline.ownSems0_none, show (pdats VA VB 0 c).Φ (Fin.last _) = rest0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR) (Lvl := ℕ) (launch0 (F := F)).win (launch0 (F := F)).arr_whole c
      (pdats VA VB) ((pdats VA VB 0 c).share_full fun _ => rfl) (VA c) (Vp c) ((pdats VA VB 0 c).arrAt · (cfg0 (F := F)).N)
      (fun w => by
        fin_cases w
        · exact ((pdats VA VB 0 c).arrAt_in 0 rfl _).trans (hne c main_v1 (by decide)).symm
        · exact ((pdats VA VB 0 c).arrAt_in 1 rfl _).trans (hne c main_v3 (by decide)).symm
        · exact ((pdats VA VB 0 c).arrAt_in 2 rfl _).trans (hne c main_v5 (by decide)).symm
        · exact (hout' c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold settled Pipeline.Dat.owesAt Pipeline.owesWithin
    icases HO with ⟨%W, -, HO⟩; iexists W; iexact HO

set_option backward.isDefEq.respectTransparency.types false in
/-- The suppression call's record. -/
def reg1 (hlt : ∀ c j, ((VB c main_v13 j : BitVec 32)).toNat < 20000)
    (Vp : (c : Dev nD) → (b : Ref sig .tc) → Buf (Elt F) ((c : Thread nD τ).loc b))
    (hout' : ∀ c, Vp c main_v14 = (dat1 VB c).arrAt 2 (cfg1 (F := F)).N) (hne : ∀ c (b : Ref sig .tc), b ≠ main_v14 → Vp c b = VB c b) :
    RegionSeg (pcfgs (F := F)) adm (pdats VA VB) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (obligation1 VB c (hlt c)).loose
  hwaits := Pipeline.hwaits_of_owed_zero _ _ _ _ L lv 1 fun _ _ => rfl
  pre c := iprop(unscopedBufs c (VB c) ∗ settled c)
  post c := iprop(unscopedBufs c (Vp c) ∗ settled c)
  X _ := BI.emp
  Y _ := BI.emp
  Z c := Pipeline.unscopedRest (Ix := Unit) (Name := ℕ) (U := UR) (Lvl := ℕ) spec1 c (VB c)
  hentry c := by
    rw [Pipeline.ownSems0_none]
    have hsplit := Pipeline.arrays_of_unscopedBufs (p := 1) (pcfgs (F := F)) adm (pdats VA VB) (launch1 (F := F)).win (launch1 (F := F)).arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold settled Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = inv1 c from rfl]
    iintro ⟨-, -, Hr⟩
    iapply (rest1_iff c).1
    iexact Hr
  hout c := by
    rw [Pipeline.ownSems0_none, show (pdats VA VB 1 c).Φ (Fin.last _) = inv1 c from rfl]
    iintro Hr
    isplitr; · iempintro
    isplitr; · iempintro
    iapply (rest1_iff c).2
    iexact Hr
  hexit c := by
    have hjoin := Pipeline.unscopedBufs_of_arrays (p := 1) (pcfgs (F := F)) adm (Ix := Unit) (Name := ℕ) (U := UR) (Lvl := ℕ) (launch1 (F := F)).win (launch1 (F := F)).arr_whole c
      (pdats VA VB) ((pdats VA VB 1 c).share_full fun _ => rfl) (VB c) (Vp c) ((pdats VA VB 1 c).arrAt · (cfg1 (F := F)).N)
      (fun w => by
        fin_cases w
        · exact ((pdats VA VB 1 c).arrAt_in 0 rfl _).trans (hne c main_v7 (by decide)).symm
        · exact ((pdats VA VB 1 c).arrAt_in 1 rfl _).trans (hne c main_v13 (by decide)).symm
        · exact (hout' c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold settled Pipeline.Dat.owesAt Pipeline.owesWithin
    icases HO with ⟨%W, -, HO⟩; iexists W; iexact HO

end Records

/-- The valuations the two calls are entered at. -/
def entry0 (c : Dev nD) (b : Ref sig .tc) : Buf (Elt F) ((c : Thread nD τ).loc b) := V1 m c b
def entry1 (c : Dev nD) (b : Ref sig .tc) : Buf (Elt F) ((c : Thread nD τ).loc b) := V3 m (outsA m) c b
/-- And left at. -/
def exit0 (c : Dev nD) (b : Ref sig .tc) : Buf (Elt F) ((c : Thread nD τ).loc b) := V2 m (outs m) c b
def exit1 (c : Dev nD) (b : Ref sig .tc) : Buf (Elt F) ((c : Thread nD τ).loc b) := V4 m (outs m) c b

theorem exit0_v6 (c : Dev nD) : exit0 m c main_v6 = (dat0 (entry0 m) c).arrAt 3 (cfg0 (F := F)).N := by
  unfold exit0 V2
  rw [Function.update_self, outs_v6]
  rfl
theorem exit0_ne (c : Dev nD) (b : Ref sig .tc) (h : b ≠ main_v6) : exit0 m c b = entry0 m c b :=
  V2_of m (outs m) c b (by simpa using h)
theorem exit1_v14 (c : Dev nD) : exit1 m c main_v14 = (dat1 (entry1 m) c).arrAt 2 (cfg1 (F := F)).N := by
  unfold exit1 V4
  rw [Function.update_self, outs_v14]
  rfl
theorem exit1_ne (c : Dev nD) (b : Ref sig .tc) (h : b ≠ main_v14) : exit1 m c b = entry1 m c b :=
  (V4_of m (outs m) c b (by simpa using h)).trans (congrFun (V3_outs m c) b)

/-- The two records at the run's valuations. -/
def rec0 := reg0 (entry0 m) (entry1 m) (exit0 m) (exit0_v6 m) (exit0_ne m)
def rec1 := reg1 (entry0 m) (entry1 m) (fun c j => after1_lt _ j) (exit1 m) (exit1_v14 m) (exit1_ne m)

/-! ## The run -/

/-- Both pipelines' staging counters and tokens at launch. -/
def u₀ : UR := initOf (Pipeline.cells (nD := nD) (τ := τ) (cfgs (F := F)) cellOf_inj) (Pipeline.launchToks (nD := nD) (τ := τ) (cfgs (F := F)) cellOf_inj)

/-- The thread states' rest. -/
def E : Fin 3 → Dev nD → sProp 𝕄 := fun _ => settled

set_option backward.isDefEq.respectTransparency.types false in
/-- Every weakly fair run of the program ends, with the arguments as launched, the results at the last valuation and every
    counter at zero. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1))
      ∧ r.2.mem ((c.tc : Thread nD τ).loc main_v15) = V8 m (outs m) c main_v15
      ∧ r.2.mem ((c.tc : Thread nD τ).loc main_v24) = V8 m (outs m) c main_v24)
      ∧ r.2.sem = fun _ => 0) := by
  refine Pipeline.θ_run_regions_kit_dev_sems (pcfgs (F := F)) adm (pdats (entry0 m) (entry1 m)) () cellOf_inj EP defs₀ 𝒱₀ L lv m ρ main
    (segs m (outs m) 𝒱₀ L lv E () (pdats (entry0 m) (entry1 m)) (rec0 m) (rec1 m))
    (fun c Q => by
      rewrite [main_chain c, Seg.run_eq_chain,
        show (segs m (outs m) 𝒱₀ L lv E () (pdats (entry0 m) (entry1 m)) (rec0 m) (rec1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (u₀ (F := F)) ?_
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, ?_, ?_, ?_, ?_, .rfl, .rfl, .rfl, sep_mono .rfl .rfl⟩)
    (hinit := ?_) (QY := fun c s =>
      (s.mem ((c.tc : Thread nD τ).loc main_arg0) = m ((c.tc : Thread nD τ).loc main_arg0) ∧ s.mem ((c.tc : Thread nD τ).loc main_arg1) = m ((c.tc : Thread nD τ).loc main_arg1))
      ∧ s.mem ((c.tc : Thread nD τ).loc main_v15) = V8 m (outs m) c main_v15
      ∧ s.mem ((c.tc : Thread nD τ).loc main_v24) = V8 m (outs m) c main_v24)
    (hfin := fun c s' => ?_) (hQ := fun _ h hz => ⟨h, funext fun g => hz g (.inr (regions_no_unscoped g.2))⟩)
  · -- the launch's ghost state is the pipelines' alone
    unfold u₀
    iintro Hu; imodintro
    isplitl [Hu]
    · iapply (show (ownU (u₀ (F := F)) : sProp 𝕄) ⊢ BI.own (EP (u₀ (F := F))) from .rfl); iexact Hu
    iapply (show (BI.emp : sProp 𝕄) ⊢ bigSep Finset.univ (fun _ : Dev nD => (BI.emp : sProp 𝕄)) from by rw [BI.bigSep_emp_const])
    iempintro
  · show (iprop(StableHlo.held (c : Thread nD τ) (Pipeline.ucRefs τ sig) (V1 m c) ∗ settled c) : sProp 𝕄) ⊢ iprop(unscopedBufs c (fun b => V1 m c b) ∗ settled c)
    rw [← Pipeline.unscopedBufs_held (Ix := Unit) (Name := ℕ) (U := UR) (Lvl := ℕ) c (V1 m c)]
  · show (iprop(unscopedBufs c (fun b => V2 m (outs m) c b) ∗ settled c) : sProp 𝕄) ⊢ iprop(StableHlo.held (c : Thread nD τ) (Pipeline.ucRefs τ sig) (V2 m (outs m) c) ∗ settled c)
    rw [← Pipeline.unscopedBufs_held (Ix := Unit) (Name := ℕ) (U := UR) (Lvl := ℕ) c (V2 m (outs m) c)]
  · show (iprop(StableHlo.held (c : Thread nD τ) (Pipeline.ucRefs τ sig) (V3 m (outs m) c) ∗ settled c) : sProp 𝕄) ⊢ iprop(unscopedBufs c (fun b => V3 m (outsA m) c b) ∗ settled c)
    rw [V3_outs, ← Pipeline.unscopedBufs_held (Ix := Unit) (Name := ℕ) (U := UR) (Lvl := ℕ) c (V3 m (outsA m) c)]
  · show (iprop(unscopedBufs c (fun b => V4 m (outs m) c b) ∗ settled c) : sProp 𝕄) ⊢ iprop(StableHlo.held (c : Thread nD τ) (Pipeline.ucRefs τ sig) (V4 m (outs m) c) ∗ settled c)
    rw [← Pipeline.unscopedBufs_held (Ix := Unit) (Name := ℕ) (U := UR) (Lvl := ℕ) c (V4 m (outs m) c)]
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    unfold E settled
    iexists ∅; iexact HO
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      have rd : ∀ r : Ref sig .tc, (Proc.devRef (τ := τ) .tc r).isScoped = false → s'.mem.mem ((c.tc : Thread nD τ).loc r) = V8 m (outs m) c r := fun r hr =>
        h (Proc.devRef .tc r) (Finset.mem_filter.mpr ⟨StableHlo.devRef_mem_tcRefs r, by simp [hr]⟩)
      exact ⟨⟨(rd main_arg0 rfl).trans (V8_main_arg0 m (outs m) c), (rd main_arg1 rfl).trans (V8_main_arg1 m (outs m) c)⟩,
        rd main_v15 rfl, rd main_v24 rfl⟩
    · iexact HSI

end Cert.KernelIdeal.Nms

end
-- ==== Proof.RefOps.lean ====
/-
  The reference program as stretches of host operations: those before its loop, and those of the loop's body, each list
  in the program's order, with the statement that the program is these stretches one after the other.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 8 operations of @main, in order. -/
abbrev hostOps0 : List (HloOp τ sig (Elt F)) :=
  [ StableHlo.unary main_arg0 main_v0 ((extractStridedSlice S4x20000x1 ![0, 0, 4] · slices_S4x20000x85_S4x20000x1_0_0_4) : (⟨S4x20000x85, .f32⟩ : BufTy).Contents (Elt F) → (⟨S4x20000x1, .f32⟩ : BufTy).Contents (Elt F)),
    StableHlo.reshape main_v0 main_v1 (rfl : (.f32 : EltTy) = .f32) shapeCasts_S4x20000x1_S4x20000,
    StableHlo.unary main_arg0 main_v2 ((extractStridedSlice S4x20000x80 ![0, 0, 5] · slices_S4x20000x85_S4x20000x80_0_0_5) : (⟨S4x20000x85, .f32⟩ : BufTy).Contents (Elt F) → (⟨S4x20000x80, .f32⟩ : BufTy).Contents (Elt F)),
    StableHlo.unary main_v1 main_v3 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v3 main_v4 (broadcastInDim S4x20000x80 ![0, 1, 2] bcast_S4x20000x1_S4x20000x80_0_1_2 : (⟨S4x20000x1, .f32⟩ : BufTy).Contents (Elt F) → (⟨S4x20000x80, .f32⟩ : BufTy).Contents (Elt F)),
    StableHlo.binary main_v2 main_v4 main_v5 (mulf : (⟨S4x20000x80, .f32⟩ : BufTy).Contents (Elt F) → (⟨S4x20000x80, .f32⟩ : BufTy).Contents (Elt F) → (⟨S4x20000x80, .f32⟩ : BufTy).Contents (Elt F)),
    StableHlo.nullary main_cst (constant S_ .f32 0xFF800000#32),
    StableHlo.binary main_v5 main_cst main_v6 ((fun x v => Host.reduce FloatOps.maximumf x v reducesTo_S4x20000x80_S4x20000_d2 h_S_) : (⟨S4x20000x80, .f32⟩ : BufTy).Contents (Elt F) → (⟨S_, .f32⟩ : BufTy).Contents (Elt F) → (⟨S4x20000, .f32⟩ : BufTy).Contents (Elt F)) ]
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.binary_bufs_sub ..⟩
/-- 5 operations of @argmax (main_call0), in order. -/
abbrev hostOps0_1 : List (HloOp τ sig (Elt F)) :=
  [ StableHlo.TRef.nullary (.of main_call0_v0 : StableHlo.TRef sig ⟨S4x20000x80, .i32⟩) (iotaInDim S4x20000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v5 : StableHlo.TRef sig ⟨S4x20000x80, .f32⟩) (.of main_call0_v0 : StableHlo.TRef sig ⟨S4x20000x80, .i32⟩) (.of main_call0_cst : StableHlo.TRef sig ⟨S_, .f32⟩) (.of main_call0_c : StableHlo.TRef sig ⟨S_, .i32⟩) (.of main_call0_v1_0 : StableHlo.TRef sig ⟨S4x20000, .f32⟩) (fun x y u v j => (Host.argReduce reducer_argmax_f32_i32 x y u v reducesTo_S4x20000x80_S4x20000_d2 h_S_ j).1),
    StableHlo.TRef.quaternary (.of main_v5 : StableHlo.TRef sig ⟨S4x20000x80, .f32⟩) (.of main_call0_v0 : StableHlo.TRef sig ⟨S4x20000x80, .i32⟩) (.of main_call0_cst : StableHlo.TRef sig ⟨S_, .f32⟩) (.of main_call0_c : StableHlo.TRef sig ⟨S_, .i32⟩) (.of main_v7 : StableHlo.TRef sig ⟨S4x20000, .i32⟩) (fun x y u v j => (Host.argReduce reducer_argmax_f32_i32 x y u v reducesTo_S4x20000x80_S4x20000_d2 h_S_ j).2) ]
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 26 operations of @main, in order. -/
abbrev hostOps0_2 : List (HloOp τ sig (Elt F)) :=
  [ StableHlo.unary main_arg0 main_v8 ((extractStridedSlice S4x20000x2 ![0, 0, 0] · slices_S4x20000x85_S4x20000x2_0_0_0) : (⟨S4x20000x85, .f32⟩ : BufTy).Contents (Elt F) → (⟨S4x20000x2, .f32⟩ : BufTy).Contents (Elt F)),
    StableHlo.unary main_arg0 main_v9 ((extractStridedSlice S4x20000x2 ![0, 0, 2] · slices_S4x20000x85_S4x20000x2_0_0_2) : (⟨S4x20000x85, .f32⟩ : BufTy).Contents (Elt F) → (⟨S4x20000x2, .f32⟩ : BufTy).Contents (Elt F)),
    StableHlo.nullary main_cst_0 (constant S_ .f32 0x40000000#32),
    StableHlo.unary main_cst_0 main_v10 (broadcastInDim S4x20000x2 ![] bcast_S_S4x20000x2 : (⟨S_, .f32⟩ : BufTy).Contents (Elt F) → (⟨S4x20000x2, .f32⟩ : BufTy).Contents (Elt F)),
    StableHlo.binary main_v9 main_v10 main_v11 (Host.divf : (⟨S4x20000x2, .f32⟩ : BufTy).Contents (Elt F) → (⟨S4x20000x2, .f32⟩ : BufTy).Contents (Elt F) → (⟨S4x20000x2, .f32⟩ : BufTy).Contents (Elt F)),
    StableHlo.binary main_v8 main_v11 main_v12 (subf : (⟨S4x20000x2, .f32⟩ : BufTy).Contents (Elt F) → (⟨S4x20000x2, .f32⟩ : BufTy).Contents (Elt F) → (⟨S4x20000x2, .f32⟩ : BufTy).Contents (Elt F)),
    StableHlo.nullary main_cst_1 (constant S_ .f32 0x40000000#32),
    StableHlo.unary main_cst_1 main_v13 (broadcastInDim S4x20000x2 ![] bcast_S_S4x20000x2 : (⟨S_, .f32⟩ : BufTy).Contents (Elt F) → (⟨S4x20000x2, .f32⟩ : BufTy).Contents (Elt F)),
    StableHlo.binary main_v9 main_v13 main_v14 (Host.divf : (⟨S4x20000x2, .f32⟩ : BufTy).Contents (Elt F) → (⟨S4x20000x2, .f32⟩ : BufTy).Contents (Elt F) → (⟨S4x20000x2, .f32⟩ : BufTy).Contents (Elt F)),
    StableHlo.binary main_v8 main_v14 main_v15 (addf : (⟨S4x20000x2, .f32⟩ : BufTy).Contents (Elt F) → (⟨S4x20000x2, .f32⟩ : BufTy).Contents (Elt F) → (⟨S4x20000x2, .f32⟩ : BufTy).Contents (Elt F)),
    StableHlo.binary main_v12 main_v15 main_v16 ((fun a b => concatenate S4x20000x4 2 [⟨S4x20000x2, a⟩, ⟨S4x20000x2, b⟩] concatenates_S4x20000x2_S4x20000x2_S4x20000x4_d2) : (⟨S4x20000x2, .f32⟩ : BufTy).Contents (Elt F) → (⟨S4x20000x2, .f32⟩ : BufTy).Contents (Elt F) → (⟨S4x20000x4, .f32⟩ : BufTy).Contents (Elt F)),
    StableHlo.nullary main_cst_2 (constant S_ .f32 0x3E800000#32),
    StableHlo.unary main_cst_2 main_v17 (broadcastInDim S4x20000 ![] bcast_S_S4x20000 : (⟨S_, .f32⟩ : BufTy).Contents (Elt F) → (⟨S4x20000, .f32⟩ : BufTy).Contents (Elt F)),
    StableHlo.binary main_v1 main_v17 main_v18 (cmpf .ogt : (⟨S4x20000, .f32⟩ : BufTy).Contents (Elt F) → (⟨S4x20000, .f32⟩ : BufTy).Contents (Elt F) → (⟨S4x20000, .i1⟩ : BufTy).Contents (Elt F)),
    StableHlo.nullary main_cst_3 (constant S_ .f32 0x3E800000#32),
    StableHlo.unary main_cst_3 main_v19 (broadcastInDim S4x20000 ![] bcast_S_S4x20000 : (⟨S_, .f32⟩ : BufTy).Contents (Elt F) → (⟨S4x20000, .f32⟩ : BufTy).Contents (Elt F)),
    StableHlo.binary main_v6 main_v19 main_v20 (cmpf .ogt : (⟨S4x20000, .f32⟩ : BufTy).Contents (Elt F) → (⟨S4x20000, .f32⟩ : BufTy).Contents (Elt F) → (⟨S4x20000, .i1⟩ : BufTy).Contents (Elt F)),
    StableHlo.binary main_v18 main_v20 main_v21 (andi : (⟨S4x20000, .i1⟩ : BufTy).Contents (Elt F) → (⟨S4x20000, .i1⟩ : BufTy).Contents (Elt F) → (⟨S4x20000, .i1⟩ : BufTy).Contents (Elt F)),
    StableHlo.unary main_v7 main_v22 (sitofp .f32 : (⟨S4x20000, .i32⟩ : BufTy).Contents (Elt F) → (⟨S4x20000, .f32⟩ : BufTy).Contents (Elt F)),
    StableHlo.nullary main_cst_4 (constant S_ .f32 0x45800000#32),
    StableHlo.unary main_cst_4 main_v23 (broadcastInDim S4x20000 ![] bcast_S_S4x20000 : (⟨S_, .f32⟩ : BufTy).Contents (Elt F) → (⟨S4x20000, .f32⟩ : BufTy).Contents (Elt F)),
    StableHlo.binary main_v22 main_v23 main_v24 (mulf : (⟨S4x20000, .f32⟩ : BufTy).Contents (Elt F) → (⟨S4x20000, .f32⟩ : BufTy).Contents (Elt F) → (⟨S4x20000, .f32⟩ : BufTy).Contents (Elt F)),
    StableHlo.unary main_v24 main_v25 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v25 main_v26 (broadcastInDim S4x20000x4 ![0, 1, 2] bcast_S4x20000x1_S4x20000x4_0_1_2 : (⟨S4x20000x1, .f32⟩ : BufTy).Contents (Elt F) → (⟨S4x20000x4, .f32⟩ : BufTy).Contents (Elt F)),
    StableHlo.binary main_v16 main_v26 main_v27 (addf : (⟨S4x20000x4, .f32⟩ : BufTy).Contents (Elt F) → (⟨S4x20000x4, .f32⟩ : BufTy).Contents (Elt F) → (⟨S4x20000x4, .f32⟩ : BufTy).Contents (Elt F)),
    StableHlo.nullary main_cst_5 (constant S_ .f32 0xBF800000#32) ]
theorem hostOps0_2_sub : (hostOps0_2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
/-- 3 operations of @_where (main_call1), in order. -/
abbrev hostOps0_3 : List (HloOp τ sig (Elt F)) :=
  [ StableHlo.TRef.unary (.of main_cst_5 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x20000, .f32⟩) (broadcastInDim S4x20000 ![] bcast_S_S4x20000),
    StableHlo.TRef.ternary (.of main_v21 : StableHlo.TRef sig ⟨S4x20000, .i1⟩) (.of main_v6 : StableHlo.TRef sig ⟨S4x20000, .f32⟩) (.of main_call1_v1 : StableHlo.TRef sig ⟨S4x20000, .f32⟩) (.of main_v28 : StableHlo.TRef sig ⟨S4x20000, .f32⟩) select ]
theorem hostOps0_3_sub : (hostOps0_3 : List (HloOp τ sig (Elt F))).Forall fun op => op.bufs ⊆ StableHlo.tcRefs τ sig :=
  ⟨StableHlo.unary_bufs_sub .., StableHlo.unary_bufs_sub .., StableHlo.ternary_bufs_sub ..⟩
/-- 19 operations of @main, in order. -/
abbrev hostOps0_4 : List (HloOp τ sig (Elt F)) :=
  [ StableHlo.nullary main_v29 (iotaInDim S4x20000 32 1),
    StableHlo.unary main_v7 main_v30 (sitofp .f32 : (⟨S4x20000, .i32⟩ : BufTy).Contents (Elt F) → (⟨S4x20000, .f32⟩ : BufTy).Contents (Elt F)),
    StableHlo.nullary main_cst_6 (constant S_ .f32 0x00000000#32),
    StableHlo.unary main_cst_6 main_v31 (broadcastInDim S4x300x6 ![] bcast_S_S4x300x6 : (⟨S_, .f32⟩ : BufTy).Contents (Elt F) → (⟨S4x300x6, .f32⟩ : BufTy).Contents (Elt F)),
    StableHlo.nullary main_cst_7 (constant S_ .f32 0x00000000#32),
    StableHlo.unary main_cst_7 main_v32 (broadcastInDim S4x300x80 ![] bcast_S_S4x300x80 : (⟨S_, .f32⟩ : BufTy).Contents (Elt F) → (⟨S4x300x80, .f32⟩ : BufTy).Contents (Elt F)),
    StableHlo.nullary main_c (constantI S_ 32 0#32),
    StableHlo.nullary main_c_8 (constantI S_ 32 0#32),
    StableHlo.unary main_v16 main_v33_0 id,
    StableHlo.unary main_v6 main_v33_1 id,
    StableHlo.unary main_v30 main_v33_2 id,
    StableHlo.unary main_arg1 main_v33_3 id,
    StableHlo.unary main_v27 main_v33_4 id,
    StableHlo.unary main_v29 main_v33_5 id,
    StableHlo.unary main_c_8 main_v33_6 id,
    StableHlo.unary main_c main_v33_7 id,
    StableHlo.unary main_v28 main_v33_8 id,
    StableHlo.unary main_v31 main_v33_9 id,
    StableHlo.unary main_v32 main_v33_10 id ]
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main` is its stretches of operations, one after the other. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons]
  chain_rfl

/-- 2 operations of host loop 0's body region, in order. -/
abbrev while0Ops0 : List (HloOp τ sig (Elt F)) :=
  [ StableHlo.nullary main_while0b_c_19 (constantI S_ 32 1#32),
    StableHlo.binary main_v33_7 main_while0b_c_19 main_while0b_v34 (addi : (⟨S_, .i32⟩ : BufTy).Contents (Elt F) → (⟨S_, .i32⟩ : BufTy).Contents (Elt F) → (⟨S_, .i32⟩ : BufTy).Contents (Elt F)) ]
theorem while0Ops0_sub : (while0Ops0 : List (HloOp τ sig (Elt F))).Forall fun op => op.bufs ⊆ StableHlo.tcRefs τ sig :=
  ⟨StableHlo.nullary_bufs_sub .., StableHlo.binary_bufs_sub ..⟩
/-- 5 operations of @argmax_0 (main_while0b_call2), in order. -/
abbrev while0Ops0_1 : List (HloOp τ sig (Elt F)) :=
  [ StableHlo.TRef.nullary (.of main_while0b_call2_v0 : StableHlo.TRef sig ⟨S4x20000, .i32⟩) (iotaInDim S4x20000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v33_8 : StableHlo.TRef sig ⟨S4x20000, .f32⟩) (.of main_while0b_call2_v0 : StableHlo.TRef sig ⟨S4x20000, .i32⟩) (.of main_while0b_call2_cst : StableHlo.TRef sig ⟨S_, .f32⟩) (.of main_while0b_call2_c : StableHlo.TRef sig ⟨S_, .i32⟩) (.of main_while0b_call2_v1_0 : StableHlo.TRef sig ⟨S4, .f32⟩) (fun x y u v j => (Host.argReduce reducer_argmax_f32_i32 x y u v reducesTo_S4x20000_S4_d1 h_S_ j).1),
    StableHlo.TRef.quaternary (.of main_v33_8 : StableHlo.TRef sig ⟨S4x20000, .f32⟩) (.of main_while0b_call2_v0 : StableHlo.TRef sig ⟨S4x20000, .i32⟩) (.of main_while0b_call2_cst : StableHlo.TRef sig ⟨S_, .f32⟩) (.of main_while0b_call2_c : StableHlo.TRef sig ⟨S_, .i32⟩) (.of main_while0b_v35 : StableHlo.TRef sig ⟨S4, .i32⟩) (fun x y u v j => (Host.argReduce reducer_argmax_f32_i32 x y u v reducesTo_S4x20000_S4_d1 h_S_ j).2) ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 6 operations of host loop 0's body region, in order. -/
abbrev while0Ops0_2 : List (HloOp τ sig (Elt F)) :=
  [ StableHlo.nullary main_while0b_cst_20 (constant S_ .f32 0xFF800000#32),
    StableHlo.binary main_v33_8 main_while0b_cst_20 main_while0b_v36 ((fun x v => Host.reduce FloatOps.maximumf x v reducesTo_S4x20000_S4_d1 h_S_) : (⟨S4x20000, .f32⟩ : BufTy).Contents (Elt F) → (⟨S_, .f32⟩ : BufTy).Contents (Elt F) → (⟨S4, .f32⟩ : BufTy).Contents (Elt F)),
    StableHlo.nullary main_while0b_cst_21 (constant S_ .f32 0x00000000#32),
    StableHlo.unary main_while0b_cst_21 main_while0b_v37 (broadcastInDim S4 ![] bcast_S_S4 : (⟨S_, .f32⟩ : BufTy).Contents (Elt F) → (⟨S4, .f32⟩ : BufTy).Contents (Elt F)),
    StableHlo.binary main_while0b_v36 main_while0b_v37 main_while0b_v38 (cmpf .ogt : (⟨S4, .f32⟩ : BufTy).Contents (Elt F) → (⟨S4, .f32⟩ : BufTy).Contents (Elt F) → (⟨S4, .i1⟩ : BufTy).Contents (Elt F)),
    StableHlo.unary main_while0b_v35 main_while0b_v39 (broadcastInDim S4x1x1 ![0] bcast_S4_S4x1x1_0 : (⟨S4, .i32⟩ : BufTy).Contents (Elt F) → (⟨S4x1x1, .i32⟩ : BufTy).Contents (Elt F)) ]
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub ..⟩
/-- 8 operations of @take_along_axis (main_while0b_call3), in order. -/
abbrev while0Ops0_3 : List (HloOp τ sig (Elt F)) :=
  [ StableHlo.TRef.nullary (.of main_while0b_call3_c : StableHlo.TRef sig ⟨S_, .i32⟩) (constantI S_ 32 0#32),
    StableHlo.TRef.unary (.of main_while0b_call3_c : StableHlo.TRef sig ⟨S_, .i32⟩) (.of main_while0b_call3_v0 : StableHlo.TRef sig ⟨S4x1x1, .i32⟩) (broadcastInDim S4x1x1 ![] bcast_S_S4x1x1),
    StableHlo.TRef.binary (.of main_while0b_v39 : StableHlo.TRef sig ⟨S4x1x1, .i32⟩) (.of main_while0b_call3_v0 : StableHlo.TRef sig ⟨S4x1x1, .i32⟩) (.of main_while0b_call3_v1 : StableHlo.TRef sig ⟨S4x1x1, .i1⟩) (cmpi .slt),
    StableHlo.TRef.nullary (.of main_while0b_call3_c_0 : StableHlo.TRef sig ⟨S_, .i32⟩) (constantI S_ 32 20000#32),
    StableHlo.TRef.unary (.of main_while0b_call3_c_0 : StableHlo.TRef sig ⟨S_, .i32⟩) (.of main_while0b_call3_v2 : StableHlo.TRef sig ⟨S4x1x1, .i32⟩) (broadcastInDim S4x1x1 ![] bcast_S_S4x1x1),
    StableHlo.TRef.binary (.of main_while0b_v39 : StableHlo.TRef sig ⟨S4x1x1, .i32⟩) (.of main_while0b_call3_v2 : StableHlo.TRef sig ⟨S4x1x1, .i32⟩) (.of main_while0b_call3_v3 : StableHlo.TRef sig ⟨S4x1x1, .i32⟩) addi,
    StableHlo.TRef.ternary (.of main_while0b_call3_v1 : StableHlo.TRef sig ⟨S4x1x1, .i1⟩) (.of main_while0b_call3_v3 : StableHlo.TRef sig ⟨S4x1x1, .i32⟩) (.of main_while0b_v39 : StableHlo.TRef sig ⟨S4x1x1, .i32⟩) (.of main_while0b_call3_v4 : StableHlo.TRef sig ⟨S4x1x1, .i32⟩) select,
    StableHlo.TRef.binary (.of main_v33_0 : StableHlo.TRef sig ⟨S4x20000x4, .f32⟩) (.of main_while0b_call3_v4 : StableHlo.TRef sig ⟨S4x1x1, .i32⟩) (.of main_while0b_v40 : StableHlo.TRef sig ⟨S4x1x4, .f32⟩) (fun x i => Host.gather gather_S4x20000x4_S4x1x1_S4x1x4_2_1_0_0_1_2_114 x i) ]
theorem while0Ops0_3_sub : (while0Ops0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 3 operations of host loop 0's body region, in order. -/
abbrev while0Ops0_4 : List (HloOp τ sig (Elt F)) :=
  [ StableHlo.reshape main_while0b_v40 main_while0b_v41 (rfl : (.f32 : EltTy) = .f32) shapeCasts_S4x1x4_S4x4,
    StableHlo.unary main_v33_1 main_while0b_v42 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_while0b_v35 main_while0b_v43 (broadcastInDim S4x1x1 ![0] bcast_S4_S4x1x1_0 : (⟨S4, .i32⟩ : BufTy).Contents (Elt F) → (⟨S4x1x1, .i32⟩ : BufTy).Contents (Elt F)) ]
theorem while0Ops0_4_sub : (while0Ops0_4 : List (HloOp τ sig (Elt F))).Forall fun op => op.bufs ⊆ StableHlo.tcRefs τ sig :=
  ⟨StableHlo.reshape_bufs_sub .., StableHlo.unary_bufs_sub .., StableHlo.unary_bufs_sub ..⟩
/-- 8 operations of @take_along_axis_1 (main_while0b_call4), in order. -/
abbrev while0Ops0_5 : List (HloOp τ sig (Elt F)) :=
  [ StableHlo.TRef.nullary (.of main_while0b_call4_c : StableHlo.TRef sig ⟨S_, .i32⟩) (constantI S_ 32 0#32),
    StableHlo.TRef.unary (.of main_while0b_call4_c : StableHlo.TRef sig ⟨S_, .i32⟩) (.of main_while0b_call4_v0 : StableHlo.TRef sig ⟨S4x1x1, .i32⟩) (broadcastInDim S4x1x1 ![] bcast_S_S4x1x1),
    StableHlo.TRef.binary (.of main_while0b_v43 : StableHlo.TRef sig ⟨S4x1x1, .i32⟩) (.of main_while0b_call4_v0 : StableHlo.TRef sig ⟨S4x1x1, .i32⟩) (.of main_while0b_call4_v1 : StableHlo.TRef sig ⟨S4x1x1, .i1⟩) (cmpi .slt),
    StableHlo.TRef.nullary (.of main_while0b_call4_c_0 : StableHlo.TRef sig ⟨S_, .i32⟩) (constantI S_ 32 20000#32),
    StableHlo.TRef.unary (.of main_while0b_call4_c_0 : StableHlo.TRef sig ⟨S_, .i32⟩) (.of main_while0b_call4_v2 : StableHlo.TRef sig ⟨S4x1x1, .i32⟩) (broadcastInDim S4x1x1 ![] bcast_S_S4x1x1),
    StableHlo.TRef.binary (.of main_while0b_v43 : StableHlo.TRef sig ⟨S4x1x1, .i32⟩) (.of main_while0b_call4_v2 : StableHlo.TRef sig ⟨S4x1x1, .i32⟩) (.of main_while0b_call4_v3 : StableHlo.TRef sig ⟨S4x1x1, .i32⟩) addi,
    StableHlo.TRef.ternary (.of main_while0b_call4_v1 : StableHlo.TRef sig ⟨S4x1x1, .i1⟩) (.of main_while0b_call4_v3 : StableHlo.TRef sig ⟨S4x1x1, .i32⟩) (.of main_while0b_v43 : StableHlo.TRef sig ⟨S4x1x1, .i32⟩) (.of main_while0b_call4_v4 : StableHlo.TRef sig ⟨S4x1x1, .i32⟩) select,
    StableHlo.TRef.binary (.of main_while0b_v42 : StableHlo.TRef sig ⟨S4x20000x1, .f32⟩) (.of main_while0b_call4_v4 : StableHlo.TRef sig ⟨S4x1x1, .i32⟩) (.of main_while0b_v44 : StableHlo.TRef sig ⟨S4x1x1, .f32⟩) (fun x i => Host.gather gather_S4x20000x1_S4x1x1_S4x1x1_2_1_0_0_1_2_111 x i) ]
theorem while0Ops0_5_sub : (while0Ops0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 3 operations of host loop 0's body region, in order. -/
abbrev while0Ops0_6 : List (HloOp τ sig (Elt F)) :=
  [ StableHlo.reshape main_while0b_v44 main_while0b_v45 (rfl : (.f32 : EltTy) = .f32) shapeCasts_S4x1x1_S4x1,
    StableHlo.unary main_v33_2 main_while0b_v46 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_while0b_v35 main_while0b_v47 (broadcastInDim S4x1x1 ![0] bcast_S4_S4x1x1_0 : (⟨S4, .i32⟩ : BufTy).Contents (Elt F) → (⟨S4x1x1, .i32⟩ : BufTy).Contents (Elt F)) ]
theorem while0Ops0_6_sub : (while0Ops0_6 : List (HloOp τ sig (Elt F))).Forall fun op => op.bufs ⊆ StableHlo.tcRefs τ sig :=
  ⟨StableHlo.reshape_bufs_sub .., StableHlo.unary_bufs_sub .., StableHlo.unary_bufs_sub ..⟩
/-- 8 operations of @take_along_axis_1 (main_while0b_call5), in order. -/
abbrev while0Ops0_7 : List (HloOp τ sig (Elt F)) :=
  [ StableHlo.TRef.nullary (.of main_while0b_call5_c : StableHlo.TRef sig ⟨S_, .i32⟩) (constantI S_ 32 0#32),
    StableHlo.TRef.unary (.of main_while0b_call5_c : StableHlo.TRef sig ⟨S_, .i32⟩) (.of main_while0b_call5_v0 : StableHlo.TRef sig ⟨S4x1x1, .i32⟩) (broadcastInDim S4x1x1 ![] bcast_S_S4x1x1),
    StableHlo.TRef.binary (.of main_while0b_v47 : StableHlo.TRef sig ⟨S4x1x1, .i32⟩) (.of main_while0b_call5_v0 : StableHlo.TRef sig ⟨S4x1x1, .i32⟩) (.of main_while0b_call5_v1 : StableHlo.TRef sig ⟨S4x1x1, .i1⟩) (cmpi .slt),
    StableHlo.TRef.nullary (.of main_while0b_call5_c_0 : StableHlo.TRef sig ⟨S_, .i32⟩) (constantI S_ 32 20000#32),
    StableHlo.TRef.unary (.of main_while0b_call5_c_0 : StableHlo.TRef sig ⟨S_, .i32⟩) (.of main_while0b_call5_v2 : StableHlo.TRef sig ⟨S4x1x1, .i32⟩) (broadcastInDim S4x1x1 ![] bcast_S_S4x1x1),
    StableHlo.TRef.binary (.of main_while0b_v47 : StableHlo.TRef sig ⟨S4x1x1, .i32⟩) (.of main_while0b_call5_v2 : StableHlo.TRef sig ⟨S4x1x1, .i32⟩) (.of main_while0b_call5_v3 : StableHlo.TRef sig ⟨S4x1x1, .i32⟩) addi,
    StableHlo.TRef.ternary (.of main_while0b_call5_v1 : StableHlo.TRef sig ⟨S4x1x1, .i1⟩) (.of main_while0b_call5_v3 : StableHlo.TRef sig ⟨S4x1x1, .i32⟩) (.of main_while0b_v47 : StableHlo.TRef sig ⟨S4x1x1, .i32⟩) (.of main_while0b_call5_v4 : StableHlo.TRef sig ⟨S4x1x1, .i32⟩) select,
    StableHlo.TRef.binary (.of main_while0b_v46 : StableHlo.TRef sig ⟨S4x20000x1, .f32⟩) (.of main_while0b_call5_v4 : StableHlo.TRef sig ⟨S4x1x1, .i32⟩) (.of main_while0b_v48 : StableHlo.TRef sig ⟨S4x1x1, .f32⟩) (fun x i => Host.gather gather_S4x20000x1_S4x1x1_S4x1x1_2_1_0_0_1_2_111 x i) ]
theorem while0Ops0_7_sub : (while0Ops0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 4 operations of host loop 0's body region, in order. -/
abbrev while0Ops0_8 : List (HloOp τ sig (Elt F)) :=
  [ StableHlo.reshape main_while0b_v48 main_while0b_v49 (rfl : (.f32 : EltTy) = .f32) shapeCasts_S4x1x1_S4x1,
    StableHlo.nary ![main_while0b_v41, main_while0b_v45, main_while0b_v49] main_while0b_v50 (fun u => (concatenate S4x6 1 [⟨S4x4, (u 0 : (⟨S4x4, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x4_S4x1_S4x1_S4x6_d1 : (⟨S4x6, .f32⟩ : BufTy).Contents (Elt F))),
    StableHlo.unary main_while0b_v38 main_while0b_v51 (broadcastInDim S4x1 ![0] bcast_S4_S4x1_0 : (⟨S4, .i1⟩ : BufTy).Contents (Elt F) → (⟨S4x1, .i1⟩ : BufTy).Contents (Elt F)),
    StableHlo.nullary main_while0b_cst_22 (constant S_ .f32 0x00000000#32) ]
theorem while0Ops0_8_sub : (while0Ops0_8 : List (HloOp τ sig (Elt F))).Forall fun op => op.bufs ⊆ StableHlo.tcRefs τ sig :=
  ⟨StableHlo.reshape_bufs_sub .., StableHlo.nary_bufs_sub .., StableHlo.unary_bufs_sub .., StableHlo.nullary_bufs_sub ..⟩
/-- 4 operations of @_where_2 (main_while0b_call6), in order. -/
abbrev while0Ops0_9 : List (HloOp τ sig (Elt F)) :=
  [ StableHlo.TRef.unary (.of main_while0b_cst_22 : StableHlo.TRef sig ⟨S_, .f32⟩) (.of main_while0b_call6_v0 : StableHlo.TRef sig ⟨S_, .f32⟩) id,
    StableHlo.TRef.unary (.of main_while0b_v51 : StableHlo.TRef sig ⟨S4x1, .i1⟩) (.of main_while0b_call6_v1 : StableHlo.TRef sig ⟨S4x6, .i1⟩) (broadcastInDim S4x6 ![0, 1] bcast_S4x1_S4x6_0_1),
    StableHlo.TRef.unary (.of main_while0b_call6_v0 : StableHlo.TRef sig ⟨S_, .f32⟩) (.of main_while0b_call6_v2 : StableHlo.TRef sig ⟨S4x6, .f32⟩) (broadcastInDim S4x6 ![] bcast_S_S4x6),
    StableHlo.TRef.ternary (.of main_while0b_call6_v1 : StableHlo.TRef sig ⟨S4x6, .i1⟩) (.of main_while0b_v50 : StableHlo.TRef sig ⟨S4x6, .f32⟩) (.of main_while0b_call6_v2 : StableHlo.TRef sig ⟨S4x6, .f32⟩) (.of main_while0b_v52 : StableHlo.TRef sig ⟨S4x6, .f32⟩) select ]
theorem while0Ops0_9_sub : (while0Ops0_9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 10 operations of host loop 0's body region, in order. -/
abbrev while0Ops0_10 : List (HloOp τ sig (Elt F)) :=
  [ StableHlo.nullary main_while0b_c_23 (constantI S_ 32 0#32),
    StableHlo.binary main_v33_7 main_while0b_c_23 main_while0b_v53 (cmpi .slt : (⟨S_, .i32⟩ : BufTy).Contents (Elt F) → (⟨S_, .i32⟩ : BufTy).Contents (Elt F) → (⟨S_, .i1⟩ : BufTy).Contents (Elt F)),
    StableHlo.nullary main_while0b_c_24 (constantI S_ 32 300#32),
    StableHlo.binary main_v33_7 main_while0b_c_24 main_while0b_v54 (addi : (⟨S_, .i32⟩ : BufTy).Contents (Elt F) → (⟨S_, .i32⟩ : BufTy).Contents (Elt F) → (⟨S_, .i32⟩ : BufTy).Contents (Elt F)),
    StableHlo.ternary main_while0b_v53 main_while0b_v54 main_v33_7 main_while0b_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v55 main_while0b_v56 (id : (⟨S_, .i32⟩ : BufTy).Contents (Elt F) → (⟨S_, .i32⟩ : BufTy).Contents (Elt F)),
    StableHlo.unary main_while0b_v56 main_while0b_v57 (broadcastInDim S1 ![] bcast_S_S1 : (⟨S_, .i32⟩ : BufTy).Contents (Elt F) → (⟨S1, .i32⟩ : BufTy).Contents (Elt F)),
    StableHlo.ternary main_v33_9 main_while0b_v57 main_while0b_v52 main_while0b_v58 ((fun x i u => Host.scatter scatter_S4x300x6_S1_S4x6_01_1_1_0 (fun _ b => b) x i u) : (⟨S4x300x6, .f32⟩ : BufTy).Contents (Elt F) → (⟨S1, .i32⟩ : BufTy).Contents (Elt F) → (⟨S4x6, .f32⟩ : BufTy).Contents (Elt F) → (⟨S4x300x6, .f32⟩ : BufTy).Contents (Elt F)),
    StableHlo.unary main_while0b_v38 main_while0b_v59 (broadcastInDim S4x1 ![0] bcast_S4_S4x1_0 : (⟨S4, .i1⟩ : BufTy).Contents (Elt F) → (⟨S4x1, .i1⟩ : BufTy).Contents (Elt F)),
    StableHlo.unary main_while0b_v35 main_while0b_v60 (broadcastInDim S4x1x1 ![0] bcast_S4_S4x1x1_0 : (⟨S4, .i32⟩ : BufTy).Contents (Elt F) → (⟨S4x1x1, .i32⟩ : BufTy).Contents (Elt F)) ]
theorem while0Ops0_10_sub : (while0Ops0_10 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub .., StableHlo.unary_bufs_sub ..⟩
/-- 8 operations of @take_along_axis_3 (main_while0b_call7), in order. -/
abbrev while0Ops0_11 : List (HloOp τ sig (Elt F)) :=
  [ StableHlo.TRef.nullary (.of main_while0b_call7_c : StableHlo.TRef sig ⟨S_, .i32⟩) (constantI S_ 32 0#32),
    StableHlo.TRef.unary (.of main_while0b_call7_c : StableHlo.TRef sig ⟨S_, .i32⟩) (.of main_while0b_call7_v0 : StableHlo.TRef sig ⟨S4x1x1, .i32⟩) (broadcastInDim S4x1x1 ![] bcast_S_S4x1x1),
    StableHlo.TRef.binary (.of main_while0b_v60 : StableHlo.TRef sig ⟨S4x1x1, .i32⟩) (.of main_while0b_call7_v0 : StableHlo.TRef sig ⟨S4x1x1, .i32⟩) (.of main_while0b_call7_v1 : StableHlo.TRef sig ⟨S4x1x1, .i1⟩) (cmpi .slt),
    StableHlo.TRef.nullary (.of main_while0b_call7_c_0 : StableHlo.TRef sig ⟨S_, .i32⟩) (constantI S_ 32 20000#32),
    StableHlo.TRef.unary (.of main_while0b_call7_c_0 : StableHlo.TRef sig ⟨S_, .i32⟩) (.of main_while0b_call7_v2 : StableHlo.TRef sig ⟨S4x1x1, .i32⟩) (broadcastInDim S4x1x1 ![] bcast_S_S4x1x1),
    StableHlo.TRef.binary (.of main_while0b_v60 : StableHlo.TRef sig ⟨S4x1x1, .i32⟩) (.of main_while0b_call7_v2 : StableHlo.TRef sig ⟨S4x1x1, .i32⟩) (.of main_while0b_call7_v3 : StableHlo.TRef sig ⟨S4x1x1, .i32⟩) addi,
    StableHlo.TRef.ternary (.of main_while0b_call7_v1 : StableHlo.TRef sig ⟨S4x1x1, .i1⟩) (.of main_while0b_call7_v3 : StableHlo.TRef sig ⟨S4x1x1, .i32⟩) (.of main_while0b_v60 : StableHlo.TRef sig ⟨S4x1x1, .i32⟩) (.of main_while0b_call7_v4 : StableHlo.TRef sig ⟨S4x1x1, .i32⟩) select,
    StableHlo.TRef.binary (.of main_v33_3 : StableHlo.TRef sig ⟨S4x20000x80, .f32⟩) (.of main_while0b_call7_v4 : StableHlo.TRef sig ⟨S4x1x1, .i32⟩) (.of main_while0b_v61 : StableHlo.TRef sig ⟨S4x1x80, .f32⟩) (fun x i => Host.gather gather_S4x20000x80_S4x1x1_S4x1x80_2_1_0_0_1_2_1180 x i) ]
theorem while0Ops0_11_sub : (while0Ops0_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 2 operations of host loop 0's body region, in order. -/
abbrev while0Ops0_12 : List (HloOp τ sig (Elt F)) :=
  [ StableHlo.reshape main_while0b_v61 main_while0b_v62 (rfl : (.f32 : EltTy) = .f32) shapeCasts_S4x1x80_S4x80,
    StableHlo.nullary main_while0b_cst_25 (constant S_ .f32 0x00000000#32) ]
theorem while0Ops0_12_sub : (while0Ops0_12 : List (HloOp τ sig (Elt F))).Forall fun op => op.bufs ⊆ StableHlo.tcRefs τ sig :=
  ⟨StableHlo.reshape_bufs_sub .., StableHlo.nullary_bufs_sub ..⟩
/-- 4 operations of @_where_4 (main_while0b_call8), in order. -/
abbrev while0Ops0_13 : List (HloOp τ sig (Elt F)) :=
  [ StableHlo.TRef.unary (.of main_while0b_cst_25 : StableHlo.TRef sig ⟨S_, .f32⟩) (.of main_while0b_call8_v0 : StableHlo.TRef sig ⟨S_, .f32⟩) id,
    StableHlo.TRef.unary (.of main_while0b_v59 : StableHlo.TRef sig ⟨S4x1, .i1⟩) (.of main_while0b_call8_v1 : StableHlo.TRef sig ⟨S4x80, .i1⟩) (broadcastInDim S4x80 ![0, 1] bcast_S4x1_S4x80_0_1),
    StableHlo.TRef.unary (.of main_while0b_call8_v0 : StableHlo.TRef sig ⟨S_, .f32⟩) (.of main_while0b_call8_v2 : StableHlo.TRef sig ⟨S4x80, .f32⟩) (broadcastInDim S4x80 ![] bcast_S_S4x80),
    StableHlo.TRef.ternary (.of main_while0b_call8_v1 : StableHlo.TRef sig ⟨S4x80, .i1⟩) (.of main_while0b_v62 : StableHlo.TRef sig ⟨S4x80, .f32⟩) (.of main_while0b_call8_v2 : StableHlo.TRef sig ⟨S4x80, .f32⟩) (.of main_while0b_v63 : StableHlo.TRef sig ⟨S4x80, .f32⟩) select ]
theorem while0Ops0_13_sub : (while0Ops0_13 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 operations of host loop 0's body region, in order. -/
abbrev while0Ops0_14 : List (HloOp τ sig (Elt F)) :=
  [ StableHlo.nullary main_while0b_c_26 (constantI S_ 32 0#32),
    StableHlo.binary main_v33_7 main_while0b_c_26 main_while0b_v64 (cmpi .slt : (⟨S_, .i32⟩ : BufTy).Contents (Elt F) → (⟨S_, .i32⟩ : BufTy).Contents (Elt F) → (⟨S_, .i1⟩ : BufTy).Contents (Elt F)),
    StableHlo.nullary main_while0b_c_27 (constantI S_ 32 300#32),
    StableHlo.binary main_v33_7 main_while0b_c_27 main_while0b_v65 (addi : (⟨S_, .i32⟩ : BufTy).Contents (Elt F) → (⟨S_, .i32⟩ : BufTy).Contents (Elt F) → (⟨S_, .i32⟩ : BufTy).Contents (Elt F)),
    StableHlo.ternary main_while0b_v64 main_while0b_v65 main_v33_7 main_while0b_v66 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v66 main_while0b_v67 (id : (⟨S_, .i32⟩ : BufTy).Contents (Elt F) → (⟨S_, .i32⟩ : BufTy).Contents (Elt F)),
    StableHlo.unary main_while0b_v67 main_while0b_v68 (broadcastInDim S1 ![] bcast_S_S1 : (⟨S_, .i32⟩ : BufTy).Contents (Elt F) → (⟨S1, .i32⟩ : BufTy).Contents (Elt F)),
    StableHlo.ternary main_v33_10 main_while0b_v68 main_while0b_v63 main_while0b_v69 ((fun x i u => Host.scatter scatter_S4x300x80_S1_S4x80_01_1_1_0 (fun _ b => b) x i u) : (⟨S4x300x80, .f32⟩ : BufTy).Contents (Elt F) → (⟨S1, .i32⟩ : BufTy).Contents (Elt F) → (⟨S4x80, .f32⟩ : BufTy).Contents (Elt F) → (⟨S4x300x80, .f32⟩ : BufTy).Contents (Elt F)),
    StableHlo.unary main_while0b_v35 main_while0b_v70 (broadcastInDim S4x1x1 ![0] bcast_S4_S4x1x1_0 : (⟨S4, .i32⟩ : BufTy).Contents (Elt F) → (⟨S4x1x1, .i32⟩ : BufTy).Contents (Elt F)) ]
theorem while0Ops0_14_sub : (while0Ops0_14 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩
/-- 8 operations of @take_along_axis (main_while0b_call9), in order. -/
abbrev while0Ops0_15 : List (HloOp τ sig (Elt F)) :=
  [ StableHlo.TRef.nullary (.of main_while0b_call9_c : StableHlo.TRef sig ⟨S_, .i32⟩) (constantI S_ 32 0#32),
    StableHlo.TRef.unary (.of main_while0b_call9_c : StableHlo.TRef sig ⟨S_, .i32⟩) (.of main_while0b_call9_v0 : StableHlo.TRef sig ⟨S4x1x1, .i32⟩) (broadcastInDim S4x1x1 ![] bcast_S_S4x1x1),
    StableHlo.TRef.binary (.of main_while0b_v70 : StableHlo.TRef sig ⟨S4x1x1, .i32⟩) (.of main_while0b_call9_v0 : StableHlo.TRef sig ⟨S4x1x1, .i32⟩) (.of main_while0b_call9_v1 : StableHlo.TRef sig ⟨S4x1x1, .i1⟩) (cmpi .slt),
    StableHlo.TRef.nullary (.of main_while0b_call9_c_0 : StableHlo.TRef sig ⟨S_, .i32⟩) (constantI S_ 32 20000#32),
    StableHlo.TRef.unary (.of main_while0b_call9_c_0 : StableHlo.TRef sig ⟨S_, .i32⟩) (.of main_while0b_call9_v2 : StableHlo.TRef sig ⟨S4x1x1, .i32⟩) (broadcastInDim S4x1x1 ![] bcast_S_S4x1x1),
    StableHlo.TRef.binary (.of main_while0b_v70 : StableHlo.TRef sig ⟨S4x1x1, .i32⟩) (.of main_while0b_call9_v2 : StableHlo.TRef sig ⟨S4x1x1, .i32⟩) (.of main_while0b_call9_v3 : StableHlo.TRef sig ⟨S4x1x1, .i32⟩) addi,
    StableHlo.TRef.ternary (.of main_while0b_call9_v1 : StableHlo.TRef sig ⟨S4x1x1, .i1⟩) (.of main_while0b_call9_v3 : StableHlo.TRef sig ⟨S4x1x1, .i32⟩) (.of main_while0b_v70 : StableHlo.TRef sig ⟨S4x1x1, .i32⟩) (.of main_while0b_call9_v4 : StableHlo.TRef sig ⟨S4x1x1, .i32⟩) select,
    StableHlo.TRef.binary (.of main_v33_4 : StableHlo.TRef sig ⟨S4x20000x4, .f32⟩) (.of main_while0b_call9_v4 : StableHlo.TRef sig ⟨S4x1x1, .i32⟩) (.of main_while0b_v71 : StableHlo.TRef sig ⟨S4x1x4, .f32⟩) (fun x i => Host.gather gather_S4x20000x4_S4x1x1_S4x1x4_2_1_0_0_1_2_114 x i) ]
theorem while0Ops0_15_sub : (while0Ops0_15 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 55 operations of host loop 0's body region, in order. -/
abbrev while0Ops0_16 : List (HloOp τ sig (Elt F)) :=
  ( StableHlo.reshape main_while0b_v71 main_while0b_v72 (rfl : (.f32 : EltTy) = .f32) shapeCasts_S4x1x4_S4x4
  :: StableHlo.unary main_while0b_v72 main_while0b_v73 (broadcastInDim S4x1x4 ![0, 2] bcast_S4x4_S4x1x4_0_2 : (⟨S4x4, .f32⟩ : BufTy).Contents (Elt F) → (⟨S4x1x4, .f32⟩ : BufTy).Contents (Elt F))
  :: StableHlo.unary main_while0b_v73 main_while0b_v74 ((extractStridedSlice S4x1x1 ![0, 0, 2] · slices_S4x1x4_S4x1x1_0_0_2) : (⟨S4x1x4, .f32⟩ : BufTy).Contents (Elt F) → (⟨S4x1x1, .f32⟩ : BufTy).Contents (Elt F))
  :: StableHlo.reshape main_while0b_v74 main_while0b_v75 (rfl : (.f32 : EltTy) = .f32) shapeCasts_S4x1x1_S4x1
  :: StableHlo.unary main_while0b_v73 main_while0b_v76 ((extractStridedSlice S4x1x1 ![0, 0, 0] · slices_S4x1x4_S4x1x1_0_0_0) : (⟨S4x1x4, .f32⟩ : BufTy).Contents (Elt F) → (⟨S4x1x1, .f32⟩ : BufTy).Contents (Elt F))
  :: StableHlo.reshape main_while0b_v76 main_while0b_v77 (rfl : (.f32 : EltTy) = .f32) shapeCasts_S4x1x1_S4x1
  :: StableHlo.binary main_while0b_v75 main_while0b_v77 main_while0b_v78 (subf : (⟨S4x1, .f32⟩ : BufTy).Contents (Elt F) → (⟨S4x1, .f32⟩ : BufTy).Contents (Elt F) → (⟨S4x1, .f32⟩ : BufTy).Contents (Elt F))
  :: StableHlo.unary main_while0b_v73 main_while0b_v79 ((extractStridedSlice S4x1x1 ![0, 0, 3] · slices_S4x1x4_S4x1x1_0_0_3) : (⟨S4x1x4, .f32⟩ : BufTy).Contents (Elt F) → (⟨S4x1x1, .f32⟩ : BufTy).Contents (Elt F))
  :: StableHlo.reshape main_while0b_v79 main_while0b_v80 (rfl : (.f32 : EltTy) = .f32) shapeCasts_S4x1x1_S4x1
  :: StableHlo.unary main_while0b_v73 main_while0b_v81 ((extractStridedSlice S4x1x1 ![0, 0, 1] · slices_S4x1x4_S4x1x1_0_0_1) : (⟨S4x1x4, .f32⟩ : BufTy).Contents (Elt F) → (⟨S4x1x1, .f32⟩ : BufTy).Contents (Elt F))
  :: StableHlo.reshape main_while0b_v81 main_while0b_v82 (rfl : (.f32 : EltTy) = .f32) shapeCasts_S4x1x1_S4x1
  :: StableHlo.binary main_while0b_v80 main_while0b_v82 main_while0b_v83 (subf : (⟨S4x1, .f32⟩ : BufTy).Contents (Elt F) → (⟨S4x1, .f32⟩ : BufTy).Contents (Elt F) → (⟨S4x1, .f32⟩ : BufTy).Contents (Elt F))
  :: StableHlo.binary main_while0b_v78 main_while0b_v83 main_while0b_v84 (mulf : (⟨S4x1, .f32⟩ : BufTy).Contents (Elt F) → (⟨S4x1, .f32⟩ : BufTy).Contents (Elt F) → (⟨S4x1, .f32⟩ : BufTy).Contents (Elt F))
  :: StableHlo.unary main_v33_4 main_while0b_v85 ((extractStridedSlice S4x20000x1 ![0, 0, 2] · slices_S4x20000x4_S4x20000x1_0_0_2) : (⟨S4x20000x4, .f32⟩ : BufTy).Contents (Elt F) → (⟨S4x20000x1, .f32⟩ : BufTy).Contents (Elt F))
  :: StableHlo.reshape main_while0b_v85 main_while0b_v86 (rfl : (.f32 : EltTy) = .f32) shapeCasts_S4x20000x1_S4x20000
  :: StableHlo.unary main_v33_4 main_while0b_v87 ((extractStridedSlice S4x20000x1 ![0, 0, 0] · slices_S4x20000x4_S4x20000x1_0_0_0) : (⟨S4x20000x4, .f32⟩ : BufTy).Contents (Elt F) → (⟨S4x20000x1, .f32⟩ : BufTy).Contents (Elt F))
  :: StableHlo.reshape main_while0b_v87 main_while0b_v88 (rfl : (.f32 : EltTy) = .f32) shapeCasts_S4x20000x1_S4x20000
  :: StableHlo.binary main_while0b_v86 main_while0b_v88 main_while0b_v89 (subf : (⟨S4x20000, .f32⟩ : BufTy).Contents (Elt F) → (⟨S4x20000, .f32⟩ : BufTy).Contents (Elt F) → (⟨S4x20000, .f32⟩ : BufTy).Contents (Elt F))
  :: StableHlo.unary main_v33_4 main_while0b_v90 ((extractStridedSlice S4x20000x1 ![0, 0, 3] · slices_S4x20000x4_S4x20000x1_0_0_3) : (⟨S4x20000x4, .f32⟩ : BufTy).Contents (Elt F) → (⟨S4x20000x1, .f32⟩ : BufTy).Contents (Elt F))
  :: StableHlo.reshape main_while0b_v90 main_while0b_v91 (rfl : (.f32 : EltTy) = .f32) shapeCasts_S4x20000x1_S4x20000
  :: StableHlo.unary main_v33_4 main_while0b_v92 ((extractStridedSlice S4x20000x1 ![0, 0, 1] · slices_S4x20000x4_S4x20000x1_0_0_1) : (⟨S4x20000x4, .f32⟩ : BufTy).Contents (Elt F) → (⟨S4x20000x1, .f32⟩ : BufTy).Contents (Elt F))
  :: StableHlo.reshape main_while0b_v92 main_while0b_v93 (rfl : (.f32 : EltTy) = .f32) shapeCasts_S4x20000x1_S4x20000
  :: StableHlo.binary main_while0b_v91 main_while0b_v93 main_while0b_v94 (subf : (⟨S4x20000, .f32⟩ : BufTy).Contents (Elt F) → (⟨S4x20000, .f32⟩ : BufTy).Contents (Elt F) → (⟨S4x20000, .f32⟩ : BufTy).Contents (Elt F))
  :: StableHlo.binary main_while0b_v89 main_while0b_v94 main_while0b_v95 (mulf : (⟨S4x20000, .f32⟩ : BufTy).Contents (Elt F) → (⟨S4x20000, .f32⟩ : BufTy).Contents (Elt F) → (⟨S4x20000, .f32⟩ : BufTy).Contents (Elt F))
  :: StableHlo.unary main_while0b_v73 main_while0b_v96 ((extractStridedSlice S4x1x2 ![0, 0, 0] · slices_S4x1x4_S4x1x2_0_0_0) : (⟨S4x1x4, .f32⟩ : BufTy).Contents (Elt F) → (⟨S4x1x2, .f32⟩ : BufTy).Contents (Elt F))
  :: StableHlo.unary main_v33_4 main_while0b_v97 ((extractStridedSlice S4x20000x2 ![0, 0, 0] · slices_S4x20000x4_S4x20000x2_0_0_0) : (⟨S4x20000x4, .f32⟩ : BufTy).Contents (Elt F) → (⟨S4x20000x2, .f32⟩ : BufTy).Contents (Elt F))
  :: StableHlo.unary main_while0b_v96 main_while0b_v98 (broadcastInDim S4x20000x2 ![0, 1, 2] bcast_S4x1x2_S4x20000x2_0_1_2 : (⟨S4x1x2, .f32⟩ : BufTy).Contents (Elt F) → (⟨S4x20000x2, .f32⟩ : BufTy).Contents (Elt F))
  :: StableHlo.binary main_while0b_v98 main_while0b_v97 main_while0b_v99 (maximumf : (⟨S4x20000x2, .f32⟩ : BufTy).Contents (Elt F) → (⟨S4x20000x2, .f32⟩ : BufTy).Contents (Elt F) → (⟨S4x20000x2, .f32⟩ : BufTy).Contents (Elt F))
  :: StableHlo.unary main_while0b_v73 main_while0b_v100 ((extractStridedSlice S4x1x2 ![0, 0, 2] · slices_S4x1x4_S4x1x2_0_0_2) : (⟨S4x1x4, .f32⟩ : BufTy).Contents (Elt F) → (⟨S4x1x2, .f32⟩ : BufTy).Contents (Elt F))
  :: StableHlo.unary main_v33_4 main_while0b_v101 ((extractStridedSlice S4x20000x2 ![0, 0, 2] · slices_S4x20000x4_S4x20000x2_0_0_2) : (⟨S4x20000x4, .f32⟩ : BufTy).Contents (Elt F) → (⟨S4x20000x2, .f32⟩ : BufTy).Contents (Elt F))
  :: StableHlo.unary main_while0b_v100 main_while0b_v102 (broadcastInDim S4x20000x2 ![0, 1, 2] bcast_S4x1x2_S4x20000x2_0_1_2 : (⟨S4x1x2, .f32⟩ : BufTy).Contents (Elt F) → (⟨S4x20000x2, .f32⟩ : BufTy).Contents (Elt F))
  :: StableHlo.binary main_while0b_v102 main_while0b_v101 main_while0b_v103 (minimumf : (⟨S4x20000x2, .f32⟩ : BufTy).Contents (Elt F) → (⟨S4x20000x2, .f32⟩ : BufTy).Contents (Elt F) → (⟨S4x20000x2, .f32⟩ : BufTy).Contents (Elt F))
  :: StableHlo.binary main_while0b_v103 main_while0b_v99 main_while0b_v104 (subf : (⟨S4x20000x2, .f32⟩ : BufTy).Contents (Elt F) → (⟨S4x20000x2, .f32⟩ : BufTy).Contents (Elt F) → (⟨S4x20000x2, .f32⟩ : BufTy).Contents (Elt F))
  :: StableHlo.nullary main_while0b_cst_28 (constant S_ .f32 0x00000000#32)
  :: StableHlo.unary main_while0b_cst_28 main_while0b_v105 (broadcastInDim S4x20000x2 ![] bcast_S_S4x20000x2 : (⟨S_, .f32⟩ : BufTy).Contents (Elt F) → (⟨S4x20000x2, .f32⟩ : BufTy).Contents (Elt F))
  :: StableHlo.binary main_while0b_v104 main_while0b_v105 main_while0b_v106 (maximumf : (⟨S4x20000x2, .f32⟩ : BufTy).Contents (Elt F) → (⟨S4x20000x2, .f32⟩ : BufTy).Contents (Elt F) → (⟨S4x20000x2, .f32⟩ : BufTy).Contents (Elt F))
  :: StableHlo.unary main_while0b_v106 main_while0b_v107 ((extractStridedSlice S4x20000x1 ![0, 0, 0] · slices_S4x20000x2_S4x20000x1_0_0_0) : (⟨S4x20000x2, .f32⟩ : BufTy).Contents (Elt F) → (⟨S4x20000x1, .f32⟩ : BufTy).Contents (Elt F))
  :: StableHlo.reshape main_while0b_v107 main_while0b_v108 (rfl : (.f32 : EltTy) = .f32) shapeCasts_S4x20000x1_S4x20000
  :: StableHlo.unary main_while0b_v106 main_while0b_v109 ((extractStridedSlice S4x20000x1 ![0, 0, 1] · slices_S4x20000x2_S4x20000x1_0_0_1) : (⟨S4x20000x2, .f32⟩ : BufTy).Contents (Elt F) → (⟨S4x20000x1, .f32⟩ : BufTy).Contents (Elt F))
  :: StableHlo.reshape main_while0b_v109 main_while0b_v110 (rfl : (.f32 : EltTy) = .f32) shapeCasts_S4x20000x1_S4x20000
  :: StableHlo.binary main_while0b_v108 main_while0b_v110 main_while0b_v111 (mulf : (⟨S4x20000, .f32⟩ : BufTy).Contents (Elt F) → (⟨S4x20000, .f32⟩ : BufTy).Contents (Elt F) → (⟨S4x20000, .f32⟩ : BufTy).Contents (Elt F))
  :: StableHlo.unary main_while0b_v84 main_while0b_v112 (broadcastInDim S4x20000 ![0, 1] bcast_S4x1_S4x20000_0_1 : (⟨S4x1, .f32⟩ : BufTy).Contents (Elt F) → (⟨S4x20000, .f32⟩ : BufTy).Contents (Elt F))
  :: StableHlo.binary main_while0b_v112 main_while0b_v95 main_while0b_v113 (addf : (⟨S4x20000, .f32⟩ : BufTy).Contents (Elt F) → (⟨S4x20000, .f32⟩ : BufTy).Contents (Elt F) → (⟨S4x20000, .f32⟩ : BufTy).Contents (Elt F))
  :: StableHlo.binary main_while0b_v113 main_while0b_v111 main_while0b_v114 (subf : (⟨S4x20000, .f32⟩ : BufTy).Contents (Elt F) → (⟨S4x20000, .f32⟩ : BufTy).Contents (Elt F) → (⟨S4x20000, .f32⟩ : BufTy).Contents (Elt F))
  :: StableHlo.nullary main_while0b_cst_29 (constant S_ .f32 0x3089705F#32)
  :: StableHlo.unary main_while0b_cst_29 main_while0b_v115 (broadcastInDim S4x20000 ![] bcast_S_S4x20000 : (⟨S_, .f32⟩ : BufTy).Contents (Elt F) → (⟨S4x20000, .f32⟩ : BufTy).Contents (Elt F))
  :: StableHlo.binary main_while0b_v114 main_while0b_v115 main_while0b_v116 (addf : (⟨S4x20000, .f32⟩ : BufTy).Contents (Elt F) → (⟨S4x20000, .f32⟩ : BufTy).Contents (Elt F) → (⟨S4x20000, .f32⟩ : BufTy).Contents (Elt F))
  :: StableHlo.binary main_while0b_v111 main_while0b_v116 main_while0b_v117 (Host.divf : (⟨S4x20000, .f32⟩ : BufTy).Contents (Elt F) → (⟨S4x20000, .f32⟩ : BufTy).Contents (Elt F) → (⟨S4x20000, .f32⟩ : BufTy).Contents (Elt F))
  :: StableHlo.unary main_while0b_v38 main_while0b_v118 (broadcastInDim S4x1 ![0] bcast_S4_S4x1_0 : (⟨S4, .i1⟩ : BufTy).Contents (Elt F) → (⟨S4x1, .i1⟩ : BufTy).Contents (Elt F))
  :: StableHlo.nullary main_while0b_cst_30 (constant S_ .f32 0x3EE66666#32)
  :: StableHlo.unary main_while0b_cst_30 main_while0b_v119 (broadcastInDim S4x20000 ![] bcast_S_S4x20000 : (⟨S_, .f32⟩ : BufTy).Contents (Elt F) → (⟨S4x20000, .f32⟩ : BufTy).Contents (Elt F))
  :: StableHlo.binary main_while0b_v117 main_while0b_v119 main_while0b_v120 (cmpf .ogt : (⟨S4x20000, .f32⟩ : BufTy).Contents (Elt F) → (⟨S4x20000, .f32⟩ : BufTy).Contents (Elt F) → (⟨S4x20000, .i1⟩ : BufTy).Contents (Elt F))
  :: StableHlo.unary main_while0b_v118 main_while0b_v121 (broadcastInDim S4x20000 ![0, 1] bcast_S4x1_S4x20000_0_1 : (⟨S4x1, .i1⟩ : BufTy).Contents (Elt F) → (⟨S4x20000, .i1⟩ : BufTy).Contents (Elt F))
  :: StableHlo.binary main_while0b_v121 main_while0b_v120 main_while0b_v122 (andi : (⟨S4x20000, .i1⟩ : BufTy).Contents (Elt F) → (⟨S4x20000, .i1⟩ : BufTy).Contents (Elt F) → (⟨S4x20000, .i1⟩ : BufTy).Contents (Elt F))
  :: StableHlo.nullary main_while0b_cst_31 (constant S_ .f32 0xBF800000#32)
  :: [] )
theorem while0Ops0_16_sub : (while0Ops0_16 : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- 3 operations of @_where_5 (main_while0b_call10), in order. -/
abbrev while0Ops0_17 : List (HloOp τ sig (Elt F)) :=
  [ StableHlo.TRef.unary (.of main_while0b_cst_31 : StableHlo.TRef sig ⟨S_, .f32⟩) (.of main_while0b_call10_v0 : StableHlo.TRef sig ⟨S_, .f32⟩) id,
    StableHlo.TRef.unary (.of main_while0b_call10_v0 : StableHlo.TRef sig ⟨S_, .f32⟩) (.of main_while0b_call10_v1 : StableHlo.TRef sig ⟨S4x20000, .f32⟩) (broadcastInDim S4x20000 ![] bcast_S_S4x20000),
    StableHlo.TRef.ternary (.of main_while0b_v122 : StableHlo.TRef sig ⟨S4x20000, .i1⟩) (.of main_while0b_call10_v1 : StableHlo.TRef sig ⟨S4x20000, .f32⟩) (.of main_v33_8 : StableHlo.TRef sig ⟨S4x20000, .f32⟩) (.of main_while0b_v123 : StableHlo.TRef sig ⟨S4x20000, .f32⟩) select ]
theorem while0Ops0_17_sub : (while0Ops0_17 : List (HloOp τ sig (Elt F))).Forall fun op => op.bufs ⊆ StableHlo.tcRefs τ sig :=
  ⟨StableHlo.unary_bufs_sub .., StableHlo.unary_bufs_sub .., StableHlo.ternary_bufs_sub ..⟩
/-- 4 operations of host loop 0's body region, in order. -/
abbrev while0Ops0_18 : List (HloOp τ sig (Elt F)) :=
  [ StableHlo.unary main_while0b_v35 main_while0b_v124 (broadcastInDim S4x1 ![0] bcast_S4_S4x1_0 : (⟨S4, .i32⟩ : BufTy).Contents (Elt F) → (⟨S4x1, .i32⟩ : BufTy).Contents (Elt F)),
    StableHlo.unary main_while0b_v124 main_while0b_v125 (broadcastInDim S4x20000 ![0, 1] bcast_S4x1_S4x20000_0_1 : (⟨S4x1, .i32⟩ : BufTy).Contents (Elt F) → (⟨S4x20000, .i32⟩ : BufTy).Contents (Elt F)),
    StableHlo.binary main_v33_5 main_while0b_v125 main_while0b_v126 (cmpi .eq : (⟨S4x20000, .i32⟩ : BufTy).Contents (Elt F) → (⟨S4x20000, .i32⟩ : BufTy).Contents (Elt F) → (⟨S4x20000, .i1⟩ : BufTy).Contents (Elt F)),
    StableHlo.nullary main_while0b_cst_32 (constant S_ .f32 0xBF800000#32) ]
theorem while0Ops0_18_sub : (while0Ops0_18 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub ..⟩
/-- 3 operations of @_where_5 (main_while0b_call11), in order. -/
abbrev while0Ops0_19 : List (HloOp τ sig (Elt F)) :=
  [ StableHlo.TRef.unary (.of main_while0b_cst_32 : StableHlo.TRef sig ⟨S_, .f32⟩) (.of main_while0b_call11_v0 : StableHlo.TRef sig ⟨S_, .f32⟩) id,
    StableHlo.TRef.unary (.of main_while0b_call11_v0 : StableHlo.TRef sig ⟨S_, .f32⟩) (.of main_while0b_call11_v1 : StableHlo.TRef sig ⟨S4x20000, .f32⟩) (broadcastInDim S4x20000 ![] bcast_S_S4x20000),
    StableHlo.TRef.ternary (.of main_while0b_v126 : StableHlo.TRef sig ⟨S4x20000, .i1⟩) (.of main_while0b_call11_v1 : StableHlo.TRef sig ⟨S4x20000, .f32⟩) (.of main_while0b_v123 : StableHlo.TRef sig ⟨S4x20000, .f32⟩) (.of main_while0b_v127 : StableHlo.TRef sig ⟨S4x20000, .f32⟩) select ]
theorem while0Ops0_19_sub : (while0Ops0_19 : List (HloOp τ sig (Elt F))).Forall fun op => op.bufs ⊆ StableHlo.tcRefs τ sig :=
  ⟨StableHlo.unary_bufs_sub .., StableHlo.unary_bufs_sub .., StableHlo.ternary_bufs_sub ..⟩
/-- 7 operations of host loop 0's body region, in order. -/
abbrev while0Ops0_20 : List (HloOp τ sig (Elt F)) :=
  [ StableHlo.nullary main_while0b_c_33 (constantI S_ 32 1#32),
    StableHlo.binary main_v33_6 main_while0b_c_33 main_while0b_v128 (addi : (⟨S_, .i32⟩ : BufTy).Contents (Elt F) → (⟨S_, .i32⟩ : BufTy).Contents (Elt F) → (⟨S_, .i32⟩ : BufTy).Contents (Elt F)),
    StableHlo.unary main_while0b_v128 main_v33_6 id,
    StableHlo.unary main_while0b_v34 main_v33_7 id,
    StableHlo.unary main_while0b_v127 main_v33_8 id,
    StableHlo.unary main_while0b_v58 main_v33_9 id,
    StableHlo.unary main_while0b_v69 main_v33_10 id ]
theorem while0Ops0_20_sub : (while0Ops0_20 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- `main_while0_body` is its stretches of operations, one after the other. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14,
    StableHlo.seq while0Ops0_15,
    StableHlo.seq while0Ops0_16,
    StableHlo.seq while0Ops0_17,
    StableHlo.seq while0Ops0_18,
    StableHlo.seq while0Ops0_19,
    StableHlo.seq while0Ops0_20 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.RefRun

end
-- ==== Proof.RefFold.lean ====
/-
  The reference program's run: every execution ends with every buffer at the fold of its operations — the stretches before
  the loop, 300 times the condition and the body, and the condition once more.
-/
module

public import proofs.«01_k».proof.Proof.RefOps

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

theorem hostOps0_fresh : (hostOps0 : List (HloOp τ sig (Elt F))).Forall fun op => op.fresh = ∅ :=
  StableHlo.forall_fresh_of_map rfl
abbrev hostOps0_W : List (Ref sig .tc) := [main_v0, main_v1, main_v2, main_v3, main_v4, main_v5, main_cst, main_v6]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_call0_v0, main_call0_cst, main_call0_c, main_call0_v1_0, main_v7]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_v8, main_v9, main_cst_0, main_v10, main_v11, main_v12, main_cst_1, main_v13, main_v14, main_v15, main_v16, main_cst_2, main_v17, main_v18, main_cst_3, main_v19, main_v20, main_v21, main_v22, main_cst_4, main_v23, main_v24, main_v25, main_v26, main_v27, main_cst_5]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
abbrev hostOps0_3_W : List (Ref sig .tc) := [main_call1_v0, main_call1_v1, main_v28]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
abbrev hostOps0_4_W : List (Ref sig .tc) := [main_v29, main_v30, main_cst_6, main_v31, main_cst_7, main_v32, main_c, main_c_8, main_v33_0, main_v33_1, main_v33_2, main_v33_3, main_v33_4, main_v33_5, main_v33_6, main_v33_7, main_v33_8, main_v33_9, main_v33_10]
theorem hostOps0_4_writes : (hostOps0_4 : List (HloOp τ sig (Elt F))).Forall fun op => op.writes ⊆ (hostOps0_4_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_c_19, main_while0b_v34]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call2_v0, main_while0b_call2_cst, main_while0b_call2_c, main_while0b_call2_v1_0, main_while0b_v35]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_cst_20, main_while0b_v36, main_while0b_cst_21, main_while0b_v37, main_while0b_v38, main_while0b_v39]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call3_c, main_while0b_call3_v0, main_while0b_call3_v1, main_while0b_call3_c_0, main_while0b_call3_v2, main_while0b_call3_v3, main_while0b_call3_v4, main_while0b_v40]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_v41, main_while0b_v42, main_while0b_v43]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_call4_c, main_while0b_call4_v0, main_while0b_call4_v1, main_while0b_call4_c_0, main_while0b_call4_v2, main_while0b_call4_v3, main_while0b_call4_v4, main_while0b_v44]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_6_fresh : (while0Ops0_6 : List (HloOp τ sig (Elt F))).Forall fun op => op.fresh = ∅ :=
  StableHlo.forall_fresh_of_map rfl
abbrev while0Ops0_6_W : List (Ref sig .tc) := [main_while0b_v45, main_while0b_v46, main_while0b_v47]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_7_fresh : (while0Ops0_7 : List (HloOp τ sig (Elt F))).Forall fun op => op.fresh = ∅ :=
  StableHlo.forall_fresh_of_map rfl
abbrev while0Ops0_7_W : List (Ref sig .tc) := [main_while0b_call5_c, main_while0b_call5_v0, main_while0b_call5_v1, main_while0b_call5_c_0, main_while0b_call5_v2, main_while0b_call5_v3, main_while0b_call5_v4, main_while0b_v48]
theorem while0Ops0_7_writes : (while0Ops0_7 : List (HloOp τ sig (Elt F))).Forall fun op => op.writes ⊆ (while0Ops0_7_W.map (Proc.devRef (τ := τ) .tc)).toFinset :=
  StableHlo.forall_writes_sub_of_map rfl
theorem while0Ops0_8_fresh : (while0Ops0_8 : List (HloOp τ sig (Elt F))).Forall fun op => op.fresh = ∅ :=
  StableHlo.forall_fresh_of_map rfl
abbrev while0Ops0_8_W : List (Ref sig .tc) := [main_while0b_v49, main_while0b_v50, main_while0b_v51, main_while0b_cst_22]
theorem while0Ops0_8_writes : (while0Ops0_8 : List (HloOp τ sig (Elt F))).Forall fun op => op.writes ⊆ (while0Ops0_8_W.map (Proc.devRef (τ := τ) .tc)).toFinset :=
  StableHlo.forall_writes_sub_of_map rfl
theorem while0Ops0_9_fresh : (while0Ops0_9 : List (HloOp τ sig (Elt F))).Forall fun op => op.fresh = ∅ :=
  StableHlo.forall_fresh_of_map rfl
abbrev while0Ops0_9_W : List (Ref sig .tc) := [main_while0b_call6_v0, main_while0b_call6_v1, main_while0b_call6_v2, main_while0b_v52]
theorem while0Ops0_9_writes : (while0Ops0_9 : List (HloOp τ sig (Elt F))).Forall fun op => op.writes ⊆ (while0Ops0_9_W.map (Proc.devRef (τ := τ) .tc)).toFinset :=
  StableHlo.forall_writes_sub_of_map rfl
theorem while0Ops0_10_fresh : (while0Ops0_10 : List (HloOp τ sig (Elt F))).Forall fun op => op.fresh = ∅ :=
  StableHlo.forall_fresh_of_map rfl
abbrev while0Ops0_10_W : List (Ref sig .tc) := [main_while0b_c_23, main_while0b_v53, main_while0b_c_24, main_while0b_v54, main_while0b_v55, main_while0b_v56, main_while0b_v57, main_while0b_v58, main_while0b_v59, main_while0b_v60]
theorem while0Ops0_10_writes : (while0Ops0_10 : List (HloOp τ sig (Elt F))).Forall fun op => op.writes ⊆ (while0Ops0_10_W.map (Proc.devRef (τ := τ) .tc)).toFinset :=
  StableHlo.forall_writes_sub_of_map rfl
theorem while0Ops0_11_fresh : (while0Ops0_11 : List (HloOp τ sig (Elt F))).Forall fun op => op.fresh = ∅ :=
  StableHlo.forall_fresh_of_map rfl
abbrev while0Ops0_11_W : List (Ref sig .tc) := [main_while0b_call7_c, main_while0b_call7_v0, main_while0b_call7_v1, main_while0b_call7_c_0, main_while0b_call7_v2, main_while0b_call7_v3, main_while0b_call7_v4, main_while0b_v61]
theorem while0Ops0_11_writes : (while0Ops0_11 : List (HloOp τ sig (Elt F))).Forall fun op => op.writes ⊆ (while0Ops0_11_W.map (Proc.devRef (τ := τ) .tc)).toFinset :=
  StableHlo.forall_writes_sub_of_map rfl
theorem while0Ops0_12_fresh : (while0Ops0_12 : List (HloOp τ sig (Elt F))).Forall fun op => op.fresh = ∅ :=
  StableHlo.forall_fresh_of_map rfl
abbrev while0Ops0_12_W : List (Ref sig .tc) := [main_while0b_v62, main_while0b_cst_25]
theorem while0Ops0_12_writes : (while0Ops0_12 : List (HloOp τ sig (Elt F))).Forall fun op => op.writes ⊆ (while0Ops0_12_W.map (Proc.devRef (τ := τ) .tc)).toFinset :=
  StableHlo.forall_writes_sub_of_map rfl
theorem while0Ops0_13_fresh : (while0Ops0_13 : List (HloOp τ sig (Elt F))).Forall fun op => op.fresh = ∅ :=
  StableHlo.forall_fresh_of_map rfl
abbrev while0Ops0_13_W : List (Ref sig .tc) := [main_while0b_call8_v0, main_while0b_call8_v1, main_while0b_call8_v2, main_while0b_v63]
theorem while0Ops0_13_writes : (while0Ops0_13 : List (HloOp τ sig (Elt F))).Forall fun op => op.writes ⊆ (while0Ops0_13_W.map (Proc.devRef (τ := τ) .tc)).toFinset :=
  StableHlo.forall_writes_sub_of_map rfl
theorem while0Ops0_14_fresh : (while0Ops0_14 : List (HloOp τ sig (Elt F))).Forall fun op => op.fresh = ∅ :=
  StableHlo.forall_fresh_of_map rfl
abbrev while0Ops0_14_W : List (Ref sig .tc) := [main_while0b_c_26, main_while0b_v64, main_while0b_c_27, main_while0b_v65, main_while0b_v66, main_while0b_v67, main_while0b_v68, main_while0b_v69, main_while0b_v70]
theorem while0Ops0_14_writes : (while0Ops0_14 : List (HloOp τ sig (Elt F))).Forall fun op => op.writes ⊆ (while0Ops0_14_W.map (Proc.devRef (τ := τ) .tc)).toFinset :=
  StableHlo.forall_writes_sub_of_map rfl
theorem while0Ops0_15_fresh : (while0Ops0_15 : List (HloOp τ sig (Elt F))).Forall fun op => op.fresh = ∅ :=
  StableHlo.forall_fresh_of_map rfl
abbrev while0Ops0_15_W : List (Ref sig .tc) := [main_while0b_call9_c, main_while0b_call9_v0, main_while0b_call9_v1, main_while0b_call9_c_0, main_while0b_call9_v2, main_while0b_call9_v3, main_while0b_call9_v4, main_while0b_v71]
theorem while0Ops0_15_writes : (while0Ops0_15 : List (HloOp τ sig (Elt F))).Forall fun op => op.writes ⊆ (while0Ops0_15_W.map (Proc.devRef (τ := τ) .tc)).toFinset :=
  StableHlo.forall_writes_sub_of_map rfl
theorem while0Ops0_16_fresh : (while0Ops0_16 : List (HloOp τ sig (Elt F))).Forall fun op => op.fresh = ∅ :=
  StableHlo.forall_fresh_of_map rfl
abbrev while0Ops0_16_W : List (Ref sig .tc) := [main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_v99, main_while0b_v100, main_while0b_v101, main_while0b_v102, main_while0b_v103, main_while0b_v104, main_while0b_cst_28, main_while0b_v105, main_while0b_v106, main_while0b_v107, main_while0b_v108, main_while0b_v109, main_while0b_v110, main_while0b_v111, main_while0b_v112, main_while0b_v113, main_while0b_v114, main_while0b_cst_29, main_while0b_v115, main_while0b_v116, main_while0b_v117, main_while0b_v118, main_while0b_cst_30, main_while0b_v119, main_while0b_v120, main_while0b_v121, main_while0b_v122, main_while0b_cst_31]
theorem while0Ops0_16_writes : (while0Ops0_16 : List (HloOp τ sig (Elt F))).Forall fun op => op.writes ⊆ (while0Ops0_16_W.map (Proc.devRef (τ := τ) .tc)).toFinset :=
  StableHlo.forall_writes_sub_of_map rfl
theorem while0Ops0_17_fresh : (while0Ops0_17 : List (HloOp τ sig (Elt F))).Forall fun op => op.fresh = ∅ :=
  StableHlo.forall_fresh_of_map rfl
abbrev while0Ops0_17_W : List (Ref sig .tc) := [main_while0b_call10_v0, main_while0b_call10_v1, main_while0b_v123]
theorem while0Ops0_17_writes : (while0Ops0_17 : List (HloOp τ sig (Elt F))).Forall fun op => op.writes ⊆ (while0Ops0_17_W.map (Proc.devRef (τ := τ) .tc)).toFinset :=
  StableHlo.forall_writes_sub_of_map rfl
theorem while0Ops0_18_fresh : (while0Ops0_18 : List (HloOp τ sig (Elt F))).Forall fun op => op.fresh = ∅ :=
  StableHlo.forall_fresh_of_map rfl
abbrev while0Ops0_18_W : List (Ref sig .tc) := [main_while0b_v124, main_while0b_v125, main_while0b_v126, main_while0b_cst_32]
theorem while0Ops0_18_writes : (while0Ops0_18 : List (HloOp τ sig (Elt F))).Forall fun op => op.writes ⊆ (while0Ops0_18_W.map (Proc.devRef (τ := τ) .tc)).toFinset :=
  StableHlo.forall_writes_sub_of_map rfl
theorem while0Ops0_19_fresh : (while0Ops0_19 : List (HloOp τ sig (Elt F))).Forall fun op => op.fresh = ∅ :=
  StableHlo.forall_fresh_of_map rfl
abbrev while0Ops0_19_W : List (Ref sig .tc) := [main_while0b_call11_v0, main_while0b_call11_v1, main_while0b_v127]
theorem while0Ops0_19_writes : (while0Ops0_19 : List (HloOp τ sig (Elt F))).Forall fun op => op.writes ⊆ (while0Ops0_19_W.map (Proc.devRef (τ := τ) .tc)).toFinset :=
  StableHlo.forall_writes_sub_of_map rfl
theorem while0Ops0_20_fresh : (while0Ops0_20 : List (HloOp τ sig (Elt F))).Forall fun op => op.fresh = ∅ :=
  StableHlo.forall_fresh_of_map rfl
abbrev while0Ops0_20_W : List (Ref sig .tc) := [main_while0b_c_33, main_while0b_v128, main_v33_6, main_v33_7, main_v33_8, main_v33_9, main_v33_10]
theorem while0Ops0_20_writes : (while0Ops0_20 : List (HloOp τ sig (Elt F))).Forall fun op => op.writes ⊆ (while0Ops0_20_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_19 (constantI S_ 32 300#32),
    StableHlo.binary main_v33_6 main_while0c_c_19 main_while0c_v34 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17, while0Ops0_18, while0Ops0_19, while0Ops0_20]
abbrev postI : List (List (HloOp τ sig (Elt F))) := []

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.cons while0Ops0_13_sub (hf := List.forall_iff_forall_mem.mp while0Ops0_13_fresh) (.cons while0Ops0_14_sub (hf := List.forall_iff_forall_mem.mp while0Ops0_14_fresh) (.cons while0Ops0_15_sub (hf := List.forall_iff_forall_mem.mp while0Ops0_15_fresh) (.cons while0Ops0_16_sub (hf := List.forall_iff_forall_mem.mp while0Ops0_16_fresh) (.cons while0Ops0_17_sub (hf := List.forall_iff_forall_mem.mp while0Ops0_17_fresh) (.cons while0Ops0_18_sub (hf := List.forall_iff_forall_mem.mp while0Ops0_18_fresh) (.cons while0Ops0_19_sub (hf := List.forall_iff_forall_mem.mp while0Ops0_19_fresh) (.cons while0Ops0_20_sub (hf := List.forall_iff_forall_mem.mp while0Ops0_20_fresh) (.nil)))))))))))))))))))))
theorem hpost : Plain (postI (F := F)) := .nil

abbrev condOps_W : List (Ref sig .tc) := [main_while0c_c_19, main_while0c_v34]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- Every reference the loop's body writes before its last stretch. -/
abbrev headW : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W ++ while0Ops0_13_W ++ while0Ops0_14_W ++ while0Ops0_15_W ++ while0Ops0_16_W ++ while0Ops0_17_W ++ while0Ops0_18_W ++ while0Ops0_19_W

/-- A buffer no stretch of the body but the last writes is unchanged by all of them. -/
theorem head_keep (V : Valuation τ sig (Elt F)) (r : Ref sig .tc) (h : r ∉ headW) :
    afterL [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17, while0Ops0_18, while0Ops0_19] V (Proc.devRef .tc r) = V (Proc.devRef .tc r) := by
  simp only [headW, List.mem_append, not_or] at h
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := h
  simp only [afterL_cons, afterL_nil]
  rw [after_of_writes_sub while0Ops0_19 _ while0Ops0_19_writes h19, after_of_writes_sub while0Ops0_18 _ while0Ops0_18_writes h18, after_of_writes_sub while0Ops0_17 _ while0Ops0_17_writes h17, after_of_writes_sub while0Ops0_16 _ while0Ops0_16_writes h16, after_of_writes_sub while0Ops0_15 _ while0Ops0_15_writes h15, after_of_writes_sub while0Ops0_14 _ while0Ops0_14_writes h14, after_of_writes_sub while0Ops0_13 _ while0Ops0_13_writes h13, after_of_writes_sub while0Ops0_12 _ while0Ops0_12_writes h12, after_of_writes_sub while0Ops0_11 _ while0Ops0_11_writes h11, after_of_writes_sub while0Ops0_10 _ while0Ops0_10_writes h10, after_of_writes_sub while0Ops0_9 _ while0Ops0_9_writes h9, after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]

/-- A buffer the body writes nowhere is unchanged by it. -/
theorem body_keep (V : Valuation τ sig (Elt F)) (r : Ref sig .tc) (h : r ∉ headW) (h' : r ∉ while0Ops0_20_W) :
    afterL bodyI V (Proc.devRef .tc r) = V (Proc.devRef .tc r) :=
  (after_of_writes_sub while0Ops0_20 _ while0Ops0_20_writes h').trans (head_keep V r h)

/-- The trip counter is not written by the condition. -/
theorem ctr_cond (V : Valuation τ sig (Elt F)) : after condOps V (Proc.devRef .tc main_v33_6) = V (Proc.devRef .tc main_v33_6) :=
  after_of_writes_sub condOps V condOps_writes (by decide +kernel)

set_option maxRecDepth 100000 in
/-- `while0Ops0_20` leaves the counter one step on. -/
theorem ctr_step (X : Valuation τ sig (Elt F)) :
    after while0Ops0_20 X (Proc.devRef .tc main_v33_6) = addi (X (Proc.devRef .tc main_v33_6)) (constantI S_ 32 1#32) := by
  after_results
  rfl

/-- The counter is the loop's lower bound at the loop's entry: its last writer before the loop read back. -/
theorem ctr_entry (c : Dev nD) : entryContents preI m c (Proc.devRef .tc main_v33_6) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v33_6) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step]
    refine (congrArg (fun z => addi z (constantI S_ 32 1#32)) ((head_keep _ main_v33_6 (by decide)).trans ((ctr_cond _).trans (atK_ctr c k)))).trans ?_
    rw [Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 300 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v33_6 HostLoop.idx0)
        (HloOp.result _ (atK m k c) main_while0c_c_19 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 300 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 300 m ρ (cond_spec m)

/-- Every reference the stretches before the loop write. -/
abbrev preW : List (Ref sig .tc) := hostOps0_W ++ hostOps0_1_W ++ hostOps0_2_W ++ hostOps0_3_W ++ hostOps0_4_W

/-- A buffer the stretches before the loop write nowhere enters the loop as launched. -/
theorem pre_keep (c : Dev nD) (r : Ref sig .tc) (h : r ∉ preW) :
    entryContents preI m c (Proc.devRef .tc r) = m ((c.tc : Thread nD τ).loc r) := by
  simp only [preW, List.mem_append, not_or] at h
  obtain ⟨⟨⟨⟨h0, h1⟩, h2⟩, h3⟩, h4⟩ := h
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer neither the body nor the condition writes holds at every trip what it held at the loop's entry. -/
theorem trip_keep (c : Dev nD) (r : Ref sig .tc) (h : r ∉ headW) (h' : r ∉ while0Ops0_20_W) (hc : r ∉ condOps_W) :
    ∀ k, atK m k c (Proc.devRef .tc r) = entryContents preI m c (Proc.devRef .tc r)
  | 0 => rfl
  | k + 1 => (body_keep _ r h h').trans ((after_of_writes_sub condOps _ condOps_writes hc).trans (trip_keep c r h h' hc k))

/-- The fold's last step is the condition. -/
theorem final_cond (c : Dev nD) (r : Ref sig .tc) (hc : r ∉ condOps_W) :
    finalContents condOps preI bodyI postI 300 m c (Proc.devRef .tc r) = atK m 300 c (Proc.devRef .tc r) :=
  after_of_writes_sub condOps _ condOps_writes hc

/-- Both arguments end as launched. -/
theorem final_arg0 (c : Dev nD) : finalContents condOps preI bodyI postI 300 m c (Proc.devRef .tc main_arg0) = m ((c.tc : Thread nD τ).loc main_arg0) :=
  (final_cond m c main_arg0 (by decide)).trans ((trip_keep m c main_arg0 (by decide) (by decide) (by decide) 300).trans (pre_keep m c main_arg0 (by decide)))
theorem final_arg1 (c : Dev nD) : finalContents condOps preI bodyI postI 300 m c (Proc.devRef .tc main_arg1) = m ((c.tc : Thread nD τ).loc main_arg1) :=
  (final_cond m c main_arg1 (by decide)).trans ((trip_keep m c main_arg1 (by decide) (by decide) (by decide) 300).trans (pre_keep m c main_arg1 (by decide)))

end Cert.RefRun

end
-- ==== Proof.Greedy.lean ====
/-
  Two ways to pick greedily. Candidates are the numbers below `n`; each has a score, and a relation says which candidate hits which. One process walks
the candidates in sorted order and keeps those that no kept one hits, as long as the scores are positive and there is room.
The other repeats: pick the first candidate with the largest remaining score, and lower to `-1` the score of the picked one
and, when that largest score was positive, of all it hits. The two pick the same candidates in the same order.
-/
module

public import Idealize.ShloMosaic.PureOps.Ideal.Laws

@[expose] public section

namespace Cert.Greedy

variable {n : ℕ}

/-- `c` comes before `d` in the order of falling scores, the smaller index first among equal scores. -/
def Before (s : Fin n → EReal) (c d : Fin n) : Prop := s d < s c ∨ (s d = s c ∧ c < d)

/-- `c` is the first place where `w` is largest. -/
def IsPick (w : Fin n → EReal) (c : Fin n) : Prop := (∀ d, w d ≤ w c) ∧ ∀ d, w d = w c → c ≤ d

/-- There is only one first place where `w` is largest. -/
theorem IsPick.unique {w : Fin n → EReal} {c d : Fin n} (hc : IsPick w c) (hd : IsPick w d) : c = d := by
  have h : w c = w d := le_antisymm (hd.1 c) (hc.1 d)
  exact le_antisymm (hc.2 d h.symm) (hd.2 c h)

/-- The repeated picks: `w k` holds the remaining scores before round `k` and `p k` is that round's pick. -/
structure Rounds (s : Fin n → EReal) (hit : Fin n → Fin n → Prop) (w : ℕ → Fin n → EReal) (p : ℕ → Fin n) : Prop where
  first : w 0 = s
  pick : ∀ k, IsPick (w k) (p k)
  own : ∀ k, w (k + 1) (p k) = -1
  gone : ∀ k c, 0 < w k (p k) → hit (p k) c → w (k + 1) c = -1
  stay : ∀ k c, c ≠ p k → ¬ (0 < w k (p k) ∧ hit (p k) c) → w (k + 1) c = w k c

open Classical in
/-- The walk in sorted order, from place `i` with `K` kept so far; the first number bounds the steps. -/
noncomputable def walk (s : Fin n → EReal) (hit : Fin n → Fin n → Prop) (ord : ℕ → Fin n) (cap : ℕ) :
    ℕ → ℕ → List (Fin n) → List (Fin n)
  | 0, _, K => K
  | f + 1, i, K =>
    if K.length < cap ∧ 0 < s (ord i) then
      walk s hit ord cap f (i + 1) (if ∃ k ∈ K, hit k (ord i) then K else K ++ [ord i])
    else K

/-- What the sorted order gives: every candidate once, each before those that follow. -/
structure Sorted (s : Fin n → EReal) (ord : ℕ → Fin n) : Prop where
  all : ∀ c, ∃ j < n, ord j = c
  before : ∀ a b, a < b → b < n → Before s (ord a) (ord b)

/-- A candidate is out once it is kept or a kept one hits it. -/
def Out (hit : Fin n → Fin n → Prop) (K : List (Fin n)) (c : Fin n) : Prop := c ∈ K ∨ ∃ k ∈ K, hit k c

section
variable {s : Fin n → EReal} {hit : Fin n → Fin n → Prop} {w : ℕ → Fin n → EReal} {p : ℕ → Fin n} {ord : ℕ → Fin n}
  {cap : ℕ}

/-- Once no remaining score is positive, none is in any later round. -/
theorem Rounds.dry (R : Rounds s hit w p) {m : ℕ} (h : ∀ c, w m c ≤ 0) : ∀ k, m ≤ k → ∀ c, w k c ≤ 0 := by
  intro k hk
  induction k, hk using Nat.le_induction with
  | base => exact h
  | succ k _ ih =>
    intro c
    by_cases hc : c = p k
    · subst hc; rw [R.own]; exact EReal.neg_le_zero.mpr zero_le_one
    · rw [R.stay k c hc fun h => absurd h.1 (not_lt.mpr (ih _))]; exact ih c

/-- What holds at each point of the walk: the kept ones are the picks of the rounds so far, and the remaining scores are the
    first ones but for the candidates that are out. -/
structure Inv (s : Fin n → EReal) (hit : Fin n → Fin n → Prop) (w : ℕ → Fin n → EReal) (p : ℕ → Fin n) (ord : ℕ → Fin n)
    (cap i : ℕ) (K : List (Fin n)) : Prop where
  room : K.length ≤ cap
  picks : ∀ k < K.length, 0 < w k (p k) ∧ K[k]? = some (p k)
  outs : ∀ c, Out hit K c → w K.length c = -1
  ins : ∀ c, ¬ Out hit K c → w K.length c = s c
  past : ∀ j < i, Out hit K (ord j)
  from_past : ∀ c ∈ K, ∃ j < i, c = ord j

/-- The meeting of the two processes, from any point of the walk on. -/
theorem walk_meets (R : Rounds s hit w p) (S : Sorted s ord) : ∀ f i K, f + i = n → Inv s hit w p ord cap i K →
    let L := walk s hit ord cap f i K
    L.length ≤ cap ∧ (∀ k < L.length, 0 < w k (p k) ∧ L[k]? = some (p k)) ∧
      (∀ k < cap, L.length ≤ k → ¬ 0 < w k (p k)) := by
  have neg : ((-1 : EReal)) ≤ 0 := EReal.neg_le_zero.mpr zero_le_one
  intro f
  induction f with
  | zero =>
    intro i K hi I
    refine ⟨I.room, I.picks, fun k _ hk => not_lt.mpr (R.dry (fun c => ?_) k hk _)⟩
    obtain ⟨j, hj, rfl⟩ := S.all c
    exact (I.outs _ (I.past j (by omega))).le.trans neg
  | succ f ih =>
    intro i K hi I
    by_cases hgo : K.length < cap ∧ 0 < s (ord i)
    · simp only [walk, if_pos hgo]
      by_cases hh : ∃ k ∈ K, hit k (ord i)
      · rw [if_pos hh]
        refine ih (i + 1) K (by omega) ⟨I.room, I.picks, I.outs, I.ins, fun j hj => ?_, fun c hc => ?_⟩
        · rcases Nat.lt_succ_iff_lt_or_eq.mp hj with h | rfl
          · exact I.past j h
          · exact Or.inr hh
        · obtain ⟨j, hj, e⟩ := I.from_past c hc; exact ⟨j, by omega, e⟩
      · rw [if_neg hh]
        have hnot : ¬ Out hit K (ord i) := by
          rintro (hc | hc)
          · obtain ⟨j, hj, e⟩ := I.from_past _ hc
            rcases S.before j i hj (by omega) with h | h
            · rw [e] at h; exact lt_irrefl _ h
            · rw [e] at h; exact lt_irrefl _ h.2
          · exact hh hc
        have hwi := I.ins _ hnot
        have hpick : IsPick (w K.length) (ord i) := by
          have key : ∀ d, d = ord i ∨ w K.length d < w K.length (ord i)
              ∨ (w K.length d ≤ w K.length (ord i) ∧ ord i < d) := by
            intro d
            by_cases hd : Out hit K d
            · right; left; rw [I.outs d hd, hwi]; exact lt_of_le_of_lt neg hgo.2
            · obtain ⟨j, hj, rfl⟩ := S.all d
              rcases lt_trichotomy j i with h | rfl | h
              · exact absurd (I.past j h) hd
              · exact Or.inl rfl
              · right; rw [I.ins _ hd, hwi]
                rcases S.before i j h hj with h | h
                · exact Or.inl h
                · exact Or.inr ⟨h.1.le, h.2⟩
          constructor
          · intro d; rcases key d with rfl | h | h
            · exact le_rfl
            · exact h.le
            · exact h.1
          · intro d hd; rcases key d with rfl | h | h
            · exact le_rfl
            · exact absurd hd h.ne
            · exact h.2.le
        have hp : p K.length = ord i := (R.pick _).unique hpick
        have hpos : 0 < w K.length (p K.length) := by rw [hp, hwi]; exact hgo.2
        have hlen : (K ++ [ord i]).length = K.length + 1 := by simp
        refine ih (i + 1) (K ++ [ord i]) (by omega) ⟨by rw [hlen]; omega, fun k hk => ?_, fun c hc => ?_,
          fun c hc => ?_, fun j hj => ?_, fun c hc => ?_⟩
        · rw [hlen] at hk
          rcases Nat.lt_succ_iff_lt_or_eq.mp hk with h | rfl
          · exact ⟨(I.picks k h).1, by rw [List.getElem?_append_left h]; exact (I.picks k h).2⟩
          · exact ⟨hpos, by simp [hp]⟩
        · rw [hlen]
          by_cases hci : c = p K.length
          · rw [hci, R.own]
          by_cases hhc : hit (p K.length) c
          · exact R.gone _ _ hpos hhc
          rw [R.stay _ _ hci fun h => hhc h.2]
          refine I.outs c ?_
          rcases hc with hc | ⟨k, hk, hkc⟩
          · rcases List.mem_append.mp hc with h | h
            · exact Or.inl h
            · exact absurd (by simpa [hp] using h) hci
          · rcases List.mem_append.mp hk with h | h
            · exact Or.inr ⟨k, h, hkc⟩
            · have : k = p K.length := by simpa [hp] using h
              exact absurd (this ▸ hkc) hhc
        · rw [hlen, R.stay]
          · exact I.ins c fun h => hc (h.elim (fun h => Or.inl (List.mem_append_left _ h))
              fun ⟨k, hk, h⟩ => Or.inr ⟨k, List.mem_append_left _ hk, h⟩)
          · intro e; exact hc (Or.inl (by rw [e, hp]; simp))
          · rintro ⟨-, h⟩; exact hc (Or.inr ⟨_, by rw [hp]; simp, h⟩)
        · rcases Nat.lt_succ_iff_lt_or_eq.mp hj with h | rfl
          · exact (I.past j h).elim (fun h => Or.inl (List.mem_append_left _ h))
              fun ⟨k, hk, h⟩ => Or.inr ⟨k, List.mem_append_left _ hk, h⟩
          · exact Or.inl (by simp)
        · rcases List.mem_append.mp hc with h | h
          · obtain ⟨j, hj, e⟩ := I.from_past c h; exact ⟨j, by omega, e⟩
          · exact ⟨i, by omega, by simpa using h⟩
    · simp only [walk, if_neg hgo]
      refine ⟨I.room, I.picks, fun k hk hle => not_lt.mpr (R.dry (fun c => ?_) k hle _)⟩
      have hs : s (ord i) ≤ 0 := not_lt.mp fun h => hgo ⟨by omega, h⟩
      by_cases hc : Out hit K c
      · exact (I.outs c hc).le.trans neg
      · rw [I.ins c hc]
        obtain ⟨j, hj, rfl⟩ := S.all c
        rcases lt_trichotomy j i with h | rfl | h
        · exact absurd (I.past j h) hc
        · exact hs
        · rcases S.before i j h hj with h | h
          · exact h.le.trans hs
          · exact h.1.le.trans hs

/-- **The two processes agree.** The walk's list is the list of the picks of the rounds whose largest score was positive, as
    far as there is room, and no later round has a positive score left. -/
theorem walk_eq_rounds (R : Rounds s hit w p) (S : Sorted s ord) :
    let L := walk s hit ord cap n 0 []
    L.length ≤ cap ∧ (∀ k < L.length, 0 < w k (p k) ∧ L[k]? = some (p k)) ∧
      (∀ k < cap, L.length ≤ k → ¬ 0 < w k (p k)) :=
  walk_meets R S n 0 [] (by omega)
    ⟨by simp, by simp, fun c hc => by simp [Out] at hc, fun c _ => by simp [R.first], by simp, by simp⟩

end

end Cert.Greedy

end
-- ==== Proof.Cand.lean ====
/-
  One candidate's numbers, off its 85 inputs: the class products, the confidence, the class, the score, the corner box, the
  box moved by its class, its area, and how much two candidates overlap. Both programs compute these; the theorems say
  what the confidence and the class are at the row's pick, and where the score is positive.
-/
module

public import proofs.«01_k».proof.Proof.Greedy
public import Idealize.ShloMosaic.Lib.ValueIdxCore

@[expose] public section

noncomputable section

namespace Cert.Cand

open Idealize.ShloMosaic Idealize.ShloMosaic.ValueIdx

/-- Candidate `p` of batch `b`: its 85 inputs. -/
def cand (A : (⟨3, ![4, 20000, 85]⟩ : Shape).Idx → EReal) (b : Fin 4) (p : Fin 20000) : Fin 85 → EReal := fun k => A (ix3 b p k)

/-- The product of class `q`'s input with the objectness. -/
def prod (x : Fin 85 → EReal) (q : Fin 80) : EReal := x ⟨5 + q.val, by omega⟩ * x 4

/-- The largest product. -/
def conf (x : Fin 85 → EReal) : EReal := Finset.univ.fold max (Ideal.ofBits .f32 4286578688#32) fun q => prod x q

/-- The first class whose product is the largest, as a number. -/
def cls (x : Fin 85 → EReal) : EReal :=
  Finset.univ.fold min (Ideal.ofBits .f32 2139095040#32) fun q =>
    if conf x ≤ prod x q then FloatOps.sitofp (F := Ideal) .f32 (BitVec.ofNat 32 q.val) else Ideal.ofBits .f32 1301220632#32

/-- The confidence where it and the objectness pass the threshold, else -1. -/
def score (x : Fin 85 → EReal) : EReal :=
  Scalar.select (IntOp.andi (BitVec.ofBool (decide (Ideal.ofBits .f32 1048576000#32 < x 4)))
    (BitVec.ofBool (decide (Ideal.ofBits .f32 1048576000#32 < conf x)))) (conf x) (Ideal.ofBits .f32 3212836864#32)

/-- The corner box: left, top, right, bottom. -/
def box (x : Fin 85 → EReal) : Fin 4 → EReal :=
  ![x 0 - Ideal.div (x 2) (Ideal.ofBits .f32 1073741824#32), x 1 - Ideal.div (x 3) (Ideal.ofBits .f32 1073741824#32),
    x 0 + Ideal.div (x 2) (Ideal.ofBits .f32 1073741824#32), x 1 + Ideal.div (x 3) (Ideal.ofBits .f32 1073741824#32)]

/-- The row kept per candidate: its box, confidence, class, score, and a zero. -/
def cell (x : Fin 85 → EReal) : Fin 8 → EReal :=
  ![box x 0, box x 1, box x 2, box x 3, conf x, cls x, score x, 0]

/-- The box moved by its class. -/
def moved (x : Fin 85 → EReal) (k : Fin 4) : EReal := box x k + cls x * Ideal.ofBits .f32 1166016512#32

/-- The moved box's area. -/
def area (x : Fin 85 → EReal) : EReal := (moved x 2 - moved x 0) * (moved x 3 - moved x 1)

/-- The overlap's area. -/
def inter (x y : Fin 85 → EReal) : EReal :=
  max (min (moved x 2) (moved y 2) - max (moved x 0) (moved y 0)) 0
    * max (min (moved x 3) (moved y 3) - max (moved x 1) (moved y 1)) 0

/-- The overlap's share of the two boxes together. -/
def iou (x y : Fin 85 → EReal) : EReal :=
  Ideal.div (inter x y) (area x + area y - inter x y + Ideal.ofBits .f32 814313567#32)

/-- The first candidate suppresses the second. -/
def hit (x y : Fin 85 → EReal) : Prop := Ideal.ofBits .f32 1055286886#32 < iou x y

theorem bits_neg_one : Ideal.ofBits .f32 3212836864#32 = -1 := by
  simp [Ideal.ofBits, Ideal.ieee, -EReal.coe_mul, -EReal.coe_neg]; norm_num

theorem bits_bot : Ideal.ofBits .f32 4286578688#32 = ⊥ := by
  simp [Ideal.ofBits, Ideal.ieee]

theorem bits_top : Ideal.ofBits .f32 2139095040#32 = ⊤ := by
  simp [Ideal.ofBits, Ideal.ieee]

theorem bits_far : ((300000000 : ℝ) : EReal) = Ideal.ofBits .f32 1301220632#32 := by
  simp [Ideal.ofBits, Ideal.ieee, -EReal.coe_mul, -EReal.coe_neg]; norm_num

/-- A positive score is the confidence. -/
theorem score_pos {x : Fin 85 → EReal} (h : 0 < score x) : score x = conf x := by
  unfold score at h ⊢
  rw [bits_neg_one] at h ⊢
  generalize IntOp.andi _ _ = b at h ⊢
  unfold Scalar.select at h ⊢
  by_cases hb : b = 1
  · rw [if_pos hb]
  · rw [if_neg hb] at h
    exact absurd h (by norm_num)

/-- The confidence is the product at the row's pick. -/
theorem conf_of_pick {x : Fin 85 → EReal} {p : Fin 80} (hp : Greedy.IsPick (prod x) p) : conf x = prod x p := by
  unfold conf
  rw [bits_bot]
  refine le_antisymm ?_ ?_
  · rw [Finset.fold_max_le]
    exact ⟨bot_le, fun q _ => hp.1 q⟩
  · rw [Finset.le_fold_max]
    exact Or.inr ⟨p, Finset.mem_univ _, le_refl _⟩

/-- A small index as an ideal float is that number. -/
theorem sitofp_ofNat {d : ℕ} (h : d < 2 ^ 31) :
    (FloatOps.sitofp (F := Ideal) .f32 (BitVec.ofNat 32 d) : EReal) = ((d : ℝ) : EReal) := by
  show (((BitVec.ofNat 32 d).toInt : ℝ) : EReal) = _
  rw [BitVec.toInt_eq_toNat_of_lt (by simp only [BitVec.toNat_ofNat]; omega)]
  simp only [BitVec.toNat_ofNat, Nat.reducePow]
  rw [Nat.mod_eq_of_lt (by omega)]
  norm_cast

/-- The class is the row's pick. -/
theorem cls_of_pick {x : Fin 85 → EReal} {p : Fin 80} (hp : Greedy.IsPick (prod x) p) :
    FloatOps.sitofp (F := Ideal) .f32 (BitVec.ofNat 32 p.val) = cls x := by
  have hc := conf_of_pick hp
  unfold cls
  rw [bits_top, ← bits_far, hc]
  have hpv : (FloatOps.sitofp (F := Ideal) .f32 (BitVec.ofNat 32 p.val) : EReal) = ((p.val : ℝ) : EReal) :=
    sitofp_ofNat (by have := p.isLt; omega)
  refine le_antisymm ?_ ?_
  · rw [Finset.le_fold_min]
    refine ⟨le_top, fun q _ => ?_⟩
    split
    · rename_i h
      rw [hpv, sitofp_ofNat (by have := q.isLt; omega), EReal.coe_le_coe_iff, Nat.cast_le]
      exact hp.2 q (le_antisymm (hp.1 q) h)
    · rw [hpv, EReal.coe_le_coe_iff]
      have : (p.val : ℝ) ≤ 80 := by have := p.isLt; exact_mod_cast this.le
      linarith
  · rw [Finset.fold_min_le]
    refine Or.inr ⟨p, Finset.mem_univ _, ?_⟩
    rw [if_pos (le_refl _)]

end Cert.Cand
end
-- ==== Proof.PrepValue.lean ====
/-
  The first launch's rows at the ideal values: each is its candidate's kept row.
-/
module

public import proofs.«01_k».proof.Proof.PrepRun
public import proofs.«01_k».proof.Proof.Cand
public import Idealize.ShloMosaic.Lib.Pipeline.ValueKit
public import Idealize.ShloMosaic.Lib.Pointwise

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

/-- Row `r` of a block is the kept row of the candidate whose inputs stand in row `r` of the three operands. -/
theorem prep_at (X0 : Vec Ideal S1x1x2500x4 .f32) (X1 : Vec Ideal S1x1x2500x1 .f32) (X2 : Vec Ideal S1x1x2500x80 .f32)
    (r : Fin 2500) (k : Fin 8) (x : Fin 85 → EReal) (h0 : ∀ q : Fin 4, X0 (ix4 0 0 r q) = x ⟨q.val, by omega⟩)
    (h1 : X1 (ix4 0 0 r 0) = x 4) (h2 : ∀ q : Fin 80, X2 (ix4 0 0 r q) = x ⟨5 + q.val, by omega⟩) :
    (prepRows X0 X1 X2 (ix4 0 0 r k) : EReal) = Cand.cell x k := by
  generalize hc : Cand.cell x k = c
  pointwise [prepRows, k0_pay1, k0_pay2, k0_pay3, k0_pay4, k0_pay5, k0_pay6, k0_pay7, k0_pay8, k0_pay9, k0_pay10, k0_pay11, k0_pay12, k0_pay13, k0_pay14, k0_pay15, k0_pay16]
  fin_vals k with hk
  all_goals simp only [hk, Nat.reduceSub, Nat.reduceLT, ↓reduceDIte]
  all_goals simp only [h0, h1, h2, ← hc]
  · obtain rfl : k = 0 := Fin.ext hk; rfl
  · obtain rfl : k = 1 := Fin.ext hk; rfl
  · obtain rfl : k = 2 := Fin.ext hk; rfl
  · obtain rfl : k = 3 := Fin.ext hk; rfl
  · obtain rfl : k = 4 := Fin.ext hk; rfl
  · obtain rfl : k = 5 := Fin.ext hk; rfl
  · obtain rfl : k = 6 := Fin.ext hk; rfl
  · obtain rfl : k = 7 := Fin.ext hk; rfl

end Cert.KernelIdeal.Nms
end
-- ==== Proof.DataValue.lean ====
/-
  The prepared array at the ideal values: row `p` of batch `b` is candidate `p`'s kept row.
-/
module

public import proofs.«01_k».proof.Proof.KernelRun
public import proofs.«01_k».proof.Proof.PrepValue

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.ShloMosaic.Pipeline (Dat)

/-- The first launch's grid: four batches of eight tiles, each window's block the same. -/
theorem idx0 : ∀ t : Fin (cfg0 (F := Ideal)).N,
    win0_0.index t = ![t.val / 8, t.val % 8, 0, 0] ∧ win0_1.index t = ![t.val / 8, t.val % 8, 0, 0]
      ∧ win0_2.index t = ![t.val / 8, t.val % 8, 0, 0] ∧ win0_3.index t = ![t.val / 8, t.val % 8, 0, 0] ∧ t.val / 8 < 4 :=
  (by decide +kernel : ∀ t : Fin grid0.N, _)

/-- The three operands as the first host stretch leaves them. -/
theorem v1_read (W : Valuation τ sig (Elt Ideal)) : (StableHlo.after hostOps0 W main_v1 : S4x8x2500x4.Idx → EReal)
    = shapeCast S4x8x2500x4 (extractStridedSlice S4x20000x4 ![0, 0, 0] (W main_arg0 : FVec Ideal S4x20000x85 .f32) slices_S4x20000x85_S4x20000x4_0_0_0) shapeCasts_S4x20000x4_S4x8x2500x4 := by
  after_results
  try rfl
theorem v3_read (W : Valuation τ sig (Elt Ideal)) : (StableHlo.after hostOps0 W main_v3 : S4x8x2500x1.Idx → EReal)
    = shapeCast S4x8x2500x1 (extractStridedSlice S4x20000x1 ![0, 0, 4] (W main_arg0 : FVec Ideal S4x20000x85 .f32) slices_S4x20000x85_S4x20000x1_0_0_4) shapeCasts_S4x20000x1_S4x8x2500x1 := by
  after_results
  try rfl
theorem v5_read (W : Valuation τ sig (Elt Ideal)) : (StableHlo.after hostOps0 W main_v5 : S4x8x2500x80.Idx → EReal)
    = shapeCast S4x8x2500x80 (extractStridedSlice S4x20000x80 ![0, 0, 5] (W main_arg0 : FVec Ideal S4x20000x85 .f32) slices_S4x20000x85_S4x20000x80_0_0_5) shapeCasts_S4x20000x80_S4x8x2500x80 := by
  after_results
  try rfl

/-- They at a tile's row: the candidate's inputs. -/
theorem v1_at (W : Valuation τ sig (Elt Ideal)) (b : Fin 4) (t : Fin 8) (r : Fin 2500) (q : Fin 4) :
    (StableHlo.after hostOps0 W main_v1 : S4x8x2500x4.Idx → EReal) (ix4 b t r q)
      = Cand.cand (W main_arg0) b ⟨t.val * 2500 + r.val, by omega⟩ ⟨q.val, by omega⟩ := by
  rw [v1_read]
  unfold Cand.cand
  pointwise
  all_goals blk_ext
theorem v3_at (W : Valuation τ sig (Elt Ideal)) (b : Fin 4) (t : Fin 8) (r : Fin 2500) :
    (StableHlo.after hostOps0 W main_v3 : S4x8x2500x1.Idx → EReal) (ix4 b t r 0)
      = Cand.cand (W main_arg0) b ⟨t.val * 2500 + r.val, by omega⟩ 4 := by
  rw [v3_read]
  unfold Cand.cand
  pointwise
  all_goals blk_ext
theorem v5_at (W : Valuation τ sig (Elt Ideal)) (b : Fin 4) (t : Fin 8) (r : Fin 2500) (q : Fin 80) :
    (StableHlo.after hostOps0 W main_v5 : S4x8x2500x80.Idx → EReal) (ix4 b t r q)
      = Cand.cand (W main_arg0) b ⟨t.val * 2500 + r.val, by omega⟩ ⟨5 + q.val, by omega⟩ := by
  rw [v5_read]
  unfold Cand.cand
  pointwise
  all_goals blk_ext

variable (m : (ℓ : Loc nD τ sig) → Buf (Elt Ideal) ℓ)

/-- The prepared array. -/
def data (A : S4x20000x85.Idx → EReal) : S4x8x2500x8.Idx → EReal := fun i =>
  Cand.cell (Cand.cand A (i 0) ⟨(i 1).val * 2500 + (i 2).val, by
    have h1 : (i 1).val < 8 := (i 1).isLt
    have h2 : (i 2).val < 2500 := (i 2).isLt
    omega⟩) (i 3)

/-- The three input blocks at a point, read at a row. -/
theorem box_at (V : (c : Dev nD) → (b : Ref sig .tc) → Buf (Elt Ideal) ((c : Thread nD τ).loc b)) (c : Dev nD)
    (t : Fin (cfg0 (F := Ideal)).N) (r : Fin 2500) (q : Fin 4) :
    boxBlk V c t (ix4 0 0 r q)
      = (V c main_v1 : S4x8x2500x4.Idx → EReal) (ix4 ⟨t.val / 8, (idx0 t).2.2.2.2⟩ ⟨t.val % 8, by omega⟩ r q) := by
  blk_ext [boxBlk, idx0 t]
theorem obj_at (V : (c : Dev nD) → (b : Ref sig .tc) → Buf (Elt Ideal) ((c : Thread nD τ).loc b)) (c : Dev nD)
    (t : Fin (cfg0 (F := Ideal)).N) (r : Fin 2500) :
    objBlk V c t (ix4 0 0 r 0)
      = (V c main_v3 : S4x8x2500x1.Idx → EReal) (ix4 ⟨t.val / 8, (idx0 t).2.2.2.2⟩ ⟨t.val % 8, by omega⟩ r 0) := by
  blk_ext [objBlk, idx0 t]
theorem cls_at (V : (c : Dev nD) → (b : Ref sig .tc) → Buf (Elt Ideal) ((c : Thread nD τ).loc b)) (c : Dev nD)
    (t : Fin (cfg0 (F := Ideal)).N) (r : Fin 2500) (q : Fin 80) :
    clsBlk V c t (ix4 0 0 r q)
      = (V c main_v5 : S4x8x2500x80.Idx → EReal) (ix4 ⟨t.val / 8, (idx0 t).2.2.2.2⟩ ⟨t.val % 8, by omega⟩ r q) := by
  blk_ext [clsBlk, idx0 t]

/-- The array index of a block's row. -/
theorem emb0_3 (t : Fin (cfg0 (F := Ideal)).N) (r : Fin 2500) (k : Fin 8) :
    ((win0_3.blk t).view.emb (ix4 0 0 r k) : S4x8x2500x8.Idx)
      = ix4 ⟨t.val / 8, (idx0 t).2.2.2.2⟩ ⟨t.val % 8, by omega⟩ r k := by
  blk_ext [idx0 t]

/-- What a point leaves is the prepared array's block. -/
theorem point0 (c : Dev nD) (t : Fin (cfg0 (F := Ideal)).N) (r : Fin 2500) (k : Fin 8) :
    (prepRows (boxBlk (fun c b => V1 m c b) c t) (objBlk (fun c b => V1 m c b) c t) (clsBlk (fun c b => V1 m c b) c t)
      (ix4 0 0 r k) : EReal) = data (m ((c : Thread nD τ).loc main_arg0)) ((win0_3.blk t).view.emb (ix4 0 0 r k)) := by
  rw [emb0_3]
  exact prep_at _ _ _ r k (Cand.cand (m ((c : Thread nD τ).loc main_arg0)) ⟨t.val / 8, (idx0 t).2.2.2.2⟩
      ⟨t.val % 8 * 2500 + r.val, by omega⟩)
    (fun q => (box_at _ c t r q).trans (v1_at _ _ _ r q))
    ((obj_at _ c t r).trans (v3_at _ _ _ r))
    (fun q => (cls_at _ c t r q).trans (v5_at _ _ _ r q))

theorem idx_row (y : S1x1x2500x8.Idx) : y = ix4 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem out6_eq (c : Dev nD) : (out6 m c : S4x8x2500x8.Idx → EReal) = data (m ((c : Thread nD τ).loc main_arg0)) := by
  unfold out6
  refine Dat.arrAt_eq_of_covers _ 3 _ (by decide +kernel) fun t hf y => ?_
  blk_simp
  have e := idx_row y
  exact (congrArg (prepRows (boxBlk (fun c b => V1 m c b) c t) (objBlk (fun c b => V1 m c b) c t) (clsBlk (fun c b => V1 m c b) c t)) e).trans
    ((point0 m c t (y 2) (y 3)).trans (congrArg (fun z => data (m ((c : Thread nD τ).loc main_arg0)) ((win0_3.blk t).view.emb z)) e.symm))

/-- The prepared array as the second launch takes it. -/
theorem v7_at (A : S4x20000x85.Idx → EReal) (b : Fin 4) (p : Fin 20000) (k : Fin 8) :
    (shapeCast S4x20000x8 (data A : FVec Ideal S4x8x2500x8 .f32) shapeCasts_S4x8x2500x8_S4x20000x8 : S4x20000x8.Idx → EReal) (ix3 b p k)
      = Cand.cell (Cand.cand A b p) k := by
  generalize hc : Cand.cell (Cand.cand A b p) k = z
  generalize hD : data A = D
  pointwise
  rw [← hD, ← hc]
  have e : (⟨p.val / 2500 * 2500 + p.val % 2500, by omega⟩ : Fin 20000) = p := Fin.ext (by show p.val / 2500 * 2500 + p.val % 2500 = p.val; omega)
  exact congrArg (fun z => Cand.cell (Cand.cand A b z) k) e

end Cert.KernelIdeal.Nms
end
-- ==== Proof.NmsScalar.lean ====
/-
  The suppression body's scalars at the ideal values: a lane of the candidate's row, its moved box, its area, and whether a
  lane of the kept table overlaps it too much.
-/
module

public import proofs.«01_k».proof.Proof.NmsLoop
public import proofs.«01_k».proof.Proof.Cand
public import Idealize.ShloMosaic.Lib.Pipeline.ValueKit
public import Idealize.ShloMosaic.Lib.Pointwise

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

/-! ## The row's lanes -/

/-- A comparison of two lane numbers below 8. -/
theorem lane_eq (x c : Fin 8) : IntOp.cmpi .eq (BitVec.ofNat 32 x.val) (BitVec.ofNat 32 c.val) = if x = c then 1#1 else 0#1 := by
  revert x c; decide

/-- A masked sum over the row's lanes is the lane. -/
theorem masked_sum (f : Fin 8 → EReal) (c : Fin 8) :
    ∑ _u : Fin 1, ∑ x : Fin 8, Scalar.select (IntOp.cmpi .eq (BitVec.ofNat 32 x.val) (BitVec.ofNat 32 c.val)) (f x) 0 = f c := by
  rw [Fin.sum_univ_one]
  have e : ∀ x : Fin 8, Scalar.select (IntOp.cmpi .eq (BitVec.ofNat 32 x.val) (BitVec.ofNat 32 c.val)) (f x) 0
      = if x = c then f x else 0 := by
    intro x
    rw [lane_eq]
    by_cases h : x = c
    · rw [if_pos h, if_pos h]; rfl
    · rw [if_neg h, if_neg h]; rfl
  rw [Finset.sum_congr rfl fun x _ => e x, Finset.sum_ite_eq' Finset.univ c f, if_pos (Finset.mem_univ _)]

theorem pay5_at (row : FVec Ideal S1x8 .f32) : (k1_pay5 lanes8 row : EReal) = row (ix2 0 6) := by
  pointwise [k1_pay5, lanes8]
  exact masked_sum (fun x => row (ix2 0 x)) 6
theorem pay15_at (row : FVec Ideal S1x8 .f32) : (k1_pay15 lanes8 row : EReal) = row (ix2 0 2) := by
  pointwise [k1_pay15, lanes8]
  exact masked_sum (fun x => row (ix2 0 x)) 2
theorem pay16_at (row : FVec Ideal S1x8 .f32) : (k1_pay16 lanes8 row : EReal) = row (ix2 0 3) := by
  pointwise [k1_pay16, lanes8]
  exact masked_sum (fun x => row (ix2 0 x)) 3
theorem pay17_at (row : FVec Ideal S1x8 .f32) :
    (k1_pay17 lanes8 row : EReal) = row (ix2 0 5) * Ideal.ofBits .f32 1166016512#32 := by
  pointwise [k1_pay17, lanes8]
  exact congrArg (· * Ideal.ofBits .f32 1166016512#32) (masked_sum (fun x => row (ix2 0 x)) 5)
theorem pay18_at (row : FVec Ideal S1x8 .f32) :
    (k1_pay18 lanes8 row : EReal) = row (ix2 0 0) + row (ix2 0 5) * Ideal.ofBits .f32 1166016512#32 := by
  rw [← pay17_at]
  unfold k1_pay18
  generalize (k1_pay17 lanes8 row : Ideal .f32) = z
  pointwise [lanes8]
  exact congrArg (· + (z : EReal)) (masked_sum (fun x => row (ix2 0 x)) 0)
theorem pay19_at (row : FVec Ideal S1x8 .f32) :
    (k1_pay19 lanes8 row : EReal) = row (ix2 0 1) + row (ix2 0 5) * Ideal.ofBits .f32 1166016512#32 := by
  rw [← pay17_at]
  unfold k1_pay19
  generalize (k1_pay17 lanes8 row : Ideal .f32) = z
  pointwise [lanes8]
  exact congrArg (· + (z : EReal)) (masked_sum (fun x => row (ix2 0 x)) 1)

/-- A kept table's row with lane `n` replaced. -/
theorem pay7_at (n : BitVec 32) (a : Ideal .f32) (v : FVec Ideal S1x384 .f32) (l : Fin 384) :
    (k1_pay7 lanesK n a v (ix2 0 l) : EReal) = Scalar.select (IntOp.cmpi .eq (BitVec.ofNat 32 l.val) n) a (v (ix2 0 l)) := by
  pointwise [k1_pay7, k1_pay6, lanesK]
theorem pay8_at (n : BitVec 32) (a : Ideal .f32) (v : FVec Ideal S1x384 .f32) (l : Fin 384) :
    (k1_pay8 lanesK n a v (ix2 0 l) : EReal) = Scalar.select (IntOp.cmpi .eq (BitVec.ofNat 32 l.val) n) a (v (ix2 0 l)) := by
  pointwise [k1_pay8, k1_pay6, lanesK]
theorem pay9_at (n : BitVec 32) (a : Ideal .f32) (v : FVec Ideal S1x384 .f32) (l : Fin 384) :
    (k1_pay9 lanesK n a v (ix2 0 l) : EReal) = Scalar.select (IntOp.cmpi .eq (BitVec.ofNat 32 l.val) n) a (v (ix2 0 l)) := by
  pointwise [k1_pay9, k1_pay6, lanesK]
theorem pay10_at (n : BitVec 32) (a : Ideal .f32) (v : FVec Ideal S1x384 .f32) (l : Fin 384) :
    (k1_pay10 lanesK n a v (ix2 0 l) : EReal) = Scalar.select (IntOp.cmpi .eq (BitVec.ofNat 32 l.val) n) a (v (ix2 0 l)) := by
  pointwise [k1_pay10, k1_pay6, lanesK]
theorem pay11_at (n : BitVec 32) (a : Ideal .f32) (v : FVec Ideal S1x384 .f32) (l : Fin 384) :
    (k1_pay11 lanesK n a v (ix2 0 l) : EReal) = Scalar.select (IntOp.cmpi .eq (BitVec.ofNat 32 l.val) n) a (v (ix2 0 l)) := by
  pointwise [k1_pay11, k1_pay6, lanesK]

/-- The row written: the candidate's, its last lane the position. -/
theorem pay12_at (n : BitVec 32) (row : FVec Ideal S1x8 .f32) (l : Fin 8) :
    (k1_pay12 lanes8 n row (ix3 0 0 l) : EReal) = if l = 7 then ((n.toInt : ℝ) : EReal) else row (ix2 0 l) := by
  pointwise [k1_pay12, lanes8]
  have h := lane_eq l 7
  refine (congrArg (fun z => Scalar.select z ((n.toInt : ℝ) : EReal) (row (ix2 0 l))) h).trans ?_
  by_cases hl : l = 7
  · rw [if_pos hl, if_pos hl]; rfl
  · rw [if_neg hl, if_neg hl]; rfl

theorem pay14_at (row : Vec Ideal S1x1x8 .f32) (l : Fin 8) : (k1_pay14 row (ix2 0 l) : EReal) = row (ix3 0 0 l) := by
  pointwise [k1_pay14]

/-! ## The test of suppression -/

/-- The largest of ones and zeros is above zero when one of them is a one. -/
theorem fold_pos {ι : Type} [Fintype ι] (b : ι → BitVec 1) :
    0 < Finset.univ.fold max (Ideal.ofBits .f32 4286578688#32) (fun x => Scalar.select (b x) (1 : EReal) 0) ↔ ∃ x, b x = 1#1 := by
  rw [Finset.lt_fold_max, Cand.bits_bot]
  constructor
  · rintro (h | ⟨x, _, h⟩)
    · exact absurd h not_lt_bot
    · refine ⟨x, ?_⟩
      by_contra hb
      have hb' : ¬b x = 1 := hb
      unfold Scalar.select at h
      rw [if_neg hb'] at h
      exact lt_irrefl _ h
  · rintro ⟨x, hx⟩
    refine Or.inr ⟨x, Finset.mem_univ _, ?_⟩
    rw [hx]
    exact zero_lt_one

/-- The test over the kept table's five rows: some lane below the number kept overlaps too much. -/
theorem pay23_pos (n : ℕ) (hn : n ≤ 384) (a b d e f : Ideal .f32) (v0 v1 v2 v3 v4 : FVec Ideal S1x384 .f32) :
    (0 < (k1_pay23 lanesK (BitVec.ofNat 32 n) a b d e f v0 v1 v2 v3 v4 : EReal)) ↔
      ∃ l : Fin 384, l.val < n ∧
        Ideal.ofBits FTy.f32 1055286886#32 <
          Ideal.div
            (max (min (v2 (ix2 0 l)) (a + d : EReal) - max (v0 (ix2 0 l)) e) 0 *
              max (min (v3 (ix2 0 l)) (b + d : EReal) - max (v1 (ix2 0 l)) f) 0)
            (v4 (ix2 0 l) + ((a + d : EReal) - e) * ((b + d : EReal) - f) -
                max (min (v2 (ix2 0 l)) (a + d : EReal) - max (v0 (ix2 0 l)) e) 0 *
                  max (min (v3 (ix2 0 l)) (b + d : EReal) - max (v1 (ix2 0 l)) f) 0 +
              Ideal.ofBits FTy.f32 814313567#32) := by
  generalize hq : (k1_pay23 lanesK (BitVec.ofNat 32 n) a b d e f v0 v1 v2 v3 v4 : EReal) = q
  have hq' := hq.symm
  pointwise [k1_pay23, lanesK] at hq'
  rw [hq', fold_pos]
  have lt : ∀ l : Fin 384, IntOp.cmpi .slt (BitVec.ofNat 32 l.val) (BitVec.ofNat 32 n) = BitVec.ofBool (decide (l.val < n)) := by
    intro l
    have hl := l.isLt
    have e1 : (BitVec.ofNat 32 l.val).toNat = l.val := by simp only [BitVec.toNat_ofNat]; omega
    have e2 : (BitVec.ofNat 32 n).toNat = n := by simp only [BitVec.toNat_ofNat]; omega
    rw [WordCmp.cmpi_slt_of_lt (by omega) (by omega), e1, e2]
  have both : ∀ p r : Prop, ∀ [Decidable p] [Decidable r],
      IntOp.andi (BitVec.ofBool (decide p)) (BitVec.ofBool (decide r)) = 1#1 ↔ p ∧ r := by
    intro p r _ _
    by_cases hp : p <;> by_cases hr : r <;> simp [hp, hr, IntOp.andi]
  constructor
  · rintro ⟨x, hx⟩
    rw [lt, both] at hx
    exact ⟨x.2, hx⟩
  · rintro ⟨l, hl⟩
    refine ⟨(0, l), ?_⟩
    rw [lt, both]
    exact hl

/-! ## The kept table -/

/-- The kept table with one of its rows replaced. -/
theorem overlay_row (o : Fin 8) (h : ∀ a, (![o.val, 0] : Fin 2 → ℕ) a + S1x384.size a ≤ S8x384.size a) (K : S8x384.Idx → EReal)
    (v : S1x384.Idx → EReal) (r : Fin 8) (l : Fin 384) :
    (Rect.unit (s := S8x384) ![o.val, 0] S1x384.size h).overlay K v (ix2 r l) = if r = o then v (ix2 0 l) else K (ix2 r l) := by
  by_cases hr : r = o
  · rw [if_pos hr]
    have e : (ix2 r l : S8x384.Idx) = (Rect.unit (s := S8x384) ![o.val, 0] S1x384.size h).emb (ix2 0 l : S1x384.Idx) := by
      subst hr
      funext a
      refine Fin.ext ?_
      match a with
      | ⟨0, _⟩ => show r.val = r.val + 1 * 0; omega
      | ⟨1, _⟩ => show l.val = 0 + 1 * l.val; omega
    rw [e]
    exact Rect.overlay_emb (Rect.unit (s := S8x384) ![o.val, 0] S1x384.size h) K v _
  · rw [if_neg hr]
    exact Rect.overlay_of_not_mem (Rect.unit (s := S8x384) ![o.val, 0] S1x384.size h) K v (Rect.not_mem_set_of_axis _ (ix2 r l) 0 o.val 1 rfl rfl rfl (by
      show r.val < o.val ∨ o.val + 1 ≤ r.val
      have : r.val ≠ o.val := fun q => hr (Fin.ext q)
      omega))

/-- The result's rows with one of them replaced. -/
theorem overlay_out (o : Fin 304) (w : BitVec 32) (hw : w.toNat = o.val) (h : ∀ a, k1_off3 w a + S1x1x8.size a ≤ S1x304x8.size a)
    (K : S1x304x8.Idx → EReal) (v : S1x1x8.Idx → EReal) (r : Fin 304) (k : Fin 8) :
    (Rect.unit (s := S1x304x8) (k1_off3 w) S1x1x8.size h).overlay K v (ix3 0 r k) = if r = o then v (ix3 0 0 k) else K (ix3 0 r k) := by
  have ho : k1_off3 w 1 = o.val := by rw [← hw]; rfl
  by_cases hr : r = o
  · rw [if_pos hr]
    have e : (ix3 0 r k : S1x304x8.Idx) = (Rect.unit (s := S1x304x8) (k1_off3 w) S1x1x8.size h).emb (ix3 0 0 k : S1x1x8.Idx) := by
      subst hr
      funext a
      refine Fin.ext ?_
      match a with
      | ⟨0, _⟩ => rfl
      | ⟨1, _⟩ => show r.val = k1_off3 w 1 + 1 * 0; omega
      | ⟨2, _⟩ => show k.val = 0 + 1 * k.val; omega
    rw [e]
    exact Rect.overlay_emb (Rect.unit (s := S1x304x8) (k1_off3 w) S1x1x8.size h) K v _
  · rw [if_neg hr]
    exact Rect.overlay_of_not_mem (Rect.unit (s := S1x304x8) (k1_off3 w) S1x1x8.size h) K v (Rect.not_mem_set_of_axis _ (ix3 0 r k) 1 o.val 1 ho rfl rfl (by
      show r.val < o.val ∨ o.val + 1 ≤ r.val
      have : r.val ≠ o.val := fun q => hr (Fin.ext q)
      omega))

/-- A row of the kept table, read at a lane. -/
theorem keptRow0_at (K : S8x384.Idx → EReal) (l : Fin 384) : keptRow0 (F := Ideal) K (ix2 0 l) = K (ix2 0 l) :=
  congrArg K (funext fun a => Fin.ext (by match a with | ⟨0, _⟩ => rfl | ⟨1, _⟩ => show 0 + 1 * l.val = l.val; omega))
theorem keptRow1_at (K : S8x384.Idx → EReal) (l : Fin 384) : keptRow1 (F := Ideal) K (ix2 0 l) = K (ix2 1 l) :=
  congrArg K (funext fun a => Fin.ext (by match a with | ⟨0, _⟩ => rfl | ⟨1, _⟩ => show 0 + 1 * l.val = l.val; omega))
theorem keptRow2_at (K : S8x384.Idx → EReal) (l : Fin 384) : keptRow2 (F := Ideal) K (ix2 0 l) = K (ix2 2 l) :=
  congrArg K (funext fun a => Fin.ext (by match a with | ⟨0, _⟩ => rfl | ⟨1, _⟩ => show 0 + 1 * l.val = l.val; omega))
theorem keptRow3_at (K : S8x384.Idx → EReal) (l : Fin 384) : keptRow3 (F := Ideal) K (ix2 0 l) = K (ix2 3 l) :=
  congrArg K (funext fun a => Fin.ext (by match a with | ⟨0, _⟩ => rfl | ⟨1, _⟩ => show 0 + 1 * l.val = l.val; omega))
theorem keptRow4_at (K : S8x384.Idx → EReal) (l : Fin 384) : keptRow4 (F := Ideal) K (ix2 0 l) = K (ix2 4 l) :=
  congrArg K (funext fun a => Fin.ext (by match a with | ⟨0, _⟩ => rfl | ⟨1, _⟩ => show 0 + 1 * l.val = l.val; omega))

/-- The rows at the loop's entry are zero. -/
theorem pay1_at (r : Fin 304) (k : Fin 8) : ((k1_pay1 : FVec Ideal S1x304x8 .f32) (ix3 0 r k) : EReal) = 0 := by
  pointwise [k1_pay1]

end Cert.KernelIdeal.Nms
end
-- ==== Proof.NmsValue.lean ====
/-
  The suppression body's loop at the ideal values is the walk in sorted order: its kept table holds the kept candidates'
  moved boxes and areas, and its result's rows are theirs.
-/
module

public import proofs.«01_k».proof.Proof.NmsScalar

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

/-- The candidates' inputs in one batch. -/
abbrev Cands := Fin 20000 → Fin 85 → EReal

/-- The candidates' scores, and which suppresses which. -/
abbrev scores (x : Cands) : Fin 20000 → EReal := fun p => Cand.score (x p)
abbrev hits (x : Cands) : Fin 20000 → Fin 20000 → Prop := fun k c => Cand.hit (x k) (x c)

/-- A kept candidate's row of the result: its own, with its number in the last lane. -/
def keptCell (x : Cands) (p : Fin 20000) (k : Fin 8) : EReal := if k = 7 then ((p.val : ℝ) : EReal) else Cand.cell (x p) k

/-- The result's rows are those of the candidates kept, in order, and zero after them. -/
def OutRows (x : Cands) (K : List (Fin 20000)) (o : S1x304x8.Idx → EReal) : Prop :=
  ∀ (r : Fin 304) (k : Fin 8), o (ix3 0 r k) = (K[r.val]?).elim 0 fun p => keptCell x p k

/-- The kept table's lanes are the kept candidates' moved boxes and areas. -/
def KeptLanes (x : Cands) (K : List (Fin 20000)) (T : S8x384.Idx → EReal) : Prop :=
  ∀ (l : Fin 384) (p : Fin 20000), K[l.val]? = some p →
    T (ix2 0 l) = Cand.moved (x p) 0 ∧ T (ix2 1 l) = Cand.moved (x p) 1 ∧ T (ix2 2 l) = Cand.moved (x p) 2
      ∧ T (ix2 3 l) = Cand.moved (x p) 3 ∧ T (ix2 4 l) = Cand.area (x p)

/-- The loop's state before trip `i` when `K` has been kept. -/
structure Rel (x : Cands) (ord : ℕ → Fin 20000) (i : ℕ) (K : List (Fin 20000)) (s : St Ideal) : Prop where
  cnt : s.cnt = BitVec.ofNat 32 K.length
  pos : s.pos = BitVec.ofNat 32 (ord (min i 19999)).val
  row : ∀ k : Fin 8, s.row (ix2 0 k) = Cand.cell (x (ord (min i 19999))) k
  kept : KeptLanes x K s.kept
  out : OutRows x K s.out

/-- A small number as a word. -/
theorem ofNat_toNat {a : ℕ} (h : a < 2 ^ 31) : (BitVec.ofNat 32 a).toNat = a := by
  simp only [BitVec.toNat_ofNat]; omega

section Fetch

variable (X1 : S1x20000x8.Idx → EReal) (X2 : S1x20000x1.Idx → BitVec 32) (x : Cands) (ord : ℕ → Fin 20000)
  (hX1 : ∀ (p : Fin 20000) (k : Fin 8), X1 (ix3 0 p k) = Cand.cell (x p) k)
  (hX2 : ∀ p : Fin 20000, X2 (ix3 0 p 0) = BitVec.ofNat 32 (ord p.val).val)

include hX1 in
/-- The row at a candidate's number. -/
theorem rowAt_eq (p : Fin 20000) (k : Fin 8) :
    (rowAt (F := Ideal) X1 (BitVec.ofNat 32 p.val) (ix2 0 k) : EReal) = Cand.cell (x p) k := by
  have hp := p.isLt
  have e : (BitVec.ofNat 32 p.val).toNat = p.val := ofNat_toNat (by omega)
  unfold rowAt
  rw [dif_pos (chk4_of_lt _ (by rw [e]; exact hp)), pay14_at, ← hX1 p k]
  refine congrArg X1 (funext fun a => Fin.ext ?_)
  match a with
  | ⟨0, _⟩ => rfl
  | ⟨1, _⟩ => show (BitVec.ofNat 32 p.val).toNat + 1 * 0 = p.val; omega
  | ⟨2, _⟩ => show 0 + 1 * k.val = k.val; omega

include hX2 in
/-- The word fetched after trip `i` is the next candidate's number. -/
theorem wordAt_ord (i : ℕ) (hi : i < 20000) :
    wordAt (F := Ideal) X2 (BitVec.ofNat 32 i) = BitVec.ofNat 32 (ord (min (i + 1) 19999)).val := by
  have e : (BitVec.ofNat 32 i).toNat = i := ofNat_toNat (by omega)
  obtain ⟨y, h, hy⟩ := wordAt_eq (F := Ideal) X2 (BitVec.ofNat 32 i) (by rw [e]; exact hi)
  rw [h]
  rw [e] at hy
  have hy' : y = (ix3 0 ⟨min (i + 1) 19999, by omega⟩ 0 : S1x20000x1.Idx) := by
    funext a
    match a with
    | ⟨0, _⟩ => exact Subsingleton.elim (α := Fin 1) _ _
    | ⟨1, _⟩ => exact Fin.ext hy
    | ⟨2, _⟩ => exact Subsingleton.elim (α := Fin 1) _ _
  rw [hy']
  exact hX2 _

include hX1 hX2 in
/-- The loop's entry. -/
theorem init_rel : Rel x ord 0 [] (init (F := Ideal) X1 X2) where
  cnt := rfl
  pos := (firstWord_eq (F := Ideal) X2).trans (hX2 ⟨0, by decide⟩)
  row := fun k => by
    show (rowAt (F := Ideal) X1 (firstWord (F := Ideal) X2) (ix2 0 k) : EReal) = _
    rw [(firstWord_eq (F := Ideal) X2).trans (hX2 ⟨0, by decide⟩)]
    exact rowAt_eq X1 x hX1 _ k
  kept := fun l p h => by simp at h
  out := fun r k => pay1_at r k

end Fetch

section Trip

variable {x : Cands} {ord : ℕ → Fin 20000} {i : ℕ} {K : List (Fin 20000)} {s : St Ideal}

/-- The candidate's moved corners, as the body computes them. -/
theorem Rel.m0 (R : Rel x ord i K s) : (k1_pay18 lanes8 s.row : EReal) = Cand.moved (x (ord (min i 19999))) 0 := by
  rw [pay18_at, R.row, R.row]; rfl
theorem Rel.m1 (R : Rel x ord i K s) : (k1_pay19 lanes8 s.row : EReal) = Cand.moved (x (ord (min i 19999))) 1 := by
  rw [pay19_at, R.row, R.row]; rfl
theorem Rel.m2 (R : Rel x ord i K s) :
    ((k1_pay15 lanes8 s.row : EReal) + (k1_pay17 lanes8 s.row : EReal) : EReal) = Cand.moved (x (ord (min i 19999))) 2 := by
  rw [pay15_at, pay17_at, R.row, R.row]; rfl
theorem Rel.m3 (R : Rel x ord i K s) :
    ((k1_pay16 lanes8 s.row : EReal) + (k1_pay17 lanes8 s.row : EReal) : EReal) = Cand.moved (x (ord (min i 19999))) 3 := by
  rw [pay16_at, pay17_at, R.row, R.row]; rfl

/-- A comparison with zero. -/
theorem ogt_zero (a : Ideal .f32) : Scalar.cmpf .ogt a (Scalar.ofBits .f32 0x00000000#32) = 1#1 ↔ (0 : EReal) < a := by
  show BitVec.ofBool (decide (Ideal.ofBits .f32 0x00000000#32 < (a : EReal))) = 1#1 ↔ _
  rw [Ideal.ofBits_zero_f32]
  by_cases h : (0 : EReal) < a <;> simp [h]

/-- The test of suppression: a kept candidate suppresses this one. -/
theorem Rel.sup_iff (R : Rel x ord i K s) (hK : K.length ≤ 300) :
    sup s = 1#1 ↔ ∃ k ∈ K, hits x k (ord (min i 19999)) := by
  unfold sup
  rw [ogt_zero, R.cnt, pay23_pos K.length (by omega), R.m0, R.m1, R.m2, R.m3]
  constructor
  · rintro ⟨l, hl, h⟩
    have hm : K[l.val]? = some K[l.val] := List.getElem?_eq_getElem hl
    obtain ⟨h0, h1, h2, h3, h4⟩ := R.kept l _ hm
    rw [keptRow0_at, keptRow1_at, keptRow2_at, keptRow3_at, keptRow4_at, h0, h1, h2, h3, h4] at h
    exact ⟨K[l.val], List.getElem_mem hl, h⟩
  · rintro ⟨k, hk, h⟩
    obtain ⟨l, hl, rfl⟩ := List.getElem_of_mem hk
    have hm : K[l]? = some K[l] := List.getElem?_eq_getElem hl
    obtain ⟨h0, h1, h2, h3, h4⟩ := R.kept ⟨l, by omega⟩ _ hm
    refine ⟨⟨l, by omega⟩, hl, ?_⟩
    rw [keptRow0_at, keptRow1_at, keptRow2_at, keptRow3_at, keptRow4_at, h0, h1, h2, h3, h4]
    exact h

/-- The loop's test. -/
theorem Rel.go_iff (R : Rel x ord i K s) (hK : K.length ≤ 300) (hi : i < 20000) :
    go (BitVec.ofNat 32 i) s = 1#1 ↔ K.length < 300 ∧ 0 < scores x (ord (min i 19999)) := by
  have hs : (k1_pay5 lanes8 s.row : EReal) = scores x (ord (min i 19999)) := by rw [pay5_at, R.row]; rfl
  rw [← hs, ← ogt_zero]
  unfold go
  generalize Scalar.cmpf .ogt (k1_pay5 lanes8 s.row) (Scalar.ofBits .f32 0x00000000#32) = q
  rw [R.cnt]
  have e1 : (BitVec.ofNat 32 i).toNat = i := ofNat_toNat (by omega)
  have e2 : (BitVec.ofNat 32 K.length).toNat = K.length := ofNat_toNat (by omega)
  show IntOp.andi (IntOp.andi (IntOp.cmpi .slt (BitVec.ofNat 32 i) 20000#32) (IntOp.cmpi .slt (BitVec.ofNat 32 K.length) 300#32)) q = 1#1 ↔ _
  rw [WordCmp.cmpi_slt_of_lt (by omega) (by decide), WordCmp.cmpi_slt_of_lt (by omega) (by decide), e1, e2,
    show decide (i < (20000#32 : BitVec 32).toNat) = true from decide_eq_true hi]
  show IntOp.andi (IntOp.andi 1#1 (BitVec.ofBool (decide (K.length < 300)))) q = 1#1 ↔ _
  have hq : q = 0#1 ∨ q = 1#1 := by revert q; decide
  by_cases h : K.length < 300 <;> rcases hq with rfl | rfl <;> simp [h, IntOp.andi]

/-- The kept table after an insertion, its first five rows. -/
theorem keep_at (s : St Ideal) (r : Fin 8) (l : Fin 384) :
    (keep s (ix2 r l) : EReal) =
      if r = 4 then k1_pay11 lanesK s.cnt (k1_pay22 (k1_pay15 lanes8 s.row) (k1_pay16 lanes8 s.row) (k1_pay17 lanes8 s.row) (k1_pay18 lanes8 s.row)
          (k1_pay19 lanes8 s.row)) (keptRow4 s.kept) (ix2 0 l)
      else if r = 3 then k1_pay10 lanesK s.cnt (k1_pay21 (k1_pay16 lanes8 s.row) (k1_pay17 lanes8 s.row)) (keptRow3 s.kept) (ix2 0 l)
      else if r = 2 then k1_pay9 lanesK s.cnt (k1_pay20 (k1_pay15 lanes8 s.row) (k1_pay17 lanes8 s.row)) (keptRow2 s.kept) (ix2 0 l)
      else if r = 1 then k1_pay8 lanesK s.cnt (k1_pay19 lanes8 s.row) (keptRow1 s.kept) (ix2 0 l)
      else if r = 0 then k1_pay7 lanesK s.cnt (k1_pay18 lanes8 s.row) (keptRow0 s.kept) (ix2 0 l)
      else s.kept (ix2 r l) :=
  (overlay_row 4 _ _ _ r l).trans (if_congr Iff.rfl rfl ((overlay_row 3 _ _ _ r l).trans (if_congr Iff.rfl rfl
    ((overlay_row 2 _ _ _ r l).trans (if_congr Iff.rfl rfl ((overlay_row 1 _ _ _ r l).trans (if_congr Iff.rfl rfl
      (overlay_row 0 _ _ _ r l))))))))

/-- Choosing by a lane number. -/
theorem select_lane (l : Fin 384) (n : ℕ) (hn : n ≤ 384) (a b : EReal) :
    Scalar.select (IntOp.cmpi .eq (BitVec.ofNat 32 l.val) (BitVec.ofNat 32 n)) a b = if l.val = n then a else b := by
  have hl := l.isLt
  have e : IntOp.cmpi .eq (BitVec.ofNat 32 l.val) (BitVec.ofNat 32 n) = BitVec.ofBool (decide (l.val = n)) := by
    show BitVec.ofBool (BitVec.ofNat 32 l.val == BitVec.ofNat 32 n) = _
    congr 1
    rw [beq_eq_decide]
    refine decide_eq_decide.2 ⟨fun h => ?_, fun h => by rw [h]⟩
    have := congrArg BitVec.toNat h
    rwa [ofNat_toNat (by omega), ofNat_toNat (by omega)] at this
  rw [e]
  by_cases h : l.val = n <;> simp [h, Scalar.select]

/-- The kept table after the insertion of the candidate. -/
theorem Rel.keep_lanes (R : Rel x ord i K s) (hK : K.length < 300) :
    KeptLanes x (K ++ [ord (min i 19999)]) (keep s) := by
  intro l p hp
  have hl := l.isLt
  have c0 : k1_pay20 (F := Ideal) (k1_pay15 lanes8 s.row) (k1_pay17 lanes8 s.row) = Cand.moved (x (ord (min i 19999))) 2 := R.m2
  have c1 : k1_pay21 (F := Ideal) (k1_pay16 lanes8 s.row) (k1_pay17 lanes8 s.row) = Cand.moved (x (ord (min i 19999))) 3 := R.m3
  have c2 : k1_pay22 (F := Ideal) (k1_pay15 lanes8 s.row) (k1_pay16 lanes8 s.row) (k1_pay17 lanes8 s.row) (k1_pay18 lanes8 s.row)
      (k1_pay19 lanes8 s.row) = Cand.area (x (ord (min i 19999))) := by
    show ((_ + _ : EReal) - _) * ((_ + _ : EReal) - _) = _
    rw [R.m0, R.m1, R.m2, R.m3]; rfl
  have r0 : (keep s (ix2 0 l) : EReal) = if l.val = K.length then Cand.moved (x (ord (min i 19999))) 0 else s.kept (ix2 0 l) := by
    rw [keep_at, if_neg (by decide), if_neg (by decide), if_neg (by decide), if_neg (by decide), if_pos rfl, pay7_at, R.cnt,
      select_lane _ _ (by omega), R.m0, keptRow0_at]
  have r1 : (keep s (ix2 1 l) : EReal) = if l.val = K.length then Cand.moved (x (ord (min i 19999))) 1 else s.kept (ix2 1 l) := by
    rw [keep_at, if_neg (by decide), if_neg (by decide), if_neg (by decide), if_pos rfl, pay8_at, R.cnt,
      select_lane _ _ (by omega), R.m1, keptRow1_at]
  have r2 : (keep s (ix2 2 l) : EReal) = if l.val = K.length then Cand.moved (x (ord (min i 19999))) 2 else s.kept (ix2 2 l) := by
    rw [keep_at, if_neg (by decide), if_neg (by decide), if_pos rfl, pay9_at, R.cnt,
      select_lane _ _ (by omega), c0, keptRow2_at]
  have r3 : (keep s (ix2 3 l) : EReal) = if l.val = K.length then Cand.moved (x (ord (min i 19999))) 3 else s.kept (ix2 3 l) := by
    rw [keep_at, if_neg (by decide), if_pos rfl, pay10_at, R.cnt, select_lane _ _ (by omega), c1, keptRow3_at]
  have r4 : (keep s (ix2 4 l) : EReal) = if l.val = K.length then Cand.area (x (ord (min i 19999))) else s.kept (ix2 4 l) := by
    rw [keep_at, if_pos rfl, pay11_at, R.cnt, select_lane _ _ (by omega), c2, keptRow4_at]
  rw [r0, r1, r2, r3, r4]
  by_cases h : l.val = K.length
  · rw [List.getElem?_append_right (by omega), h, Nat.sub_self] at hp
    simp only [List.getElem?_cons_zero, Option.some.injEq] at hp
    simp only [if_pos h, hp, and_self]
  · simp only [if_neg h]
    by_cases h' : l.val < K.length
    · rw [List.getElem?_append_left h'] at hp
      exact R.kept l p hp
    · rw [List.getElem?_eq_none (by simp; omega)] at hp
      cases hp

/-- The rows written after the insertion of the candidate. -/
theorem Rel.put_rows (R : Rel x ord i K s) (hK : K.length < 300) :
    OutRows x (K ++ [ord (min i 19999)]) (put s) := by
  intro r k
  have hr := r.isLt
  have hc : s.cnt.toNat = K.length := by rw [R.cnt]; exact ofNat_toNat (by omega)
  have e : (put s (ix3 0 r k) : EReal) = if r = ⟨K.length, by omega⟩ then keptCell x (ord (min i 19999)) k else s.out (ix3 0 r k) := by
    unfold put
    rw [dif_pos (put_inb _ (by omega))]
    refine (overlay_out ⟨K.length, by omega⟩ s.cnt hc _ _ _ r k).trans (if_congr Iff.rfl ?_ rfl)
    rw [pay12_at, R.pos, R.row]
    unfold keptCell
    have hp := (ord (min i 19999)).isLt
    rw [BitVec.toInt_eq_toNat_of_lt (by rw [ofNat_toNat (by omega)]; omega), ofNat_toNat (by omega)]
    norm_cast
  rw [e]
  by_cases h : r.val = K.length
  · rw [if_pos (Fin.ext h), List.getElem?_append_right (by omega), h, Nat.sub_self]
    rfl
  · rw [if_neg fun q => h (congrArg Fin.val q)]
    by_cases h' : r.val < K.length
    · rw [List.getElem?_append_left h']
      exact R.out r k
    · rw [List.getElem?_eq_none (by simp; omega)]
      have := R.out r k
      rw [List.getElem?_eq_none (by omega)] at this
      exact this

end Trip

section Loop

variable (X1 : S1x20000x8.Idx → EReal) (X2 : S1x20000x1.Idx → BitVec 32) (x : Cands) (ord : ℕ → Fin 20000)
  (hX1 : ∀ (p : Fin 20000) (k : Fin 8), X1 (ix3 0 p k) = Cand.cell (x p) k)
  (hX2 : ∀ p : Fin 20000, X2 (ix3 0 p 0) = BitVec.ofNat 32 (ord p.val).val)

open Classical in
include hX1 hX2 in
/-- A trip keeps the relation: the candidate is kept unless a kept one suppresses it. -/
theorem next_rel {i : ℕ} {K : List (Fin 20000)} {s : St Ideal} (R : Rel x ord i K s) (hi : i < 20000) (hK : K.length < 300) :
    Rel x ord (i + 1) (if ∃ k ∈ K, hits x k (ord i) then K else K ++ [ord i]) (next X1 X2 (BitVec.ofNat 32 i) s) := by
  have hm : min i 19999 = i := by omega
  have hs := R.sup_iff (by omega)
  have hk := R.keep_lanes hK
  have hp := R.put_rows hK
  rw [hm] at hs hk hp
  have hw := wordAt_ord X2 ord hX2 i hi
  have pos : (next X1 X2 (BitVec.ofNat 32 i) s).pos = BitVec.ofNat 32 (ord (min (i + 1) 19999)).val := hw
  have row : ∀ k : Fin 8, (next X1 X2 (BitVec.ofNat 32 i) s).row (ix2 0 k) = Cand.cell (x (ord (min (i + 1) 19999))) k := by
    intro k
    show (rowAt (F := Ideal) X1 (wordAt (F := Ideal) X2 (BitVec.ofNat 32 i)) (ix2 0 k) : EReal) = _
    rw [hw]
    exact rowAt_eq X1 x hX1 _ k
  by_cases h : sup s = 1#1
  · rw [if_pos (hs.1 h)]
    have hc : ¬ k1_cond1 (sup s) = 1#1 := by rw [h]; decide
    refine ⟨?_, pos, row, ?_, ?_⟩
    · show Scalar.addi s.cnt (Scalar.select (sup s) 0#32 1#32) = _
      rw [h, R.cnt]
      show BitVec.ofNat 32 K.length + 0#32 = _
      rw [BitVec.add_zero]
    · show KeptLanes x K (if k1_cond1 (sup s) = 1#1 then keep s else s.kept)
      rw [if_neg hc]; exact R.kept
    · show OutRows x K (if k1_cond1 (sup s) = 1#1 then put s else s.out)
      rw [if_neg hc]; exact R.out
  · rw [if_neg fun q => h (hs.2 q)]
    have h0 : sup s = 0#1 := by
      have : ∀ q : BitVec 1, q ≠ 1#1 → q = 0#1 := by decide
      exact this _ h
    have hc : k1_cond1 (sup s) = 1#1 := by rw [h0]; decide
    refine ⟨?_, pos, row, ?_, ?_⟩
    · show Scalar.addi s.cnt (Scalar.select (sup s) 0#32 1#32) = _
      rw [h0, R.cnt, List.length_append]
      show BitVec.ofNat 32 K.length + 1#32 = BitVec.ofNat 32 (K.length + 1)
      rw [BitVec.ofNat_add]
    · show KeptLanes x _ (if k1_cond1 (sup s) = 1#1 then keep s else s.kept)
      rw [if_pos hc]; exact hk
    · show OutRows x _ (if k1_cond1 (sup s) = 1#1 then put s else s.out)
      rw [if_pos hc]; exact hp

include hX1 hX2 in
/-- The loop is the walk. -/
theorem run_walk : ∀ (f i : ℕ) (K : List (Fin 20000)) (s : St Ideal), i + f = 20000 → K.length ≤ 300 → Rel x ord i K s →
    OutRows x (Greedy.walk (scores x) (hits x) ord 300 f i K) (run X1 X2 f (BitVec.ofNat 32 i) s).out
  | 0, _, _, _, _, _, R => R.out
  | f + 1, i, K, s, hf, hK, R => by
    have hg := R.go_iff hK (by omega)
    rw [show min i 19999 = i by omega] at hg
    unfold run Greedy.walk
    by_cases h : go (BitVec.ofNat 32 i) s = 1#1
    · rw [if_pos h, if_pos (hg.1 h)]
      have e : Scalar.addi (BitVec.ofNat 32 i) 1#32 = BitVec.ofNat 32 (i + 1) := by
        show BitVec.ofNat 32 i + 1#32 = _
        rw [BitVec.ofNat_add]
      rw [e]
      have hl := (hg.1 h).1
      have hn := next_rel X1 X2 x ord hX1 hX2 R (by omega) hl
      by_cases hh : ∃ k ∈ K, hits x k (ord i)
      · rw [if_pos hh] at hn ⊢
        exact run_walk f (i + 1) _ _ (by omega) hK hn
      · rw [if_neg hh] at hn ⊢
        exact run_walk f (i + 1) _ _ (by omega) (by rw [List.length_append]; exact hl) hn
    · rw [if_neg h, if_neg fun q => h (hg.2 q)]
      exact R.out

include hX1 hX2 in
/-- The rows the body leaves are those of the candidates the walk keeps. -/
theorem nmsRows_walk : OutRows x (Greedy.walk (scores x) (hits x) ord 300 20000 0 []) (nmsRows (F := Ideal) X1 X2) := by
  have h := run_walk X1 X2 x ord hX1 hX2 20000 0 [] (init (F := Ideal) X1 X2) (Nat.zero_add _) (Nat.zero_le _)
    (init_rel X1 X2 x ord hX1 hX2)
  unfold nmsRows
  generalize Greedy.walk (scores x) (hits x) ord 300 20000 0 [] = L at h ⊢
  generalize (20000 : ℕ) = f at h ⊢
  exact h

end Loop

end Cert.KernelIdeal.Nms
end
-- ==== Proof.OrderValue.lean ====
/-
  The sorted order at the ideal values: it lists every candidate once, by falling score, ties by number; and the suppression
  call's result under that order: the rows of the candidates the walk keeps.
-/
module

public import proofs.«01_k».proof.Proof.DataValue
public import proofs.«01_k».proof.Proof.NmsValue
public import Idealize.ShloMosaic.Lib.SortFacts

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.ShloMosaic.Pipeline (Dat)

section Stable

variable {n : ℕ} (s : Fin n → EReal) (R : Fin n → Fin n → Bool) (hR : ∀ k k', R k k' = true ↔ s k' < s k)

include hR in
/-- Inserting a position smaller than all of a list in order keeps the order. -/
theorem insert_before (a : Fin n) : ∀ l : List (Fin n), (∀ b ∈ l, a < b) → l.Pairwise (Greedy.Before s) →
    (insertBefore R a l).Pairwise (Greedy.Before s)
  | [], _, _ => List.pairwise_singleton _ _
  | b :: l, ha, hl => by
    have hb := ha b (List.mem_cons_self ..)
    have hl' := List.pairwise_cons.1 hl
    unfold insertBefore
    split
    · rename_i h
      refine List.pairwise_cons.2 ⟨fun c hc => ?_, insert_before a l (fun c hc => ha c (List.mem_cons_of_mem _ hc)) hl'.2⟩
      rcases List.mem_cons.1 ((perm_insertBefore R a l).mem_iff.1 hc) with rfl | hc'
      · exact Or.inl ((hR _ _).1 h)
      · exact hl'.1 c hc'
    · rename_i h
      have hab : s b ≤ s a := not_lt.1 fun q => h ((hR _ _).2 q)
      have close : ∀ c, s c ≤ s a → a < c → Greedy.Before s a c := fun c q q' => by
        rcases lt_or_eq_of_le q with r | r
        · exact Or.inl r
        · exact Or.inr ⟨r, q'⟩
      refine List.pairwise_cons.2 ⟨fun c hc => ?_, hl⟩
      rcases List.mem_cons.1 hc with rfl | hc'
      · exact close _ hab hb
      · refine close c ?_ (ha c hc)
        rcases hl'.1 c hc' with q | q
        · exact q.le.trans hab
        · exact q.1.le.trans hab

include hR in
/-- The stable sort of positions in number order lists them by falling score, ties by number. -/
theorem sort_before : ∀ l : List (Fin n), l.Pairwise (· < ·) → (stableSort R l).Pairwise (Greedy.Before s)
  | [], _ => List.Pairwise.nil
  | a :: l, h => by
    have h' := List.pairwise_cons.1 h
    exact insert_before s R hR a _ (fun b hb => h'.1 b ((perm_stableSort R l).mem_iff.1 hb)) (sort_before l h'.2)

include hR in
theorem sortedFrom_before (i j : Fin n) (hij : i < j) : Greedy.Before s (sortedFrom R i) (sortedFrom R j) :=
  List.pairwise_iff_get.1 (sort_before s R hR (List.finRange n) (List.pairwise_lt_finRange n)) _ _ hij

include hR in
/-- The positions sorted, as an order. -/
theorem sorted_of (hn : 0 < n) : Greedy.Sorted s fun j => if h : j < n then sortedFrom R ⟨j, h⟩ else ⟨0, hn⟩ where
  all c := by
    obtain ⟨k, hk⟩ := sortedFrom_surjective R c
    exact ⟨k.val, k.isLt, by rw [dif_pos k.isLt]; exact hk⟩
  before a b hab hb := by
    show Greedy.Before s (dite _ _ _) (dite _ _ _)
    rw [dif_pos (hab.trans hb), dif_pos hb]
    exact sortedFrom_before s R hR _ _ hab

end Stable

/-- The printed comparator is "less". -/
theorem comparator_less (l r : EReal × BitVec 32) :
    comparator_f32_i32_d1 (F := Ideal) l r = BitVec.ofBool (decide (l.1 < r.1)) := by
  obtain ⟨a, _⟩ := l
  obtain ⟨b, _⟩ := r
  have sel : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have e1 : FloatOps.cmpf (F := Ideal) (φ := .f32) .une z z = 0#1 := by
      show BitVec.ofBool (decide (z ≠ z)) = 0#1
      simp
    rw [e1]
    show (if BitVec.ofBool (decide (z = Ideal.ofBits .f32 0x00000000#32)) = 1 then Ideal.ofBits .f32 0x00000000#32 else z) = z
    by_cases h : z = Ideal.ofBits .f32 0x00000000#32
    · rw [← h]; exact ite_self _
    · rw [decide_eq_false h]; rfl
  show FloatOps.cmpfTotal (F := Ideal) (φ := .f32) .lt (Scalar.select _ _ (Scalar.select _ _ _)) (Scalar.select _ _ (Scalar.select _ _ _)) = _
  rw [sel a, sel b]
  rfl

/-- The negated score the sort orders by. -/
theorem negScores_at (A : S4x20000x85.Idx → EReal) (b : Fin 4) (p : Fin 20000) :
    (negScores (F := Ideal) (data A) (ix2 b p) : EReal) = -(Cand.score (Cand.cand A b p)) := by
  have h := v7_at A b p 6
  generalize hz : Cand.score (Cand.cand A b p) = z
  have hz' : Cand.cell (Cand.cand A b p) 6 = z := hz
  rw [hz'] at h
  unfold negScores
  revert h
  generalize (shapeCast S4x20000x8 (data A : FVec Ideal S4x8x2500x8 .f32) shapeCasts_S4x8x2500x8_S4x20000x8 : S4x20000x8.Idx → EReal) = D
  intro h
  pointwise
  rw [h]

/-- The candidates of a batch, from the first argument. -/
abbrev candsOf (A : S4x20000x85.Idx → EReal) (b : Fin 4) : Cands := fun p => Cand.cand A b p

/-- What a sort along the second axis carries along, read at an entry. -/
theorem sort2_snd {α β : Type} (cmp : α × β → α × β → BitVec 1) (x : S4x20000.Idx → α) (y : S4x20000.Idx → β) (b : Fin 4) (p : Fin 20000) :
    (Host.sort2 S4x20000 1 cmp x y).2 (ix2 b p)
      = y (ix2 b (sortedFrom (fun k k' : Fin 20000 => cmp (x (ix2 b k), y (ix2 b k)) (x (ix2 b k'), y (ix2 b k')) == 1#1) p)) := by
  have hal : (fun k : Fin 20000 => Shape.Idx.along (s := S4x20000) (ix2 b p) (1 : Fin 2) k) = fun k => (ix2 b k : S4x20000.Idx) := by
    funext k a
    match a with
    | ⟨0, _⟩ => rfl
    | ⟨1, _⟩ => rfl
  unfold Host.sort2
  rw [dif_pos (show 1 < S4x20000.rank by decide)]
  exact congrArg (fun g : Fin 20000 → S4x20000.Idx =>
    y (g (sortedFrom (fun k k' : Fin 20000 => cmp (x (g k), y (g k)) (x (g k'), y (g k')) == 1#1) p))) hal

/-- The order of a batch lists its candidates by falling score, ties by number. -/
theorem order_sorted (A : S4x20000x85.Idx → EReal) (b : Fin 4) : ∃ ord : ℕ → Fin 20000,
    Greedy.Sorted (scores (candsOf A b)) ord
      ∧ ∀ p : Fin 20000, (order (F := Ideal) (data A) (ix2 b p) : BitVec 32) = BitVec.ofNat 32 (ord p.val).val := by
  let R : Fin 20000 → Fin 20000 → Bool := fun k k' =>
    comparator_f32_i32_d1 (F := Ideal) (negScores (F := Ideal) (data A) (ix2 b k), iotaInDim S4x20000 32 1 (ix2 b k))
      (negScores (F := Ideal) (data A) (ix2 b k'), iotaInDim S4x20000 32 1 (ix2 b k')) == 1#1
  have hR : ∀ k k', R k k' = true ↔ scores (candsOf A b) k' < scores (candsOf A b) k := by
    intro k k'
    show (_ == _) = true ↔ _
    rw [comparator_less, negScores_at, negScores_at, beq_iff_eq]
    show BitVec.ofBool (decide (-(Cand.score (Cand.cand A b k)) < -(Cand.score (Cand.cand A b k')))) = 1#1 ↔ _
    rw [← EReal.neg_lt_neg_iff (a := Cand.score (Cand.cand A b k))]
    by_cases h : -(Cand.score (Cand.cand A b k)) < -(Cand.score (Cand.cand A b k')) <;> simp [h]
  refine ⟨_, sorted_of (scores (candsOf A b)) R hR (by decide), fun p => ?_⟩
  rw [dif_pos p.isLt]
  unfold order
  rw [sort2_snd]
  rfl

end Cert.KernelIdeal.Nms
end
-- ==== Proof.KeptValue.lean ====
/-
  The suppression call's result at the ideal values: row `r` of batch `b` is the `r`-th candidate the walk keeps there.
-/
module

public import proofs.«01_k».proof.Proof.OrderValue

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.ShloMosaic.Pipeline (Dat)

/-- The second launch's grid: one batch a point, each window's block the batch's. -/
theorem idx1 : ∀ t : Fin (cfg1 (F := Ideal)).N,
    win1_0.index t = ![t.val, 0, 0] ∧ win1_1.index t = ![t.val, 0, 0] ∧ win1_2.index t = ![t.val, 0, 0] ∧ t.val < 4 :=
  (by decide +kernel : ∀ t : Fin grid1.N, _)

/-- The order of a batch. -/
def ordOf (A : S4x20000x85.Idx → EReal) (b : Fin 4) : ℕ → Fin 20000 := (order_sorted A b).choose

/-- The candidates the walk keeps in a batch. -/
def keptOf (A : S4x20000x85.Idx → EReal) (b : Fin 4) : List (Fin 20000) :=
  Greedy.walk (scores (candsOf A b)) (hits (candsOf A b)) (ordOf A b) 300 20000 0 []

/-- Their rows, zero after them. -/
def kept (A : S4x20000x85.Idx → EReal) : S4x304x8.Idx → EReal := fun i =>
  ((keptOf A (i 0))[(i 1).val]?).elim 0 fun p => keptCell (candsOf A (i 0)) p (i 2)

section Blocks

variable (V : (c : Dev nD) → (b : Ref sig .tc) → Buf (Elt Ideal) ((c : Thread nD τ).loc b)) (c : Dev nD)
  (t : Fin (cfg1 (F := Ideal)).N)

/-- The two input blocks at a point, and the result's. -/
theorem rows_at (p : Fin 20000) (k : Fin 8) :
    rowsBlk V c t (ix3 0 p k) = (V c main_v7 : S4x20000x8.Idx → EReal) (ix3 ⟨t.val, (idx1 t).2.2.2⟩ p k) := by
  blk_ext [rowsBlk, idx1 t]
theorem ord_at (p : Fin 20000) :
    ordBlk V c t (ix3 0 p 0) = (V c main_v13 : S4x20000x1.Idx → BitVec 32) (ix3 ⟨t.val, (idx1 t).2.2.2⟩ p 0) := by
  blk_ext [ordBlk, idx1 t]
theorem emb1_2 (r : Fin 304) (k : Fin 8) :
    ((win1_2.blk t).view.emb (ix3 0 r k) : S4x304x8.Idx) = ix3 ⟨t.val, (idx1 t).2.2.2⟩ r k := by
  blk_ext [idx1 t]

end Blocks

variable (m : (ℓ : Loc nD τ sig) → Buf (Elt Ideal) ℓ)

/-- The first argument on a core. -/
abbrev arg0 (c : Dev nD) : S4x20000x85.Idx → EReal := m ((c : Thread nD τ).loc main_arg0)

/-- The two arrays the call takes. -/
theorem V3_v7 (c : Dev nD) (b : Fin 4) (p : Fin 20000) (k : Fin 8) :
    (V3 m (outsA m) c main_v7 : S4x20000x8.Idx → EReal) (ix3 b p k) = Cand.cell (Cand.cand (arg0 m c) b p) k := by
  have h : (V2 m (outsA m) c main_v6 : S4x8x2500x8.Idx → EReal) = data (arg0 m c) := by
    unfold V2
    rw [Function.update_self, outsA_v6]
    exact out6_eq m c
  refine (congrFun (after1_v7 (F := Ideal) (V2 m (outsA m) c)) (ix3 b p k)).trans ?_
  rw [h]
  exact v7_at _ b p k

theorem V3_v13 (c : Dev nD) (b : Fin 4) (p : Fin 20000) :
    (V3 m (outsA m) c main_v13 : S4x20000x1.Idx → BitVec 32) (ix3 b p 0) = BitVec.ofNat 32 (ordOf (arg0 m c) b p.val).val := by
  have h : (V2 m (outsA m) c main_v6 : S4x8x2500x8.Idx → EReal) = data (arg0 m c) := by
    unfold V2
    rw [Function.update_self, outsA_v6]
    exact out6_eq m c
  refine (congrFun (after1_v13 (F := Ideal) (V2 m (outsA m) c)) (ix3 b p 0)).trans ?_
  rw [h]
  refine Eq.trans ?_ ((order_sorted (arg0 m c) b).choose_spec.2 p)
  generalize order (F := Ideal) (data (arg0 m c)) = D
  generalize hz : D (ix2 b p) = z
  pointwise
  exact hz

theorem out_idx_row (y : S1x304x8.Idx) : y = ix3 0 (y 1) (y 2) := by
  funext a
  match a with
  | ⟨0, _⟩ => exact Subsingleton.elim (α := Fin 1) _ _
  | ⟨1, _⟩ => rfl
  | ⟨2, _⟩ => rfl

/-- What a point leaves is the kept rows' block. -/
theorem point1 (c : Dev nD) (t : Fin (cfg1 (F := Ideal)).N) (r : Fin 304) (k : Fin 8) :
    (nmsRows (F := Ideal) (rowsBlk (fun c b => V3 m (outsA m) c b) c t) (ordBlk (fun c b => V3 m (outsA m) c b) c t) (ix3 0 r k) : EReal)
      = kept (arg0 m c) ((win1_2.blk t).view.emb (ix3 0 r k)) := by
  rw [emb1_2]
  exact nmsRows_walk _ _ (candsOf (arg0 m c) ⟨t.val, (idx1 t).2.2.2⟩) (ordOf (arg0 m c) ⟨t.val, (idx1 t).2.2.2⟩)
    (fun p k => (rows_at _ c t p k).trans (V3_v7 m c _ p k)) (fun p => (ord_at _ c t p).trans (V3_v13 m c _ p)) r k

theorem out14_eq (c : Dev nD) : (out14 m c : S4x304x8.Idx → EReal) = kept (arg0 m c) := by
  unfold out14
  refine Dat.arrAt_eq_of_covers _ 2 _ (by decide +kernel) fun t hf y => ?_
  blk_simp
  have e := out_idx_row y
  exact (congrArg (nmsRows (F := Ideal) (rowsBlk (fun c b => V3 m (outsA m) c b) c t) (ordBlk (fun c b => V3 m (outsA m) c b) c t)) e).trans
    ((point1 m c t (y 1) (y 2)).trans (congrArg (fun z => kept (arg0 m c) ((win1_2.blk t).view.emb z)) e.symm))

end Cert.KernelIdeal.Nms
end
-- ==== Proof.Take.lean ====
/-
  The batched row take and the single-row write, read at an index: a gather over [B, N, C] with one row number per
  (batch, output row), and a scatter of one row number into [B, K, C].
-/
module

public import Idealize.ShloMosaic.Lib.ValueIdxCore
public import Idealize.ShloMosaic.Lib.Routing.OpsSet
public import Idealize.ShloMosaic.Lib.Routing.OpsPair

@[expose] public section

noncomputable section

namespace Cert.Take

open Idealize.ShloMosaic Idealize.ShloMosaic.ValueIdx

variable {α : Type}

/-- The dimension numbers of the batched row take. -/
abbrev dims (B N C R : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- The batched take at (b, r, c): column `c` of the row whose number is at (b, r), read signed and clamped. -/
theorem gather_at {B N C R w : Nat} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (c : Fin C) :
    Host.gather (dims B N C R wf) x idx (ix3 b r c)
      = x (ix3 b ⟨min (idx (ix3 b r 0)).toInt.toNat (N - 1), by omega⟩ c) := by
  unfold Host.gather
  congr 1
  funext a
  refine Fin.ext ?_
  show (dims B N C R wf).start (ix3 b r c) idx a + (dims B N C R wf).batchCoord (ix3 b r c) a
      + (dims B N C R wf).offCoord (ix3 b r c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims B N C R wf).startIndexMap from List.mem_singleton.mpr rfl)]
    have hsi : (dims B N C R wf).siIdx (ix3 b r c) ⟨List.idxOf (1 : Fin 3) (dims B N C R wf).startIndexMap,
        List.idxOf_lt_length_iff.2 (List.mem_singleton.mpr rfl)⟩ = ix3 b r 0 := by
      funext q; refine Fin.ext ?_
      match q with
      | ⟨0, _⟩ => rfl
      | ⟨1, _⟩ => rfl
      | ⟨2, _⟩ => rfl
    exact congrArg (fun z => min (idx z).toInt.toNat (N - 1)) hsi
  · rw [GatherDims.batchCoord_eq_zero _ _ _ (fun h => by simp at h)]
    unfold GatherDims.start
    rw [dif_neg (by simp)]
    simp only [Nat.zero_add, Nat.add_zero]
    unfold GatherDims.offCoord
    rw [dif_pos ((GatherDims.mem_sKept _ _).mpr ⟨by simp, by simp⟩)]
    rfl

/-- The same at a row number that is in range. -/
theorem gather_row {B N C R w : Nat}
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (c : Fin C)
    (p : Fin N) (hp : (idx (ix3 b r 0)).toInt = (p.val : ℤ)) :
    Host.gather (dims B N C R wf) x idx (ix3 b r c) = x (ix3 b p c) := by
  rw [gather_at (by have := p.isLt; omega)]
  congr 2
  refine Fin.ext ?_
  simp only [hp, Int.toNat_natCast]
  have := p.isLt
  omega

/-- The dimension numbers of the row write. -/
abbrev setDims (B K C : Nat) (wf : ScatterDims.WF ⟨3, ![B, K, C]⟩ ⟨1, ![1]⟩ ⟨2, ![B, C]⟩ [0, 1] [1] [1] 0) :
    ScatterDims ⟨3, ![B, K, C]⟩ ⟨1, ![1]⟩ ⟨2, ![B, C]⟩ where
  updateWindowDims := [0, 1]
  insertedWindowDims := [1]
  scatterDimsToOperandDims := [1]
  indexVectorDim := 0
  wf := wf

/-- Update (b, c) of the row write lands at (b, k, c), where `k` is the row number held. -/
theorem set_lands {B K C w : Nat} (wf : ScatterDims.WF ⟨3, ![B, K, C]⟩ ⟨1, ![1]⟩ ⟨2, ![B, C]⟩ [0, 1] [1] [1] 0)
    (idx : IVec ⟨1, ![1]⟩ w) (k : Fin K) (hk : (idx (ix1 0)).toInt = (k.val : ℤ)) (b : Fin B) (c : Fin C)
    (ι : (⟨3, ![B, K, C]⟩ : Shape).Idx) :
    (setDims B K C wf).resultIdx? (ix2 b c) idx = some ι ↔ ι = ix3 b k c := by
  have m1 : (1 : Fin 3) ∈ (setDims B K C wf).scatterDimsToOperandDims := List.mem_singleton.2 rfl
  have s0 : (setDims B K C wf).start (ix2 b c) idx 0 = 0 := by
    unfold ScatterDims.start
    rw [dif_neg fun h => absurd (List.mem_singleton.1 h) (by decide : (0 : Fin 3) ≠ 1)]
  have s2 : (setDims B K C wf).start (ix2 b c) idx 2 = 0 := by
    unfold ScatterDims.start
    rw [dif_neg fun h => absurd (List.mem_singleton.1 h) (by decide : (2 : Fin 3) ≠ 1)]
  have s1 : (setDims B K C wf).start (ix2 b c) idx 1 = (k.val : ℤ) := by
    unfold ScatterDims.start
    rw [dif_pos m1]
    have hsi : (setDims B K C wf).siIdx (ix2 b c) ⟨(setDims B K C wf).scatterDimsToOperandDims.idxOf 1,
        List.idxOf_lt_length_iff.2 m1⟩ = ix1 (0 : Fin 1) := by
      funext q
      match q with
      | ⟨0, _⟩ => exact Subsingleton.elim (α := Fin 1) _ _
    rw [hsi, hk]
  have w1 : (setDims B K C wf).window (ix2 b c) 1 = 0 := by
    unfold ScatterDims.window
    rw [dif_neg fun h => (of_decide_eq_true (List.mem_filter.1 h).2) (List.mem_singleton.2 rfl)]
  have kept : (setDims B K C wf).sKept = [0, 2] := rfl
  have w0 : (setDims B K C wf).window (ix2 b c) 0 = b.val := by
    unfold ScatterDims.window
    rw [dif_pos (by rw [kept]; simp)]
    rfl
  have w2 : (setDims B K C wf).window (ix2 b c) 2 = c.val := by
    unfold ScatterDims.window
    rw [dif_pos (by rw [kept]; simp)]
    rfl
  rw [Routing.resultIdx?_eq_some]
  constructor
  · intro h
    have h0 := h 0
    have h1 := h 1
    have h2 := h 2
    rw [s0, w0] at h0
    rw [s1, w1] at h1
    rw [s2, w2] at h2
    funext q
    refine Fin.ext ?_
    match q with
    | ⟨0, _⟩ => show (ι 0).val = b.val; omega
    | ⟨1, _⟩ => show (ι 1).val = k.val; omega
    | ⟨2, _⟩ => show (ι 2).val = c.val; omega
  · rintro rfl a
    match a with
    | ⟨0, _⟩ => exact (by rw [s0, w0]; simp : (setDims B K C wf).start (ix2 b c) idx 0 + ((setDims B K C wf).window (ix2 b c) 0 : ℤ) = (b.val : ℤ))
    | ⟨1, _⟩ => exact (by rw [s1, w1]; simp : (setDims B K C wf).start (ix2 b c) idx 1 + ((setDims B K C wf).window (ix2 b c) 1 : ℤ) = (k.val : ℤ))
    | ⟨2, _⟩ => exact (by rw [s2, w2]; simp : (setDims B K C wf).start (ix2 b c) idx 2 + ((setDims B K C wf).window (ix2 b c) 2 : ℤ) = (c.val : ℤ))

/-- The row write at (b, r, c): the update in row `k`, the operand in the others. -/
theorem set_row {B K C w : Nat} (wf : ScatterDims.WF ⟨3, ![B, K, C]⟩ ⟨1, ![1]⟩ ⟨2, ![B, C]⟩ [0, 1] [1] [1] 0)
    (x : (⟨3, ![B, K, C]⟩ : Shape).Idx → α) (idx : IVec ⟨1, ![1]⟩ w) (upd : (⟨2, ![B, C]⟩ : Shape).Idx → α)
    (k : Fin K) (hk : (idx (ix1 0)).toInt = (k.val : ℤ)) (b : Fin B) (r : Fin K) (c : Fin C) :
    Host.scatter (setDims B K C wf) (fun _ u => u) x idx upd (ix3 b r c) = if r = k then upd (ix2 b c) else x (ix3 b r c) := by
  have coord : ∀ j : (⟨2, ![B, C]⟩ : Shape).Idx, j = ix2 (j 0) (j 1) := fun j => by
    funext q
    match q with
    | ⟨0, _⟩ => rfl
    | ⟨1, _⟩ => rfl
  have lands : ∀ j : (⟨2, ![B, C]⟩ : Shape).Idx, (setDims B K C wf).resultIdx? j idx = some (ix3 b r c) →
      j = ix2 b c ∧ r = k := by
    intro j hj
    have e := coord j
    rw [e] at hj
    have h := (set_lands wf idx k hk (j 0) (j 1) _).1 hj
    have h0 : b = j 0 := congrFun h 0
    have h1 : r = k := congrFun h 1
    have h2 : c = j 1 := congrFun h 2
    refine ⟨?_, h1⟩
    rw [h0, h2]; exact e
  by_cases h : r = k
  · rw [if_pos h]
    exact Routing.scatter_set_hit _ x idx upd _ _ (fun j hj => congrArg upd (lands j hj).1) (ix2 b c)
      ((set_lands wf idx k hk b c _).2 (by rw [h]))
  · rw [if_neg h]
    exact Routing.scatter_set_miss _ x idx upd _ fun j hj => h (lands j hj).2

end Cert.Take
end
-- ==== Proof.TailValue.lean ====
/-
  The kernel's two results at the ideal values: row `r` of a batch is the box, confidence and class of the `r`-th candidate
  kept there, and its logits; zero past the last one kept.
-/
module

public import proofs.«01_k».proof.Proof.KeptValue
public import proofs.«01_k».proof.Proof.Take
public import Idealize.ShloMosaic.Lib.StableHlo.ReadAt
public import Idealize.ShloMosaic.Lib.ReduceAll
public import Idealize.ShloMosaic.Lib.Pointwise

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.ShloMosaic.StableHlo

/-- A small natural, as a value, converts back to its word. -/
theorem word_of_nat (n : ℕ) (h : n < 20000) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num <;> omega), max_eq_right (by norm_num <;> omega)]
  exact BitVec.ofInt_natCast 32 n

section Stretches

variable (X : Valuation τ sig (Elt Ideal)) (b : Fin 4) (r : Fin 300)

/-- The call's rows, and the logits. -/
abbrev rows14 : S4x304x8.Idx → EReal := X main_v14
abbrev arg1 : S4x20000x80.Idx → EReal := X main_arg1

theorem det15 (j : Fin 6) : (after hostOps2 X main_v15 : S4x300x6.Idx → EReal) (ix3 b r j)
    = rows14 X (ix3 b ⟨r.val, by omega⟩ ⟨j.val, by omega⟩) := by
  after_reads_at
theorem num22 : (after hostOps2 X main_v22 : S4x300x1.Idx → BitVec 32) (ix3 b r 0)
    = Ideal.fptosi 32 (rows14 X (ix3 b ⟨r.val, by omega⟩ 7)) := by
  after_reads_at
  rfl
theorem pos21 : (after hostOps2 X main_v21 : S4x300x1.Idx → BitVec 1) (ix3 b r 0)
    = BitVec.ofBool (decide ((0 : EReal) < rows14 X (ix3 b ⟨r.val, by omega⟩ 4))) := by
  after_reads_at
theorem zero0 : (after hostOps2_2 X main_cst_0 : S_.Idx → EReal) ix0 = (0 : EReal) := by
  after_reads_at
theorem out24 (j : Fin 80) : (after hostOps2_3 X main_v24 : S4x300x80.Idx → EReal) (ix3 b r j)
    = Scalar.select ((X main_v21 : S4x300x1.Idx → BitVec 1) (ix3 b r 0)) ((X main_v23 : S4x300x80.Idx → EReal) (ix3 b r j))
        ((X main_cst_0 : S_.Idx → EReal) ix0) := by
  after_reads_at
  rfl

/-- The rows' numbers, a negative one wrapped round. -/
abbrev wrapped (I : S4x300x1.Idx → BitVec 32) : S4x300x1.Idx → BitVec 32 :=
  select (cmpi .slt I (broadcastInDim S4x300x1 ![] bcast_S_S4x300x1 (constantI S_ 32 0#32)))
    (addi I (broadcastInDim S4x300x1 ![] bcast_S_S4x300x1 (constantI S_ 32 20000#32))) I

/-- A number of a row is not negative, hence not wrapped round. -/
theorem wrap_row (I : S4x300x1.Idx → BitVec 32) (i : S4x300x1.Idx) (p : Fin 20000) (h : I i = BitVec.ofNat 32 p.val) :
    wrapped I i = BitVec.ofNat 32 p.val := by
  have hp := p.isLt
  show Scalar.select (IntOp.cmpi .slt (I i) 0#32) (IntOp.addi (I i) 20000#32) (I i) = _
  rw [h]
  have e : IntOp.cmpi .slt (BitVec.ofNat 32 p.val) 0#32 = 0#1 := by
    show BitVec.ofBool (BitVec.slt _ _) = _
    rw [show BitVec.slt (BitVec.ofNat 32 p.val) 0#32 = false from by
      rw [BitVec.slt, decide_eq_false_iff_not, BitVec.toInt_eq_toNat_of_lt (by rw [BitVec.toNat_ofNat]; omega)]
      simp
      omega]
    rfl
  rw [e]
  rfl

/-- Which rows' numbers are in range. -/
abbrev inRange (I : S4x300x1.Idx → BitVec 32) : S4x300x1.Idx → BitVec 1 :=
  andi (cmpi .sge (wrapped I) (broadcastInDim S4x300x1 ![] bcast_S_S4x300x1 (constantI S_ 32 0#32)))
    (cmpi .sle (wrapped I) (broadcastInDim S4x300x1 ![0, 1, 2] bcast_S1x1x1_S4x300x1_0_1_2
      (broadcastInDim S1x1x1 ![2] bcast_S1_S1x1x1_2 (constantI S1 32 19999#32))))

theorem inRange_at (I : S4x300x1.Idx → BitVec 32) (i : S4x300x1.Idx) (q : Fin 20000) (hq : I i = BitVec.ofNat 32 q.val) :
    inRange I i = 1#1 := by
  have hql := q.isLt
  show IntOp.andi (IntOp.cmpi .sge (wrapped I i) 0#32) (IntOp.cmpi .sle (wrapped I i) 19999#32) = 1#1
  rw [wrap_row I i q hq]
  have e1 : IntOp.cmpi .sge (BitVec.ofNat 32 q.val) 0#32 = 1#1 := by
    refine IntOp.cmpi_sge.2 ?_
    rw [BitVec.toInt_eq_toNat_of_lt (x := BitVec.ofNat 32 q.val) (by rw [BitVec.toNat_ofNat]; omega)]
    exact Int.natCast_nonneg _
  have e2 : IntOp.cmpi .sle (BitVec.ofNat 32 q.val) 19999#32 = 1#1 := by
    refine IntOp.cmpi_sle.2 ?_
    rw [BitVec.toInt_eq_toNat_of_lt (by rw [BitVec.toNat_ofNat]; omega), BitVec.toNat_ofNat, Nat.mod_eq_of_lt (by omega),
      show (19999#32 : BitVec 32).toInt = 19999 from rfl]
    omega
  rw [e1, e2]
  rfl

theorem spread_at (j : Fin 80) (z : S4x300.Idx → BitVec 1) :
    broadcastInDim S4x300x80 ![0, 1] bcast_S4x300_S4x300x80_0_1 z (ix3 b r j) = z (ix2 b r) := by
  pointwise

set_option maxRecDepth 100000 in
theorem read23 : (after hostOps2_1 X main_v23 : S4x300x80.Idx → EReal)
    = select (broadcastInDim S4x300x80 ![0, 1] bcast_S4x300_S4x300x80_0_1
        (Host.reduce IntOp.andi (inRange (X main_v22 : S4x300x1.Idx → BitVec 32)) (constantI S_ 1 1#1) reducesTo_S4x300x1_S4x300_d2 h_S_))
      (Host.gather gather_S4x20000x80_S4x300x1_S4x300x80_2_1_0_0_1_2_1180 (arg1 X) (wrapped (X main_v22 : S4x300x1.Idx → BitVec 32)))
      (broadcastInDim S4x300x80 ![] bcast_S_S4x300x80 (constant (F := Ideal) S_ .f32 0x7FC00000#32)) := by
  after_results
  rfl

/-- The rows taken: each is the logits' at its number. -/
theorem take23 (h : ∀ i : S4x300x1.Idx, ∃ p : Fin 20000, (X main_v22 : S4x300x1.Idx → BitVec 32) i = BitVec.ofNat 32 p.val)
    (p : Fin 20000) (hp : (X main_v22 : S4x300x1.Idx → BitVec 32) (ix3 b r 0) = BitVec.ofNat 32 p.val) (j : Fin 80) :
    (after hostOps2_1 X main_v23 : S4x300x80.Idx → EReal) (ix3 b r j) = arg1 X (ix3 b p j) := by
  rw [read23]
  have hpl := p.isLt
  have hm : Host.reduce IntOp.andi (inRange (X main_v22 : S4x300x1.Idx → BitVec 32)) (constantI S_ 1 1#1) reducesTo_S4x300x1_S4x300_d2 h_S_
      (ix2 b r) = 1#1 :=
    Host.reduce_andi_one _ _ _ _ _ rfl fun i => by
      obtain ⟨q, hq⟩ := h i
      exact inRange_at _ i q hq
  have hb : broadcastInDim S4x300x80 ![0, 1] bcast_S4x300_S4x300x80_0_1
      (Host.reduce IntOp.andi (inRange (X main_v22 : S4x300x1.Idx → BitVec 32)) (constantI S_ 1 1#1) reducesTo_S4x300x1_S4x300_d2 h_S_)
      (ix3 b r j) = 1#1 := by
    exact (spread_at b r j _).trans hm
  refine (if_pos hb).trans (Take.gather_row gather_S4x20000x80_S4x300x1_S4x300x80_2_1_0_0_1_2_1180_wf _ _ b r j p ?_)
  refine (congrArg BitVec.toInt (wrap_row _ (ix3 b r 0) p hp)).trans ?_
  rw [BitVec.toInt_eq_toNat_of_lt (by rw [BitVec.toNat_ofNat]; omega), BitVec.toNat_ofNat,
    Nat.mod_eq_of_lt (by omega)]

end Stretches

open Classical in
/-- What the walk keeps has a positive score. -/
theorem walk_pos {n : ℕ} (s : Fin n → EReal) (hit : Fin n → Fin n → Prop) (ord : ℕ → Fin n) (cap : ℕ) :
    ∀ (f i : ℕ) (K : List (Fin n)), (∀ q ∈ K, 0 < s q) → ∀ q ∈ Greedy.walk s hit ord cap f i K, 0 < s q
  | 0, _, _, h => h
  | f + 1, i, K, h => by
    unfold Greedy.walk
    split
    next hc =>
      refine walk_pos s hit ord cap f (i + 1) _ fun q hq => ?_
      split at hq
      · exact h q hq
      · rcases List.mem_append.1 hq with hq | hq
        · exact h q hq
        · rw [List.mem_singleton.1 hq]; exact hc.2
    · exact h

variable (m : (ℓ : Loc nD τ sig) → Buf (Elt Ideal) ℓ) (c : Dev nD)

/-- The second argument on a core. -/
abbrev arg1Of : S4x20000x80.Idx → EReal := m ((c : Thread nD τ).loc main_arg1)

/-- The call's rows as the host reads them. -/
theorem V4_rows : rows14 (V4 m (outs m) c) = kept (arg0 m c) := by
  show V4 m (outs m) c main_v14 = _
  unfold V4
  rw [Function.update_self, outs_v14, out14_eq]

theorem V4_logits : arg1 (V5 m (outs m) c) = arg1Of m c :=
  (V5_of m (outs m) c main_arg1 (by decide)).trans ((V4_of m (outs m) c main_arg1 (by decide)).trans
    ((V3_of m (outs m) c main_arg1 (by decide)).trans ((V2_of m (outs m) c main_arg1 (by decide)).trans (V1_of m c main_arg1 (by decide)))))

variable (b : Fin 4) (r : Fin 300)

/-- **The first result.** -/
theorem v15_at (j : Fin 6) : (V8 m (outs m) c main_v15 : S4x300x6.Idx → EReal) (ix3 b r j)
    = ((keptOf (arg0 m c) b)[r.val]?).elim 0 fun p => keptCell (candsOf (arg0 m c) b) p ⟨j.val, by omega⟩ := by
  refine (congrFun ((V8_of m (outs m) c main_v15 (by decide)).trans ((V7_of m (outs m) c main_v15 (by decide)).trans
    (V6_of m (outs m) c main_v15 (by decide)))) _).trans ((det15 (V4 m (outs m) c) b r j).trans ?_)
  rw [V4_rows]
  rfl

/-- Each row's number is a candidate's: the one kept, or the first past them. -/
theorem num_at : (V5 m (outs m) c main_v22 : S4x300x1.Idx → BitVec 32) (ix3 b r 0)
    = BitVec.ofNat 32 (((keptOf (arg0 m c) b)[r.val]?).elim 0 fun p => p.val) := by
  refine (num22 (V4 m (outs m) c) b r).trans ?_
  rw [V4_rows]
  show Ideal.fptosi 32 (((keptOf (arg0 m c) b)[r.val]?).elim 0 fun p => keptCell (candsOf (arg0 m c) b) p 7) = _
  cases h : (keptOf (arg0 m c) b)[r.val]? with
  | none =>
    have := word_of_nat 0 (by omega)
    rw [Nat.cast_zero, EReal.coe_zero] at this
    exact this
  | some p => exact word_of_nat p.val p.isLt

theorem num_lt : (((keptOf (arg0 m c) b)[r.val]?).elim 0 fun p => p.val) < 20000 := by
  cases h : (keptOf (arg0 m c) b)[r.val]? with
  | none => exact Nat.succ_pos _
  | some p => exact p.isLt

/-- A value taken at the candidate's number where the confidence is positive is the candidate's, and zero where there is none. -/
theorem row_taken (o : Option (Fin 20000)) (hl : (o.elim 0 fun p => p.val) < 20000) (cf : Fin 20000 → EReal)
    (hpos : ∀ p, o = some p → 0 < cf p) (f : Fin 20000 → EReal) :
    Scalar.select (BitVec.ofBool (decide ((0 : EReal) < o.elim 0 cf))) (f ⟨o.elim 0 fun p => p.val, hl⟩) 0 = o.elim 0 f := by
  cases o with
  | none =>
    rw [show decide ((0 : EReal) < (none : Option (Fin 20000)).elim 0 cf) = false from decide_eq_false (lt_irrefl _)]
    rfl
  | some p =>
    rw [show decide ((0 : EReal) < (some p).elim 0 cf) = true from decide_eq_true (hpos p rfl)]
    rfl

/-- **The second result.** -/
theorem v24_at (j : Fin 80) : (V8 m (outs m) c main_v24 : S4x300x80.Idx → EReal) (ix3 b r j)
    = ((keptOf (arg0 m c) b)[r.val]?).elim 0 fun p => arg1Of m c (ix3 b p j) := by
  have hall : ∀ i : S4x300x1.Idx, ∃ p : Fin 20000, (V5 m (outs m) c main_v22 : S4x300x1.Idx → BitVec 32) i = BitVec.ofNat 32 p.val := fun i => by
    have e : i = ix3 (i 0) (i 1) 0 := by
      funext a
      match a with
      | ⟨0, _⟩ => rfl
      | ⟨1, _⟩ => rfl
      | ⟨2, _⟩ => exact Subsingleton.elim (α := Fin 1) _ _
    rw [e]
    exact ⟨⟨_, num_lt m c (i 0) (i 1)⟩, num_at m c (i 0) (i 1)⟩
  have e23 : (V6 m (outs m) c main_v23 : S4x300x80.Idx → EReal) (ix3 b r j) = _ := take23 (V5 m (outs m) c) b r hall ⟨_, num_lt m c b r⟩ (num_at m c b r) j
  rw [V4_logits] at e23
  have e21 : (V7 m (outs m) c main_v21 : S4x300x1.Idx → BitVec 1) (ix3 b r 0) = _ :=
    (congrFun ((V7_of m (outs m) c main_v21 (by decide)).trans (V6_of m (outs m) c main_v21 (by decide))) _).trans
      (pos21 (V4 m (outs m) c) b r)
  refine (out24 (V7 m (outs m) c) b r j).trans ?_
  rw [e21, show (V7 m (outs m) c main_v23 : S4x300x80.Idx → EReal) = _ from V7_of m (outs m) c main_v23 (by decide), e23,
    show (V7 m (outs m) c main_cst_0 : S_.Idx → EReal) ix0 = (0 : EReal) from zero0 _, V4_rows]
  have ek : kept (arg0 m c) (ix3 b ⟨r.val, by omega⟩ 4)
      = ((keptOf (arg0 m c) b)[r.val]?).elim 0 fun p => Cand.conf (candsOf (arg0 m c) b p) := rfl
  rw [ek]
  exact row_taken _ (num_lt m c b r) (fun p => Cand.conf (candsOf (arg0 m c) b p)) (fun p h => by
    have hp : 0 < Cand.score (candsOf (arg0 m c) b p) :=
      walk_pos (scores (candsOf (arg0 m c) b)) (hits (candsOf (arg0 m c) b)) (ordOf (arg0 m c) b) 300 20000 0 []
        (fun q hq => absurd hq (List.not_mem_nil)) p (List.mem_of_getElem? h)
    have e := Cand.score_pos hp
    rw [e] at hp
    exact hp) (fun p => arg1Of m c (ix3 b p j))

end Cert.KernelIdeal.Nms
end
-- ==== Proof.ArgMax.lean ====
/-
  The reference's arg-max at the ideal values: the result is an entry no other entry beats — the largest value, and the
  smallest index among the largest.
-/
module

public import proofs.«01_k».proof.Proof.Greedy
public import proofs.«01_k».proof.ReferenceIdeal

@[expose] public section

noncomputable section

namespace Cert.ArgMax

open Idealize.ShloMosaic Cert.ReferenceIdeal

/-- Entry `a` is at least as good as entry `b`: a larger value, or the same value at a signed index no larger. -/
def Dom (a b : EReal × BitVec 32) : Prop := b.1 < a.1 ∨ (b.1 = a.1 ∧ a.2.toInt ≤ b.2.toInt)

theorem Dom.refl (a : EReal × BitVec 32) : Dom a a := Or.inr ⟨rfl, le_refl _⟩

theorem Dom.trans {a b c : EReal × BitVec 32} (h : Dom a b) (h' : Dom b c) : Dom a c := by
  unfold Dom at *
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- The reducer keeps its left entry where that one is strictly better, else its right one. -/
theorem reducer_eq (a b : EReal × BitVec 32) :
    reducer_argmax_f32_i32 (F := Ideal) a b
      = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, IntOp.cmpi, IntOp.ori, IntOp.andi, Scalar.select, BitVec.slt]
  by_cases h1 : b1 < a1
  · have e : ∀ z : BitVec 1, 1#1 ||| z = 1#1 := by decide
    simp [h1, e]
  · by_cases h2 : a1 = b1
    · subst h2
      by_cases h3 : a2.toInt < b2.toInt
      · simp [h3]
      · simp [h3]
    · simp [h1, h2]

/-- The reducer's result is as good as both its entries, and is one of them. -/
theorem reducer_dom (a b : EReal × BitVec 32) :
    Dom (reducer_argmax_f32_i32 (F := Ideal) a b) a ∧ Dom (reducer_argmax_f32_i32 (F := Ideal) a b) b
      ∧ (reducer_argmax_f32_i32 (F := Ideal) a b = a ∨ reducer_argmax_f32_i32 (F := Ideal) a b = b) := by
  rw [reducer_eq]
  split
  · rename_i h
    refine ⟨Dom.refl a, ?_, Or.inl rfl⟩
    rcases h with h | ⟨h, i⟩
    · exact Or.inl h
    · exact Or.inr ⟨h.symm, i.le⟩
  · rename_i h
    simp only [not_or, not_lt, not_and] at h
    refine ⟨?_, Dom.refl b, Or.inr rfl⟩
    rcases lt_or_eq_of_le h.1 with h1 | h1
    · exact Or.inl h1
    · exact Or.inr ⟨h1, h.2 h1⟩

/-- The fold's result is as good as the initial entry and every entry of the list, and is one of them. -/
theorem foldl_dom (l : List (EReal × BitVec 32)) : ∀ a : EReal × BitVec 32,
    Dom (l.foldl (reducer_argmax_f32_i32 (F := Ideal)) a) a
      ∧ (∀ b ∈ l, Dom (l.foldl (reducer_argmax_f32_i32 (F := Ideal)) a) b)
      ∧ (l.foldl (reducer_argmax_f32_i32 (F := Ideal)) a = a ∨ l.foldl (reducer_argmax_f32_i32 (F := Ideal)) a ∈ l) := by
  induction l with
  | nil => intro a; exact ⟨Dom.refl a, by simp, Or.inl rfl⟩
  | cons e l ih =>
    intro a
    obtain ⟨h1, h2, h3⟩ := ih (reducer_argmax_f32_i32 (F := Ideal) a e)
    obtain ⟨g1, g2, g3⟩ := reducer_dom a e
    rw [List.foldl_cons]
    refine ⟨h1.trans g1, ?_, ?_⟩
    · intro b hb
      rcases List.mem_cons.1 hb with rfl | hb
      · exact h1.trans g2
      · exact h2 b hb
    · rcases h3 with h3 | h3
      · rcases g3 with g3 | g3
        · exact Or.inl (h3.trans g3)
        · exact Or.inr (List.mem_cons.2 (Or.inl (h3.trans g3)))
      · exact Or.inr (List.mem_cons.2 (Or.inr h3))

/-- A small index read signed is itself. -/
theorem toInt_ofNat {d : ℕ} (h : d < 2 ^ 31) : (BitVec.ofNat 32 d).toInt = (d : ℤ) := by
  rw [BitVec.toInt_eq_toNat_of_lt] <;> simp only [BitVec.toNat_ofNat] <;> omega

/-- The arg-max of a row: its index is the row's pick. The row is `w`, its entries at the source indices `pt d`, and beside
    each its own index; the initial entry is below every value. -/
theorem argmax_pick {s t u : Shape} {axes : List (Fin s.rank)} (x : s.Idx → EReal) (y : s.Idx → BitVec 32)
    (ix : u.Idx → EReal) (iy : u.Idx → BitVec 32) (h : s.ReducesTo axes t) (hu : 0 < u.numel) (j : t.Idx)
    {n : ℕ} (hn : 0 < n) (hn' : n ≤ 2 ^ 31) (pt : Fin n → s.Idx) (hpt : ∀ i, h.drop i = j ↔ ∃ d, i = pt d)
    (w : Fin n → EReal) (hx : ∀ d, x (pt d) = w d) (hy : ∀ d, y (pt d) = BitVec.ofNat 32 d.val)
    (hi : ix (Shape.Idx.first hu) = ⊥) (hi' : iy (Shape.Idx.first hu) = 0#32) :
    ∃ p : Fin n, (Host.argReduce (F := Ideal) (φ := .f32) reducer_argmax_f32_i32 x y ix iy h hu j).2 = BitVec.ofNat 32 p.val
      ∧ Greedy.IsPick w p := by
  rw [Ideal.argReduce_eq_reduce2, Host.reduce2_eq_foldl_fiber, hi, hi']
  obtain ⟨h1, h2, h3⟩ := foldl_dom (Host.argReduceFiber x y h j) ((⊥ : EReal), 0#32)
  generalize (Host.argReduceFiber x y h j).foldl (reducer_argmax_f32_i32 (F := Ideal)) ((⊥ : EReal), 0#32) = r at h1 h2 h3
  have mem : ∀ d, (w d, BitVec.ofNat 32 d.val) ∈ Host.argReduceFiber x y h j := by
    intro d
    unfold Host.argReduceFiber
    refine List.mem_map.2 ⟨s.rowMajor (pt d), List.mem_filter.2 ⟨List.mem_finRange _, ?_⟩, ?_⟩
    · simp only [Equiv.symm_apply_apply, decide_eq_true_eq]
      exact (hpt _).2 ⟨d, rfl⟩
    · simp only [Equiv.symm_apply_apply, hx, hy]
  have dom : ∀ d, Dom r (w d, BitVec.ofNat 32 d.val) := fun d => h2 _ (mem d)
  have key : ∃ p : Fin n, r = (w p, BitVec.ofNat 32 p.val) := by
    rcases h3 with h3 | h3
    · refine ⟨⟨0, hn⟩, ?_⟩
      have := dom ⟨0, hn⟩
      rw [h3] at this ⊢
      rcases this with this | this
      · exact absurd this not_lt_bot
      · simp only at this
        rw [this.1]
    · unfold Host.argReduceFiber at h3
      obtain ⟨k, hk, hk'⟩ := List.mem_map.1 h3
      have hd := (List.mem_filter.1 hk).2
      simp only [decide_eq_true_eq] at hd
      obtain ⟨d, hd⟩ := (hpt _).1 hd
      refine ⟨d, ?_⟩
      rw [← hk', hd, hx, hy]
  obtain ⟨p, hp⟩ := key
  refine ⟨p, by rw [hp], ?_, ?_⟩
  · intro d
    have := dom d
    rw [hp] at this
    rcases this with this | this
    · exact this.le
    · exact this.1.le
  · intro d hd
    have := dom d
    rw [hp] at this
    rcases this with this | this
    · exact absurd hd this.ne
    · have h := this.2
      simp only at h
      rw [toInt_ofNat (by have := p.isLt; omega), toInt_ofNat (by have := d.isLt; omega)] at h
      exact Fin.le_def.2 (by omega)

end Cert.ArgMax
end
-- ==== Proof.RefRead.lean ====
/-
  The reference's loop body at the ideal values, stretch by stretch: what each leaves in the buffers read later, at an entry,
  from any contents before it.
-/
module

public import proofs.«01_k».proof.Proof.RefFold
public import proofs.«01_k».proof.Proof.ArgMax
public import proofs.«01_k».proof.Proof.Take
public import proofs.«01_k».proof.Proof.Cand
public import Idealize.ShloMosaic.Lib.StableHlo.ReadAt
public import Idealize.ShloMosaic.Lib.Pipeline.ValueKit
public import Idealize.ShloMosaic.Lib.Pointwise

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

variable (X : Valuation τ sig (Elt Ideal)) (b : Fin 4)

/-! ## The pick -/

/-- Which entries a row's reduction reads. -/
theorem drop_row (i : S4x20000.Idx) : reducesTo_S4x20000_S4_d1.drop i = ix1 b ↔ ∃ d : Fin 20000, i = ix2 b d := by
  have h := reducesTo_S4x20000_S4_d1.drop_apply_val i 0
  constructor
  · intro e
    rw [e] at h
    refine ⟨i 1, funext fun a => ?_⟩
    match a with
    | ⟨0, _⟩ => exact Fin.ext h.symm
    | ⟨1, _⟩ => rfl
  · rintro ⟨d, rfl⟩
    funext a
    match a with
    | ⟨0, _⟩ => exact Fin.ext h

/-- The buffers the loop carries: boxes, confidences, classes, logits, moved boxes, numbers, counter, scores, and the two results. -/
abbrev bxs : S4x20000x4.Idx → EReal := X main_v33_0
abbrev cfs : S4x20000.Idx → EReal := X main_v33_1
abbrev cls : S4x20000.Idx → EReal := X main_v33_2
abbrev lgs : S4x20000x80.Idx → EReal := X main_v33_3
abbrev mvs : S4x20000x4.Idx → EReal := X main_v33_4
abbrev ids : S4x20000.Idx → BitVec 32 := X main_v33_5
abbrev ctr : S_.Idx → BitVec 32 := X main_v33_7
abbrev sws : S4x20000.Idx → EReal := X main_v33_8
abbrev dets : S4x300x6.Idx → EReal := X main_v33_9
abbrev logs : S4x300x80.Idx → EReal := X main_v33_10

set_option maxRecDepth 100000 in
theorem read1 : (after while0Ops0_1 X main_while0b_v35 : S4.Idx → BitVec 32)
    = (fun j => (Host.argReduce (F := Ideal) (φ := .f32) reducer_argmax_f32_i32 (sws X) (iotaInDim S4x20000 32 1)
        (constant S_ .f32 0xFF800000#32) (constantI S_ 32 0#32) reducesTo_S4x20000_S4_d1 h_S_ j).2) := by
  after_results
  rfl

/-- The first place where the carried scores are largest. -/
theorem pick_at : ∃ p : Fin 20000, (after while0Ops0_1 X main_while0b_v35 : S4.Idx → BitVec 32) (ix1 b) = BitVec.ofNat 32 p.val
    ∧ Greedy.IsPick (fun p => sws X (ix2 b p)) p := by
  rw [read1]
  exact ArgMax.argmax_pick _ _ _ _ _ _ (ix1 b) (by decide) (by decide) (fun d => ix2 b d) (drop_row b) _ (fun _ => rfl) (fun _ => rfl)
    Cand.bits_bot rfl

/-- The largest value is the one at the pick. -/
theorem fold_pick {n : ℕ} (w : Fin n → EReal) (p : Fin n) (hp : Greedy.IsPick w p) :
    Finset.fold max (Ideal.ofBits FTy.f32 4286578688#32) (fun x => w x) Finset.univ = w p := by
  rw [Cand.bits_bot]
  refine le_antisymm ?_ ?_
  · rw [Finset.fold_max_le]
    exact ⟨bot_le, fun q _ => hp.1 q⟩
  · rw [Finset.le_fold_max]
    exact Or.inr ⟨p, Finset.mem_univ _, le_refl _⟩

/-- Whether the largest carried score is positive. -/
theorem valid_at (p : Fin 20000) (hp : Greedy.IsPick (fun p => sws X (ix2 b p)) p) :
    (after while0Ops0_2 X main_while0b_v38 : S4.Idx → BitVec 1) (ix1 b) = BitVec.ofBool (decide (0 < sws X (ix2 b p))) := by
  rw [← fold_pick _ p hp]
  generalize hz : Finset.fold max (Ideal.ofBits FTy.f32 4286578688#32) (fun x => sws X (ix2 b x)) Finset.univ = z
  after_reads_at
  rw [hz]

/-! ## Copies of the pick, and the rows it takes -/

theorem pick39 : (after while0Ops0_2 X main_while0b_v39 : S4x1x1.Idx → BitVec 32) (ix3 b 0 0) = (X main_while0b_v35 : S4.Idx → BitVec 32) (ix1 b) := by
  after_reads_at
theorem pick43 : (after while0Ops0_4 X main_while0b_v43 : S4x1x1.Idx → BitVec 32) (ix3 b 0 0) = (X main_while0b_v35 : S4.Idx → BitVec 32) (ix1 b) := by
  after_reads_at
theorem pick47 : (after while0Ops0_6 X main_while0b_v47 : S4x1x1.Idx → BitVec 32) (ix3 b 0 0) = (X main_while0b_v35 : S4.Idx → BitVec 32) (ix1 b) := by
  after_reads_at
theorem pick60 : (after while0Ops0_10 X main_while0b_v60 : S4x1x1.Idx → BitVec 32) (ix3 b 0 0) = (X main_while0b_v35 : S4.Idx → BitVec 32) (ix1 b) := by
  after_reads_at
theorem pick70 : (after while0Ops0_14 X main_while0b_v70 : S4x1x1.Idx → BitVec 32) (ix3 b 0 0) = (X main_while0b_v35 : S4.Idx → BitVec 32) (ix1 b) := by
  after_reads_at

/-- A row number that is not negative is not wrapped round. -/
theorem wrap_at (I : S4x1x1.Idx → BitVec 32) (p : Fin 20000) (h : I (ix3 b 0 0) = BitVec.ofNat 32 p.val) :
    ((select (cmpi .slt I (broadcastInDim S4x1x1 ![] bcast_S_S4x1x1 (constantI S_ 32 0#32)))
      (addi I (broadcastInDim S4x1x1 ![] bcast_S_S4x1x1 (constantI S_ 32 20000#32))) I : S4x1x1.Idx → BitVec 32) (ix3 b 0 0)).toInt = (p.val : ℤ) := by
  have hp := p.isLt
  have e : (select (cmpi .slt I (broadcastInDim S4x1x1 ![] bcast_S_S4x1x1 (constantI S_ 32 0#32)))
      (addi I (broadcastInDim S4x1x1 ![] bcast_S_S4x1x1 (constantI S_ 32 20000#32))) I : S4x1x1.Idx → BitVec 32) (ix3 b 0 0)
        = Scalar.select (IntOp.cmpi .slt (I (ix3 b 0 0)) 0#32) (IntOp.addi (I (ix3 b 0 0)) 20000#32) (I (ix3 b 0 0)) := rfl
  rw [e, h, Routing.wrap_of_lt _ _ (by rw [BitVec.toNat_ofNat]; omega), ArgMax.toInt_ofNat (by omega)]

section Rows
set_option maxRecDepth 100000

/-- The rows gathered at the pick: box, confidence, class, logits, moved box. -/
theorem box40 (p : Fin 20000) (h : (X main_while0b_v39 : S4x1x1.Idx → BitVec 32) (ix3 b 0 0) = BitVec.ofNat 32 p.val) (c : Fin 4) :
    (after while0Ops0_3 X main_while0b_v40 : S4x1x4.Idx → EReal) (ix3 b 0 c) = bxs X (ix3 b p c) := by
  after_results
  exact Take.gather_row gather_S4x20000x4_S4x1x1_S4x1x4_2_1_0_0_1_2_114_wf _ _ b 0 c p (wrap_at b _ p h)
theorem conf44 (p : Fin 20000) (h : (X main_while0b_v43 : S4x1x1.Idx → BitVec 32) (ix3 b 0 0) = BitVec.ofNat 32 p.val) :
    (after while0Ops0_5 X main_while0b_v44 : S4x1x1.Idx → EReal) (ix3 b 0 0) = (X main_while0b_v42 : S4x20000x1.Idx → EReal) (ix3 b p 0) := by
  after_results
  exact Take.gather_row gather_S4x20000x1_S4x1x1_S4x1x1_2_1_0_0_1_2_111_wf _ _ b 0 0 p (wrap_at b _ p h)
theorem cls48 (p : Fin 20000) (h : (X main_while0b_v47 : S4x1x1.Idx → BitVec 32) (ix3 b 0 0) = BitVec.ofNat 32 p.val) :
    (after while0Ops0_7 X main_while0b_v48 : S4x1x1.Idx → EReal) (ix3 b 0 0) = (X main_while0b_v46 : S4x20000x1.Idx → EReal) (ix3 b p 0) := by
  after_results
  exact Take.gather_row gather_S4x20000x1_S4x1x1_S4x1x1_2_1_0_0_1_2_111_wf _ _ b 0 0 p (wrap_at b _ p h)
theorem log61 (p : Fin 20000) (h : (X main_while0b_v60 : S4x1x1.Idx → BitVec 32) (ix3 b 0 0) = BitVec.ofNat 32 p.val) (c : Fin 80) :
    (after while0Ops0_11 X main_while0b_v61 : S4x1x80.Idx → EReal) (ix3 b 0 c) = lgs X (ix3 b p c) := by
  after_results
  exact Take.gather_row gather_S4x20000x80_S4x1x1_S4x1x80_2_1_0_0_1_2_1180_wf _ _ b 0 c p (wrap_at b _ p h)
theorem moved71 (p : Fin 20000) (h : (X main_while0b_v70 : S4x1x1.Idx → BitVec 32) (ix3 b 0 0) = BitVec.ofNat 32 p.val) (c : Fin 4) :
    (after while0Ops0_15 X main_while0b_v71 : S4x1x4.Idx → EReal) (ix3 b 0 c) = mvs X (ix3 b p c) := by
  after_results
  exact Take.gather_row gather_S4x20000x4_S4x1x1_S4x1x4_2_1_0_0_1_2_114_wf _ _ b 0 c p (wrap_at b _ p h)

end Rows

/-! ## The rows written -/

theorem box41 (c : Fin 4) : (after while0Ops0_4 X main_while0b_v41 : S4x4.Idx → EReal) (ix2 b c) = (X main_while0b_v40 : S4x1x4.Idx → EReal) (ix3 b 0 c) := by
  after_reads_at
theorem conf42 (p : Fin 20000) : (after while0Ops0_4 X main_while0b_v42 : S4x20000x1.Idx → EReal) (ix3 b p 0) = cfs X (ix2 b p) := by
  after_reads_at
theorem conf45 : (after while0Ops0_6 X main_while0b_v45 : S4x1.Idx → EReal) (ix2 b 0) = (X main_while0b_v44 : S4x1x1.Idx → EReal) (ix3 b 0 0) := by
  after_reads_at
theorem cls46 (p : Fin 20000) : (after while0Ops0_6 X main_while0b_v46 : S4x20000x1.Idx → EReal) (ix3 b p 0) = cls X (ix2 b p) := by
  after_reads_at
theorem valid51 : (after while0Ops0_8 X main_while0b_v51 : S4x1.Idx → BitVec 1) (ix2 b 0) = (X main_while0b_v38 : S4.Idx → BitVec 1) (ix1 b) := by
  after_reads_at
theorem zero22 : (after while0Ops0_8 X main_while0b_cst_22 : S_.Idx → EReal) ix0 = (0 : EReal) := by
  after_reads_at
theorem row50 (c : Fin 6) : (after while0Ops0_8 X main_while0b_v50 : S4x6.Idx → EReal) (ix2 b c)
    = if h : c.val < 4 then (X main_while0b_v41 : S4x4.Idx → EReal) (ix2 b ⟨c.val, h⟩)
      else if c.val = 4 then (X main_while0b_v45 : S4x1.Idx → EReal) (ix2 b 0) else (X main_while0b_v48 : S4x1x1.Idx → EReal) (ix3 b 0 0) := by
  have e : (after while0Ops0_8 X main_while0b_v50 : S4x6.Idx → EReal)
      = concatenate S4x6 1 [⟨S4x4, (X main_while0b_v41 : S4x4.Idx → EReal)⟩, ⟨S4x1, (X main_while0b_v45 : S4x1.Idx → EReal)⟩,
          ⟨S4x1, shapeCast S4x1 (X main_while0b_v48 : S4x1x1.Idx → EReal) shapeCasts_S4x1x1_S4x1⟩] concatenates_S4x4_S4x1_S4x1_S4x6_d1 := by
    after_results
    rfl
  rw [e]
  generalize (X main_while0b_v41 : S4x4.Idx → EReal) = A
  generalize (X main_while0b_v45 : S4x1.Idx → EReal) = B
  generalize (X main_while0b_v48 : S4x1x1.Idx → EReal) = C
  fin_vals c with hc
  all_goals simp only [hc, Nat.reduceLT, Nat.reduceEqDiff, ↓reduceDIte, ↓reduceIte]
  all_goals pointwise
  all_goals simp only [hc, Nat.reduceSub, Nat.reduceLT, Nat.lt_irrefl, Nat.not_lt_zero, ↓reduceDIte]
  all_goals rfl
theorem row52 (c : Fin 6) : (after while0Ops0_9 X main_while0b_v52 : S4x6.Idx → EReal) (ix2 b c)
    = Scalar.select ((X main_while0b_v51 : S4x1.Idx → BitVec 1) (ix2 b 0)) ((X main_while0b_v50 : S4x6.Idx → EReal) (ix2 b c))
        ((X main_while0b_cst_22 : S_.Idx → EReal) ix0) := by
  after_reads_at
  rfl
theorem valid59 : (after while0Ops0_10 X main_while0b_v59 : S4x1.Idx → BitVec 1) (ix2 b 0) = (X main_while0b_v38 : S4.Idx → BitVec 1) (ix1 b) := by
  after_reads_at
theorem log62 (c : Fin 80) : (after while0Ops0_12 X main_while0b_v62 : S4x80.Idx → EReal) (ix2 b c) = (X main_while0b_v61 : S4x1x80.Idx → EReal) (ix3 b 0 c) := by
  after_reads_at
theorem zero25 : (after while0Ops0_12 X main_while0b_cst_25 : S_.Idx → EReal) ix0 = (0 : EReal) := by
  after_reads_at
theorem row63 (c : Fin 80) : (after while0Ops0_13 X main_while0b_v63 : S4x80.Idx → EReal) (ix2 b c)
    = Scalar.select ((X main_while0b_v59 : S4x1.Idx → BitVec 1) (ix2 b 0)) ((X main_while0b_v62 : S4x80.Idx → EReal) (ix2 b c))
        ((X main_while0b_cst_25 : S_.Idx → EReal) ix0) := by
  after_reads_at
  rfl

/-- The counter as a row number. -/
theorem wrap_ctr (K : S_.Idx → BitVec 32) (k : Fin 300) (h : K ix0 = BitVec.ofNat 32 k.val) :
    ((broadcastInDim S1 ![] bcast_S_S1 (select (cmpi .slt K (constantI S_ 32 0#32)) (addi K (constantI S_ 32 300#32)) K : S_.Idx → BitVec 32)
      : S1.Idx → BitVec 32) (ix1 0)).toInt = (k.val : ℤ) := by
  have hk := k.isLt
  have e0 : ∀ j : S_.Idx, j = ix0 := fun j => funext fun a => a.elim0
  have e : (broadcastInDim S1 ![] bcast_S_S1 (select (cmpi .slt K (constantI S_ 32 0#32)) (addi K (constantI S_ 32 300#32)) K : S_.Idx → BitVec 32)
      : S1.Idx → BitVec 32) (ix1 0) = Scalar.select (IntOp.cmpi .slt (K ix0) 0#32) (IntOp.addi (K ix0) 300#32) (K ix0) := by
    generalize hz : Scalar.select (IntOp.cmpi .slt (K ix0) 0#32) (IntOp.addi (K ix0) 300#32) (K ix0) = z
    pointwise
    exact hz
  rw [e, h, Routing.wrap_of_lt _ _ (by rw [BitVec.toNat_ofNat]; omega), ArgMax.toInt_ofNat (by omega)]

section Writes
set_option maxRecDepth 100000

theorem det58 (k : Fin 300) (h : ctr X ix0 = BitVec.ofNat 32 k.val) (r : Fin 300) (c : Fin 6) :
    (after while0Ops0_10 X main_while0b_v58 : S4x300x6.Idx → EReal) (ix3 b r c)
      = if r = k then (X main_while0b_v52 : S4x6.Idx → EReal) (ix2 b c) else dets X (ix3 b r c) := by
  after_results
  exact Take.set_row scatter_S4x300x6_S1_S4x6_01_1_1_0_wf _ _ _ k (wrap_ctr _ k h) b r c
theorem log69 (k : Fin 300) (h : ctr X ix0 = BitVec.ofNat 32 k.val) (r : Fin 300) (c : Fin 80) :
    (after while0Ops0_14 X main_while0b_v69 : S4x300x80.Idx → EReal) (ix3 b r c)
      = if r = k then (X main_while0b_v63 : S4x80.Idx → EReal) (ix2 b c) else logs X (ix3 b r c) := by
  after_results
  exact Take.set_row scatter_S4x300x80_S1_S4x80_01_1_1_0_wf _ _ _ k (wrap_ctr _ k h) b r c

end Writes

/-! ## The scores carried on -/

/-- A box's area, two boxes' overlap, and its share. -/
abbrev area4 (u : Fin 4 → EReal) : EReal := (u 2 - u 0) * (u 3 - u 1)
abbrev inter4 (u v : Fin 4 → EReal) : EReal :=
  max (min (u 2) (v 2) - max (u 0) (v 0)) 0 * max (min (u 3) (v 3) - max (u 1) (v 1)) 0
abbrev iou4 (u v : Fin 4 → EReal) : EReal :=
  Ideal.div (inter4 u v) (area4 u + area4 v - inter4 u v + Ideal.ofBits .f32 814313567#32)

theorem over122 (p : Fin 20000) : (after while0Ops0_16 X main_while0b_v122 : S4x20000.Idx → BitVec 1) (ix2 b p)
    = IntOp.andi ((X main_while0b_v38 : S4.Idx → BitVec 1) (ix1 b)) (BitVec.ofBool (decide (Ideal.ofBits .f32 1055286886#32
        < iou4 (fun c => (X main_while0b_v71 : S4x1x4.Idx → EReal) (ix3 b 0 c)) (fun c => mvs X (ix3 b p c))))) := by
  after_reads_at
theorem low31 : (after while0Ops0_16 X main_while0b_cst_31 : S_.Idx → EReal) ix0 = (-1 : EReal) := by
  rw [← Cand.bits_neg_one]
  after_reads_at
theorem sw123 (p : Fin 20000) : (after while0Ops0_17 X main_while0b_v123 : S4x20000.Idx → EReal) (ix2 b p)
    = Scalar.select ((X main_while0b_v122 : S4x20000.Idx → BitVec 1) (ix2 b p)) ((X main_while0b_cst_31 : S_.Idx → EReal) ix0) (sws X (ix2 b p)) := by
  after_reads_at
  rfl
theorem own126 (p : Fin 20000) : (after while0Ops0_18 X main_while0b_v126 : S4x20000.Idx → BitVec 1) (ix2 b p)
    = IntOp.cmpi .eq (ids X (ix2 b p)) ((X main_while0b_v35 : S4.Idx → BitVec 32) (ix1 b)) := by
  after_reads_at
theorem low32 : (after while0Ops0_18 X main_while0b_cst_32 : S_.Idx → EReal) ix0 = (-1 : EReal) := by
  rw [← Cand.bits_neg_one]
  after_reads_at
theorem sw127 (p : Fin 20000) : (after while0Ops0_19 X main_while0b_v127 : S4x20000.Idx → EReal) (ix2 b p)
    = Scalar.select ((X main_while0b_v126 : S4x20000.Idx → BitVec 1) (ix2 b p)) ((X main_while0b_cst_32 : S_.Idx → EReal) ix0)
        ((X main_while0b_v123 : S4x20000.Idx → EReal) (ix2 b p)) := by
  after_reads_at
  rfl

/-! ## The carried buffers' new contents -/

theorem next34 : (after while0Ops0 X main_while0b_v34 : S_.Idx → BitVec 32) ix0 = ctr X ix0 + 1#32 := by
  after_results
  rfl
theorem carry7 : (after while0Ops0_20 X main_v33_7 : S_.Idx → BitVec 32) = (X main_while0b_v34 : S_.Idx → BitVec 32) := by
  after_results
  rfl
theorem carry8 : (after while0Ops0_20 X main_v33_8 : S4x20000.Idx → EReal) = (X main_while0b_v127 : S4x20000.Idx → EReal) := by
  after_results
  rfl
theorem carry9 : (after while0Ops0_20 X main_v33_9 : S4x300x6.Idx → EReal) = (X main_while0b_v58 : S4x300x6.Idx → EReal) := by
  after_results
  rfl
theorem carry10 : (after while0Ops0_20 X main_v33_10 : S4x300x80.Idx → EReal) = (X main_while0b_v69 : S4x300x80.Idx → EReal) := by
  after_results
  rfl

end Cert.RefRun
end
-- ==== Proof.RefTrip.lean ====
/-
  One trip of the reference's loop at the ideal values: the pick of each batch, the scores after it, the row it writes in each
  result, and the counter.
-/
module

public import proofs.«01_k».proof.Proof.RefRead

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

/-- What each stretch of the body writes. -/
abbrev bodyW : List (List (Ref sig .tc)) := [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W, while0Ops0_18_W, while0Ops0_19_W, while0Ops0_20_W]

/-- The contents after the body's first `j` stretches. -/
def bodyAt (X : Valuation τ sig (Elt Ideal)) : ℕ → Valuation τ sig (Elt Ideal)
  | 0 => X
  | j + 1 => after (bodyI.getD j []) (bodyAt X j)

/-- Each stretch writes only its listed buffers. -/
theorem body_writes : ∀ j : ℕ, (bodyI.getD j [] : List (HloOp τ sig (Elt Ideal))).Forall fun op =>
    op.writes ⊆ ((bodyW.getD j []).map (Proc.devRef (τ := τ) .tc)).toFinset
  | 0 => while0Ops0_writes
  | 1 => while0Ops0_1_writes
  | 2 => while0Ops0_2_writes
  | 3 => while0Ops0_3_writes
  | 4 => while0Ops0_4_writes
  | 5 => while0Ops0_5_writes
  | 6 => while0Ops0_6_writes
  | 7 => while0Ops0_7_writes
  | 8 => while0Ops0_8_writes
  | 9 => while0Ops0_9_writes
  | 10 => while0Ops0_10_writes
  | 11 => while0Ops0_11_writes
  | 12 => while0Ops0_12_writes
  | 13 => while0Ops0_13_writes
  | 14 => while0Ops0_14_writes
  | 15 => while0Ops0_15_writes
  | 16 => while0Ops0_16_writes
  | 17 => while0Ops0_17_writes
  | 18 => while0Ops0_18_writes
  | 19 => while0Ops0_19_writes
  | 20 => while0Ops0_20_writes
  | _ + 21 => trivial

variable (X : Valuation τ sig (Elt Ideal)) (b : Fin 4)

/-- A buffer the next `n` stretches do not write is unchanged by them. -/
theorem body_stay (r : Ref sig .tc) (i : ℕ) : ∀ n : ℕ, (∀ t < n, r ∉ bodyW.getD (i + t) []) →
    bodyAt X (i + n) (Proc.devRef .tc r) = bodyAt X i (Proc.devRef .tc r)
  | 0, _ => rfl
  | n + 1, h => (after_of_writes_sub (bodyI.getD (i + n) []) (bodyAt X (i + n)) (body_writes (i + n)) (h n (Nat.lt_succ_self n))).trans
      (body_stay r i n fun t ht => h t (Nat.lt_succ_of_lt ht))

/-- The body is its 21 stretches. -/
theorem body_all : afterL bodyI X = bodyAt X 21 := rfl

/-- The counter goes one on. -/
theorem trip_ctr : ctr (bodyAt X 21) ix0 = ctr X ix0 + 1#32 :=
  (congrFun (carry7 (bodyAt X 20)) ix0).trans
    ((congrFun (body_stay X main_while0b_v34 1 19 (by decide)) ix0).trans (next34 X))

/-- Each batch has a pick. -/
theorem trip_pick : ∃ p : Fin 20000, (bodyAt X 2 main_while0b_v35 : S4.Idx → BitVec 32) (ix1 b) = BitVec.ofNat 32 p.val
    ∧ Greedy.IsPick (fun p => sws X (ix2 b p)) p := by
  obtain ⟨p, e, hp⟩ := pick_at (bodyAt X 1) b
  refine ⟨p, e, ?_⟩
  rwa [show sws (bodyAt X 1) = sws X from body_stay X main_v33_8 0 1 (by decide)] at hp

section Pick

variable (p : Fin 20000) (h : (bodyAt X 2 main_while0b_v35 : S4.Idx → BitVec 32) (ix1 b) = BitVec.ofNat 32 p.val)
  (hp : Greedy.IsPick (fun p => sws X (ix2 b p)) p)

include hp in
/-- Whether the pick counts. -/
theorem trip_valid : (bodyAt X 3 main_while0b_v38 : S4.Idx → BitVec 1) (ix1 b) = BitVec.ofBool (decide (0 < sws X (ix2 b p))) := by
  have e : sws (bodyAt X 2) = sws X := body_stay X main_v33_8 0 2 (by decide)
  have := valid_at (bodyAt X 2) b p (by rw [e]; exact hp)
  rw [e] at this
  exact this

include h

theorem trip_box (c : Fin 4) : (bodyAt X 5 main_while0b_v41 : S4x4.Idx → EReal) (ix2 b c) = bxs X (ix3 b p c) :=
  (box41 (bodyAt X 4) b c).trans ((box40 (bodyAt X 3) b p ((pick39 (bodyAt X 2) b).trans h) c).trans
    (congrFun (body_stay X main_v33_0 0 3 (by decide)) _))

theorem trip_conf : (bodyAt X 7 main_while0b_v45 : S4x1.Idx → EReal) (ix2 b 0) = cfs X (ix2 b p) :=
  (conf45 (bodyAt X 6) b).trans ((conf44 (bodyAt X 5) b p ((pick43 (bodyAt X 4) b).trans
      ((congrFun (body_stay X main_while0b_v35 2 2 (by decide)) _).trans h))).trans
    ((conf42 (bodyAt X 4) b p).trans (congrFun (body_stay X main_v33_1 0 4 (by decide)) _)))

theorem trip_class : (bodyAt X 8 main_while0b_v48 : S4x1x1.Idx → EReal) (ix3 b 0 0) = cls X (ix2 b p) :=
  (cls48 (bodyAt X 7) b p ((pick47 (bodyAt X 6) b).trans
      ((congrFun (body_stay X main_while0b_v35 2 4 (by decide)) _).trans h))).trans
    ((cls46 (bodyAt X 6) b p).trans (congrFun (body_stay X main_v33_2 0 6 (by decide)) _))

/-- The row of the first result. -/
theorem trip_row (c : Fin 6) : (bodyAt X 9 main_while0b_v50 : S4x6.Idx → EReal) (ix2 b c)
    = if h : c.val < 4 then bxs X (ix3 b p ⟨c.val, h⟩) else if c.val = 4 then cfs X (ix2 b p) else cls X (ix2 b p) := by
  refine (row50 (bodyAt X 8) b c).trans ?_
  rw [trip_class X b p h, show (bodyAt X 8 main_while0b_v41 : S4x4.Idx → EReal) = _ from body_stay X main_while0b_v41 5 3 (by decide),
    show (bodyAt X 8 main_while0b_v45 : S4x1.Idx → EReal) = _ from body_stay X main_while0b_v45 7 1 (by decide), trip_conf X b p h]
  split
  · exact trip_box X b p h _
  · rfl

theorem trip_logits (c : Fin 80) : (bodyAt X 13 main_while0b_v62 : S4x80.Idx → EReal) (ix2 b c) = lgs X (ix3 b p c) :=
  (log62 (bodyAt X 12) b c).trans ((log61 (bodyAt X 11) b p ((pick60 (bodyAt X 10) b).trans
      ((congrFun (body_stay X main_while0b_v35 2 8 (by decide)) _).trans h)) c).trans
    (congrFun (body_stay X main_v33_3 0 11 (by decide)) _))

theorem trip_moved (c : Fin 4) : (bodyAt X 16 main_while0b_v71 : S4x1x4.Idx → EReal) (ix3 b 0 c) = mvs X (ix3 b p c) :=
  (moved71 (bodyAt X 15) b p ((pick70 (bodyAt X 14) b).trans
      ((congrFun (body_stay X main_while0b_v35 2 12 (by decide)) _).trans h)) c).trans
    (congrFun (body_stay X main_v33_4 0 15 (by decide)) _)

include hp

/-- Of the first result, the counter's row is written: the pick's box, confidence and class where it counts, zeros where not. -/
theorem trip_dets (k : Fin 300) (hk : ctr X ix0 = BitVec.ofNat 32 k.val) (r : Fin 300) (c : Fin 6) :
    dets (bodyAt X 21) (ix3 b r c) = if r = k then
      (if 0 < sws X (ix2 b p) then
        (if h : c.val < 4 then bxs X (ix3 b p ⟨c.val, h⟩) else if c.val = 4 then cfs X (ix2 b p) else cls X (ix2 b p)) else 0)
      else dets X (ix3 b r c) := by
  refine (congrFun (carry9 (bodyAt X 20)) _).trans ((congrFun (body_stay X main_while0b_v58 11 9 (by decide)) _).trans
    ((det58 (bodyAt X 10) b k ((congrFun (body_stay X main_v33_7 0 10 (by decide)) _).trans hk) r c).trans ?_))
  rw [show dets (bodyAt X 10) = dets X from body_stay X main_v33_9 0 10 (by decide)]
  refine if_congr Iff.rfl ?_ rfl
  refine (row52 (bodyAt X 9) b c).trans ?_
  rw [trip_row X b p h c, show (bodyAt X 9 main_while0b_v51 : S4x1.Idx → BitVec 1) (ix2 b 0) = _ from valid51 (bodyAt X 8) b,
    show (bodyAt X 9 main_while0b_cst_22 : S_.Idx → EReal) ix0 = _ from zero22 (bodyAt X 8),
    show (bodyAt X 8 main_while0b_v38 : S4.Idx → BitVec 1) = _ from body_stay X main_while0b_v38 3 5 (by decide), trip_valid X b p hp]
  generalize (if h : c.val < 4 then bxs X (ix3 b p ⟨c.val, h⟩) else if c.val = 4 then cfs X (ix2 b p) else cls X (ix2 b p)) = z
  unfold Scalar.select
  by_cases hv : 0 < sws X (ix2 b p)
  · rw [if_pos hv, decide_eq_true hv]; rfl
  · rw [if_neg hv, decide_eq_false hv]; rfl

/-- Of the second result, the counter's row is written: the pick's logits where it counts, zeros where not. -/
theorem trip_logs (k : Fin 300) (hk : ctr X ix0 = BitVec.ofNat 32 k.val) (r : Fin 300) (c : Fin 80) :
    logs (bodyAt X 21) (ix3 b r c) = if r = k then (if 0 < sws X (ix2 b p) then lgs X (ix3 b p c) else 0)
      else logs X (ix3 b r c) := by
  refine (congrFun (carry10 (bodyAt X 20)) _).trans ((congrFun (body_stay X main_while0b_v69 15 5 (by decide)) _).trans
    ((log69 (bodyAt X 14) b k ((congrFun (body_stay X main_v33_7 0 14 (by decide)) _).trans hk) r c).trans ?_))
  rw [show logs (bodyAt X 14) = logs X from body_stay X main_v33_10 0 14 (by decide)]
  refine if_congr Iff.rfl ?_ rfl
  refine (row63 (bodyAt X 13) b c).trans ?_
  rw [trip_logits X b p h c, show (bodyAt X 13 main_while0b_cst_25 : S_.Idx → EReal) ix0 = _ from zero25 (bodyAt X 12),
    show (bodyAt X 13 main_while0b_v59 : S4x1.Idx → BitVec 1) = _ from body_stay X main_while0b_v59 11 2 (by decide),
    show (bodyAt X 11 main_while0b_v59 : S4x1.Idx → BitVec 1) (ix2 b 0) = _ from valid59 (bodyAt X 10) b,
    show (bodyAt X 10 main_while0b_v38 : S4.Idx → BitVec 1) = _ from body_stay X main_while0b_v38 3 7 (by decide), trip_valid X b p hp]
  unfold Scalar.select
  by_cases hv : 0 < sws X (ix2 b p)
  · rw [if_pos hv, decide_eq_true hv]; rfl
  · rw [if_neg hv, decide_eq_false hv]; rfl

/-- The scores after the trip: -1 at the pick and, where it counts, at what it hits. -/
theorem trip_scores (q : Fin 20000) (hid : ids X (ix2 b q) = BitVec.ofNat 32 q.val) :
    sws (bodyAt X 21) (ix2 b q) = if q = p then -1 else
      if 0 < sws X (ix2 b p) ∧ Ideal.ofBits .f32 1055286886#32 < iou4 (fun c => mvs X (ix3 b p c)) (fun c => mvs X (ix3 b q c))
      then -1 else sws X (ix2 b q) := by
  refine (congrFun (carry8 (bodyAt X 20)) _).trans ((sw127 (bodyAt X 19) b q).trans ?_)
  have e35 : (bodyAt X 18 main_while0b_v35 : S4.Idx → BitVec 32) (ix1 b) = BitVec.ofNat 32 p.val :=
    (congrFun (body_stay X main_while0b_v35 2 16 (by decide)) _).trans h
  have eid : ids (bodyAt X 18) (ix2 b q) = BitVec.ofNat 32 q.val := (congrFun (body_stay X main_v33_5 0 18 (by decide)) _).trans hid
  have e126 : (bodyAt X 19 main_while0b_v126 : S4x20000.Idx → BitVec 1) (ix2 b q) = BitVec.ofBool (decide (q = p)) := by
    refine (own126 (bodyAt X 18) b q).trans ?_
    rw [e35, eid]
    refine congrArg BitVec.ofBool ?_
    show (BitVec.ofNat 32 q.val == BitVec.ofNat 32 p.val) = _
    have hq := q.isLt
    have hp' := p.isLt
    rw [Bool.eq_iff_iff, beq_iff_eq, decide_eq_true_iff, Fin.ext_iff, ← BitVec.toNat_inj, BitVec.toNat_ofNat, BitVec.toNat_ofNat,
      Nat.mod_eq_of_lt (by omega), Nat.mod_eq_of_lt (by omega)]
  rw [e126, show (bodyAt X 19 main_while0b_cst_32 : S_.Idx → EReal) ix0 = _ from low32 (bodyAt X 18),
    show (bodyAt X 19 main_while0b_v123 : S4x20000.Idx → EReal) = _ from body_stay X main_while0b_v123 18 1 (by decide),
    show (bodyAt X 18 main_while0b_v123 : S4x20000.Idx → EReal) (ix2 b q) = _ from sw123 (bodyAt X 17) b q,
    show (bodyAt X 17 main_while0b_cst_31 : S_.Idx → EReal) ix0 = _ from low31 (bodyAt X 16),
    show (bodyAt X 17 main_while0b_v122 : S4x20000.Idx → BitVec 1) (ix2 b q) = _ from over122 (bodyAt X 16) b q,
    show sws (bodyAt X 17) = sws X from body_stay X main_v33_8 0 17 (by decide),
    show mvs (bodyAt X 16) = mvs X from body_stay X main_v33_4 0 16 (by decide),
    show (fun c => (bodyAt X 16 main_while0b_v71 : S4x1x4.Idx → EReal) (ix3 b 0 c)) = fun c => mvs X (ix3 b p c) from
      funext fun c => trip_moved X b p h c,
    show (bodyAt X 16 main_while0b_v38 : S4.Idx → BitVec 1) = _ from body_stay X main_while0b_v38 3 13 (by decide), trip_valid X b p hp]
  generalize iou4 (fun c => mvs X (ix3 b p c)) (fun c => mvs X (ix3 b q c)) = z
  unfold Scalar.select
  by_cases hq : q = p
  · rw [if_pos hq, decide_eq_true hq]; rfl
  rw [if_neg hq, decide_eq_false hq]
  by_cases hv : 0 < sws X (ix2 b p)
  · by_cases hz : Ideal.ofBits .f32 1055286886#32 < z
    · rw [if_pos (And.intro hv hz), decide_eq_true hv, decide_eq_true hz]; rfl
    · rw [if_neg (fun t : 0 < sws X (ix2 b p) ∧ Ideal.ofBits .f32 1055286886#32 < z => hz t.2), decide_eq_true hv, decide_eq_false hz]; rfl
  · rw [if_neg (fun t : 0 < sws X (ix2 b p) ∧ Ideal.ofBits .f32 1055286886#32 < z => hv t.1), decide_eq_false hv]
    cases decide (Ideal.ofBits .f32 1055286886#32 < z) <;> rfl

end Pick

end Cert.RefRun
end
-- ==== Proof.RefEntry.lean ====
/-
  The reference at the ideal values as its loop is entered: the candidates' boxes, confidences, classes, moved boxes and scores,
  and the two results at zero.
-/
module

public import proofs.«01_k».proof.Proof.RefRead

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

section Stretches

variable (X : Valuation τ sig (Elt Ideal)) (b : Fin 4) (p : Fin 20000)

/-- The first argument's buffer. -/
abbrev ins : S4x20000x85.Idx → EReal := X main_arg0

theorem obj1 : (after hostOps0 X main_v1 : S4x20000.Idx → EReal) (ix2 b p) = ins X (ix3 b p 4) := by
  after_reads_at
theorem prod5 (q : Fin 80) : (after hostOps0 X main_v5 : S4x20000x80.Idx → EReal) (ix3 b p q) = Cand.prod (Cand.cand (ins X) b p) q := by
  unfold Cand.prod Cand.cand
  after_reads_at
  rfl
theorem conf6 : (after hostOps0 X main_v6 : S4x20000.Idx → EReal) (ix2 b p) = Cand.conf (Cand.cand (ins X) b p) := by
  generalize hz : Cand.conf (Cand.cand (ins X) b p) = z
  after_reads_at
  rw [← hz]
  rfl

/-- Which entries a candidate's reduction over the classes reads. -/
theorem drop_class (i : S4x20000x80.Idx) : reducesTo_S4x20000x80_S4x20000_d2.drop i = ix2 b p ↔ ∃ d : Fin 80, i = ix3 b p d := by
  have h0 := reducesTo_S4x20000x80_S4x20000_d2.drop_apply_val i 0
  have h1 := reducesTo_S4x20000x80_S4x20000_d2.drop_apply_val i 1
  constructor
  · intro e
    rw [e] at h0 h1
    refine ⟨i 2, funext fun a => ?_⟩
    match a with
    | ⟨0, _⟩ => exact Fin.ext h0.symm
    | ⟨1, _⟩ => exact Fin.ext h1.symm
    | ⟨2, _⟩ => rfl
  · rintro ⟨d, rfl⟩
    funext a
    match a with
    | ⟨0, _⟩ => exact Fin.ext h0
    | ⟨1, _⟩ => exact Fin.ext h1

set_option maxRecDepth 100000 in
theorem read7 : (after hostOps0_1 X main_v7 : S4x20000.Idx → BitVec 32)
    = (fun j => (Host.argReduce (F := Ideal) (φ := .f32) reducer_argmax_f32_i32 (X main_v5 : S4x20000x80.Idx → EReal) (iotaInDim S4x20000x80 32 2)
        (constant S_ .f32 0xFF800000#32) (constantI S_ 32 0#32) reducesTo_S4x20000x80_S4x20000_d2 h_S_ j).2) := by
  after_results
  rfl

/-- The first class whose product is largest. -/
theorem class_at : ∃ q : Fin 80, (after hostOps0_1 X main_v7 : S4x20000.Idx → BitVec 32) (ix2 b p) = BitVec.ofNat 32 q.val
    ∧ Greedy.IsPick (fun q => (X main_v5 : S4x20000x80.Idx → EReal) (ix3 b p q)) q := by
  rw [read7]
  exact ArgMax.argmax_pick _ _ _ _ _ _ (ix2 b p) (by decide) (by decide) (fun d => ix3 b p d) (drop_class b p) _ (fun _ => rfl) (fun _ => rfl)
    Cand.bits_bot rfl

/-- The two halves of a candidate's corner box. -/
theorem box_halves (x : Fin 85 → EReal) (k : Fin 4) :
    (if h : k.val < 2 then x ⟨k.val, by omega⟩ - Ideal.div (x ⟨2 + k.val, by omega⟩) (Ideal.ofBits .f32 1073741824#32)
      else x ⟨k.val - 2, by omega⟩ + Ideal.div (x ⟨2 + (k.val - 2), by omega⟩) (Ideal.ofBits .f32 1073741824#32)) = Cand.box x k := by
  match k with
  | ⟨0, _⟩ => rfl
  | ⟨1, _⟩ => rfl
  | ⟨2, _⟩ => rfl
  | ⟨3, _⟩ => rfl
/-- The sum of two arrays at an index. -/
theorem addf_at (u v : S4x20000x4.Idx → EReal) (i : S4x20000x4.Idx) : addf (F := Ideal) (φ := .f32) u v i = u i + v i := rfl
theorem box16 (k : Fin 4) : (after hostOps0_2 X main_v16 : S4x20000x4.Idx → EReal) (ix3 b p k) = Cand.box (Cand.cand (ins X) b p) k := by
  generalize hz : Cand.box (Cand.cand (ins X) b p) k = z
  after_reads_at
  rw [← hz]
  exact box_halves (Cand.cand (ins X) b p) k
theorem pass21 : (after hostOps0_2 X main_v21 : S4x20000.Idx → BitVec 1) (ix2 b p)
    = IntOp.andi (BitVec.ofBool (decide (Ideal.ofBits .f32 1048576000#32 < (X main_v1 : S4x20000.Idx → EReal) (ix2 b p))))
        (BitVec.ofBool (decide (Ideal.ofBits .f32 1048576000#32 < (X main_v6 : S4x20000.Idx → EReal) (ix2 b p)))) := by
  after_reads_at
theorem moved27 (k : Fin 4) : (after hostOps0_2 X main_v27 : S4x20000x4.Idx → EReal) (ix3 b p k)
    = Cand.box (Cand.cand (ins X) b p) k
      + (FloatOps.sitofp (F := Ideal) .f32 ((X main_v7 : S4x20000.Idx → BitVec 32) (ix2 b p)) : EReal) * Ideal.ofBits .f32 1166016512#32 := by
  rw [← box16]
  after_results
  refine (addf_at _ _ _).trans ?_
  congr 1
  pointwise
theorem low5 : (after hostOps0_2 X main_cst_5 : S_.Idx → EReal) ix0 = Ideal.ofBits .f32 3212836864#32 := by
  after_reads_at
theorem score28 : (after hostOps0_3 X main_v28 : S4x20000.Idx → EReal) (ix2 b p)
    = Scalar.select ((X main_v21 : S4x20000.Idx → BitVec 1) (ix2 b p)) ((X main_v6 : S4x20000.Idx → EReal) (ix2 b p))
        ((X main_cst_5 : S_.Idx → EReal) ix0) := by
  after_reads_at
  rfl

theorem enter0 : bxs (after hostOps0_4 X) = (X main_v16 : S4x20000x4.Idx → EReal) := by
  after_results
  rfl
theorem enter1 : cfs (after hostOps0_4 X) = (X main_v6 : S4x20000.Idx → EReal) := by
  after_results
  rfl
theorem enter2 : cls (after hostOps0_4 X) (ix2 b p) = FloatOps.sitofp (F := Ideal) .f32 ((X main_v7 : S4x20000.Idx → BitVec 32) (ix2 b p)) := by
  after_results
  rfl
theorem enter3 : lgs (after hostOps0_4 X) = (X main_arg1 : S4x20000x80.Idx → EReal) := by
  after_results
  rfl
theorem enter4 : mvs (after hostOps0_4 X) = (X main_v27 : S4x20000x4.Idx → EReal) := by
  after_results
  rfl
theorem enter5 : ids (after hostOps0_4 X) (ix2 b p) = BitVec.ofNat 32 p.val := by
  after_results
  rfl
theorem enter7 : ctr (after hostOps0_4 X) ix0 = 0#32 := by
  after_results
  rfl
theorem enter8 : sws (after hostOps0_4 X) = (X main_v28 : S4x20000.Idx → EReal) := by
  after_results
  rfl
theorem enter9 (r : Fin 300) (c : Fin 6) : dets (after hostOps0_4 X) (ix3 b r c) = 0 := by
  show (after hostOps0_4 X main_v33_9 : S4x300x6.Idx → EReal) (ix3 b r c) = (0 : EReal)
  after_reads_at
  exact Ideal.ofBits_zero .f32
theorem enter10 (r : Fin 300) (c : Fin 80) : logs (after hostOps0_4 X) (ix3 b r c) = 0 := by
  show (after hostOps0_4 X main_v33_10 : S4x300x80.Idx → EReal) (ix3 b r c) = (0 : EReal)
  after_reads_at
  exact Ideal.ofBits_zero .f32

end Stretches

section Entry

variable (X : Valuation τ sig (Elt Ideal)) (b : Fin 4) (p : Fin 20000)

/-- The contents after the stretches before the loop. -/
abbrev entry : Valuation τ sig (Elt Ideal) :=
  after hostOps0_4 (after hostOps0_3 (after hostOps0_2 (after hostOps0_1 (after hostOps0 X))))

/-- The first argument is unchanged up to the third stretch. -/
theorem ins_keep : ins (after hostOps0_1 (after hostOps0 X)) = ins X :=
  (after_of_writes_sub hostOps0_1 _ hostOps0_1_writes (by decide)).trans (after_of_writes_sub hostOps0 _ hostOps0_writes (by decide))

theorem entry_box (k : Fin 4) : bxs (entry X) (ix3 b p k) = Cand.box (Cand.cand (ins X) b p) k := by
  rw [enter0]
  refine (congrFun (after_of_writes_sub hostOps0_3 _ hostOps0_3_writes (by decide)) _).trans ((box16 _ b p k).trans ?_)
  rw [ins_keep]

theorem conf_keep : (after hostOps0_1 (after hostOps0 X) main_v6 : S4x20000.Idx → EReal) (ix2 b p) = Cand.conf (Cand.cand (ins X) b p) :=
  (congrFun (after_of_writes_sub hostOps0_1 _ hostOps0_1_writes (by decide)) _).trans (conf6 X b p)

theorem entry_conf : cfs (entry X) (ix2 b p) = Cand.conf (Cand.cand (ins X) b p) := by
  rw [enter1]
  exact (congrFun (after_of_writes_sub hostOps0_3 _ hostOps0_3_writes (by decide)) _).trans
    ((congrFun (after_of_writes_sub hostOps0_2 _ hostOps0_2_writes (by decide)) _).trans (conf_keep X b p))

theorem class_keep : (FloatOps.sitofp (F := Ideal) .f32 ((after hostOps0_1 (after hostOps0 X) main_v7 : S4x20000.Idx → BitVec 32) (ix2 b p)) : EReal)
    = Cand.cls (Cand.cand (ins X) b p) := by
  obtain ⟨q, e, hq⟩ := class_at (after hostOps0 X) b p
  rw [e]
  refine Cand.cls_of_pick ?_
  rwa [show (fun q => (after hostOps0 X main_v5 : S4x20000x80.Idx → EReal) (ix3 b p q)) = Cand.prod (Cand.cand (ins X) b p) from
    funext fun q => prod5 X b p q] at hq

theorem entry_class : cls (entry X) (ix2 b p) = Cand.cls (Cand.cand (ins X) b p) := by
  rw [enter2]
  refine Eq.trans ?_ (class_keep X b p)
  refine congrArg (fun v : BitVec 32 => (FloatOps.sitofp (F := Ideal) .f32 v : EReal)) ?_
  exact (congrFun (after_of_writes_sub hostOps0_3 _ hostOps0_3_writes (by decide)) _).trans
    (congrFun (after_of_writes_sub hostOps0_2 _ hostOps0_2_writes (by decide)) _)

theorem entry_moved (k : Fin 4) : mvs (entry X) (ix3 b p k) = Cand.moved (Cand.cand (ins X) b p) k := by
  rw [enter4]
  refine (congrFun (after_of_writes_sub hostOps0_3 _ hostOps0_3_writes (by decide)) _).trans ((moved27 _ b p k).trans ?_)
  rw [ins_keep, class_keep]
  rfl

theorem entry_score : sws (entry X) (ix2 b p) = Cand.score (Cand.cand (ins X) b p) := by
  rw [enter8]
  refine (score28 _ b p).trans ?_
  rw [pass21, low5, after_of_writes_sub hostOps0_2 _ hostOps0_2_writes (r := main_v6) (by decide), conf_keep,
    after_of_writes_sub hostOps0_1 _ hostOps0_1_writes (r := main_v1) (by decide), obj1]
  rfl

theorem entry_logits : lgs (entry X) = (X main_arg1 : S4x20000x80.Idx → EReal) :=
  (enter3 _).trans ((after_of_writes_sub hostOps0_3 _ hostOps0_3_writes (by decide)).trans
    ((after_of_writes_sub hostOps0_2 _ hostOps0_2_writes (by decide)).trans
      ((after_of_writes_sub hostOps0_1 _ hostOps0_1_writes (by decide)).trans (after_of_writes_sub hostOps0 _ hostOps0_writes (by decide)))))

end Entry

end Cert.RefRun
end
-- ==== Proof.RefValue.lean ====
/-
  The reference's results at the ideal values: row `r` of a batch is the `r`-th candidate of the greedy walk over the sorted
  scores, and zero past the last one kept.
-/
module

public import proofs.«01_k».proof.Proof.RefTrip
public import proofs.«01_k».proof.Proof.RefEntry

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-- The arguments on a core, and a candidate's inputs. -/
abbrev in0 : S4x20000x85.Idx → EReal := m ((c.tc : Thread nD τ).loc main_arg0)
abbrev in1 : S4x20000x80.Idx → EReal := m ((c.tc : Thread nD τ).loc main_arg1)
abbrev candAt (b : Fin 4) (p : Fin 20000) : Fin 85 → EReal := Cand.cand (in0 m c) b p

/-- The loop's entry is the stretches before it, from the launch's memory. -/
theorem entry_of : ∃ X : Valuation τ sig (Elt Ideal), entryContents preI m c = entry X
    ∧ ins X = in0 m c ∧ (X main_arg1 : S4x20000x80.Idx → EReal) = in1 m c :=
  ⟨_, rfl, rfl, rfl⟩

/-- The contents as the body starts its trip `k`, counted from 0. -/
abbrev startK (k : ℕ) : Valuation τ sig (Elt Ideal) := after condOps (atK m k c)

theorem atK_next (k : ℕ) : atK m (k + 1) c = bodyAt (startK m c k) 21 := rfl

/-- What the loop never writes is as entered. -/
theorem start_keep (k : ℕ) (r : Ref sig .tc) (h : r ∉ headW) (h' : r ∉ while0Ops0_20_W) (hc : r ∉ condOps_W) :
    startK m c k (Proc.devRef .tc r) = entryContents preI m c (Proc.devRef .tc r) :=
  (after_of_writes_sub condOps _ condOps_writes hc).trans (trip_keep m c r h h' hc k)

variable (k : ℕ) (b : Fin 4) (p : Fin 20000)

theorem start_box (j : Fin 4) : bxs (startK m c k) (ix3 b p j) = Cand.box (candAt m c b p) j := by
  obtain ⟨X, e, e0, e1⟩ := entry_of m c
  refine (congrFun (start_keep m c k main_v33_0 (by decide) (by decide) (by decide)) _).trans ?_
  rw [e]
  exact (entry_box X b p j).trans (by rw [e0])
theorem start_conf : cfs (startK m c k) (ix2 b p) = Cand.conf (candAt m c b p) := by
  obtain ⟨X, e, e0, e1⟩ := entry_of m c
  refine (congrFun (start_keep m c k main_v33_1 (by decide) (by decide) (by decide)) _).trans ?_
  rw [e]
  exact (entry_conf X b p).trans (by rw [e0])
theorem start_class : cls (startK m c k) (ix2 b p) = Cand.cls (candAt m c b p) := by
  obtain ⟨X, e, e0, e1⟩ := entry_of m c
  refine (congrFun (start_keep m c k main_v33_2 (by decide) (by decide) (by decide)) _).trans ?_
  rw [e]
  exact (entry_class X b p).trans (by rw [e0])
theorem start_logits : lgs (startK m c k) = in1 m c := by
  obtain ⟨X, e, e0, e1⟩ := entry_of m c
  refine (start_keep m c k main_v33_3 (by decide) (by decide) (by decide)).trans ?_
  rw [e]
  exact (entry_logits X).trans e1
theorem start_moved (j : Fin 4) : mvs (startK m c k) (ix3 b p j) = Cand.moved (candAt m c b p) j := by
  obtain ⟨X, e, e0, e1⟩ := entry_of m c
  refine (congrFun (start_keep m c k main_v33_4 (by decide) (by decide) (by decide)) _).trans ?_
  rw [e]
  exact (entry_moved X b p j).trans (by rw [e0])
theorem start_ids : ids (startK m c k) (ix2 b p) = BitVec.ofNat 32 p.val := by
  obtain ⟨X, e, e0, e1⟩ := entry_of m c
  refine (congrFun (start_keep m c k main_v33_5 (by decide) (by decide) (by decide)) _).trans ?_
  rw [e]
  exact enter5 _ b p

/-- What the condition does not write is as before it. -/
theorem start_scores : sws (startK m c k) = sws (atK m k c) := after_of_writes_sub condOps _ condOps_writes (by decide)
theorem start_dets : dets (startK m c k) = dets (atK m k c) := after_of_writes_sub condOps _ condOps_writes (by decide)
theorem start_logs : logs (startK m c k) = logs (atK m k c) := after_of_writes_sub condOps _ condOps_writes (by decide)

/-- The counter counts the trips. -/
theorem start_ctr : ∀ k : ℕ, ctr (startK m c k) ix0 = BitVec.ofNat 32 k
  | 0 => by
    obtain ⟨X, e, e0, e1⟩ := entry_of m c
    refine (congrFun (after_of_writes_sub condOps _ condOps_writes (by decide)) _).trans ?_
    rw [show atK m 0 c = entryContents preI m c from rfl, e]
    exact enter7 _
  | k + 1 => by
    refine (congrFun (after_of_writes_sub condOps _ condOps_writes (by decide)) _).trans ?_
    rw [atK_next]
    refine (trip_ctr _).trans ?_
    rw [start_ctr k, BitVec.ofNat_add]

/-! ## The rounds -/

/-- The scores and the pick of a round. -/
def work (k : ℕ) (q : Fin 20000) : EReal := sws (startK m c k) (ix2 b q)
def pickOf (k : ℕ) : Fin 20000 := (trip_pick (startK m c k) b).choose

theorem pick_spec : (bodyAt (startK m c k) 2 main_while0b_v35 : S4.Idx → BitVec 32) (ix1 b) = BitVec.ofNat 32 (pickOf m c b k).val
    ∧ Greedy.IsPick (fun p => sws (startK m c k) (ix2 b p)) (pickOf m c b k) := (trip_pick (startK m c k) b).choose_spec

open Classical in
/-- The next round's scores. -/
theorem work_next (q : Fin 20000) : work m c b (k + 1) q = if q = pickOf m c b k then -1 else
    if 0 < work m c b k (pickOf m c b k) ∧ Cand.hit (candAt m c b (pickOf m c b k)) (candAt m c b q) then -1 else work m c b k q := by
  unfold work
  rw [start_scores m c (k + 1), atK_next]
  refine (trip_scores _ b _ (pick_spec m c k b).1 (pick_spec m c k b).2 q (start_ids m c k b q)).trans ?_
  rw [show (fun j => mvs (startK m c k) (ix3 b (pickOf m c b k) j)) = Cand.moved (candAt m c b (pickOf m c b k)) from
      funext fun j => start_moved m c k b _ j,
    show (fun j => mvs (startK m c k) (ix3 b q j)) = Cand.moved (candAt m c b q) from funext fun j => start_moved m c k b q j]
  exact if_congr Iff.rfl rfl (if_congr Iff.rfl rfl rfl)

/-- **A batch's trips are the rounds of the greedy suppression.** -/
theorem rounds : Greedy.Rounds (fun q => Cand.score (candAt m c b q)) (fun u v => Cand.hit (candAt m c b u) (candAt m c b v))
    (work m c b) (pickOf m c b) where
  first := funext fun q => by
    obtain ⟨X, e, e0, e1⟩ := entry_of m c
    unfold work
    rw [start_scores m c 0, show atK m 0 c = entryContents preI m c from rfl, e]
    exact (entry_score X b q).trans (by rw [e0])
  pick k := (pick_spec m c k b).2
  own k := by rw [work_next, if_pos rfl]
  gone k q h hh := by
    rw [work_next]
    by_cases e : q = pickOf m c b k
    · rw [if_pos e]
    · rw [if_neg e, if_pos (And.intro h hh)]
  stay k q h hh := by rw [work_next, if_neg h, if_neg hh]

/-! ## The rows -/

/-- A kept candidate's six entries. -/
def detCell (x : Fin 85 → EReal) (j : Fin 6) : EReal :=
  if h : j.val < 4 then Cand.box x ⟨j.val, h⟩ else if j.val = 4 then Cand.conf x else Cand.cls x

/-- After `k` trips the first `k` rows are written, the others zero. -/
theorem dets_at (r : Fin 300) (j : Fin 6) : ∀ k : ℕ, k ≤ 300 → dets (atK m k c) (ix3 b r j) = if r.val < k then
    (if 0 < work m c b r.val (pickOf m c b r.val) then detCell (candAt m c b (pickOf m c b r.val)) j else 0) else 0
  | 0, _ => by
    obtain ⟨X, e, e0, e1⟩ := entry_of m c
    rw [show atK m 0 c = entryContents preI m c from rfl, e, if_neg (Nat.not_lt_zero _)]
    exact enter9 _ b r j
  | k + 1, hk => by
    rw [atK_next, trip_dets _ b _ (pick_spec m c k b).1 (pick_spec m c k b).2 ⟨k, hk⟩ (start_ctr m c k) r j, start_dets m c k,
      dets_at r j k (Nat.le_of_succ_le hk)]
    by_cases e : r.val = k
    · rw [if_pos (Fin.ext e), if_pos (show r.val < k + 1 by omega), e]
      refine if_congr Iff.rfl ?_ rfl
      unfold detCell
      rw [start_conf, start_class]
      split
      · exact start_box m c k b _ _
      · rfl
    · rw [if_neg fun h => e (congrArg Fin.val h)]
      by_cases h : r.val < k
      · rw [if_pos h, if_pos (show r.val < k + 1 by omega)]
      · rw [if_neg h, if_neg (show ¬ r.val < k + 1 by omega)]

theorem logs_at (r : Fin 300) (j : Fin 80) : ∀ k : ℕ, k ≤ 300 → logs (atK m k c) (ix3 b r j) = if r.val < k then
    (if 0 < work m c b r.val (pickOf m c b r.val) then in1 m c (ix3 b (pickOf m c b r.val) j) else 0) else 0
  | 0, _ => by
    obtain ⟨X, e, e0, e1⟩ := entry_of m c
    rw [show atK m 0 c = entryContents preI m c from rfl, e, if_neg (Nat.not_lt_zero _)]
    exact enter10 _ b r j
  | k + 1, hk => by
    rw [atK_next, trip_logs _ b _ (pick_spec m c k b).1 (pick_spec m c k b).2 ⟨k, hk⟩ (start_ctr m c k) r j, start_logs m c k,
      logs_at r j k (Nat.le_of_succ_le hk), start_logits m c k]
    by_cases e : r.val = k
    · rw [if_pos (Fin.ext e), if_pos (show r.val < k + 1 by omega), e]
      rfl
    · rw [if_neg fun h => e (congrArg Fin.val h)]
      by_cases h : r.val < k
      · rw [if_pos h, if_pos (show r.val < k + 1 by omega)]
      · rw [if_neg h, if_neg (show ¬ r.val < k + 1 by omega)]

variable (ord : ℕ → Fin 20000) (S : Greedy.Sorted (fun q => Cand.score (candAt m c b q)) ord)

/-- The candidates the walk keeps in a batch. -/
abbrev walked : List (Fin 20000) :=
  Greedy.walk (fun q => Cand.score (candAt m c b q)) (fun u v => Cand.hit (candAt m c b u) (candAt m c b v)) ord 300 20000 0 []

include S

/-- A round's row, given what it holds for a pick, is the walk's. -/
theorem row_walked (f : Fin 20000 → EReal) (r : Fin 300) :
    (if 0 < work m c b r.val (pickOf m c b r.val) then f (pickOf m c b r.val) else 0) = ((walked m c b ord)[r.val]?).elim 0 f := by
  obtain ⟨hl, h1, h2⟩ := Greedy.walk_eq_rounds (cap := 300) (rounds m c b) S
  by_cases h : r.val < (walked m c b ord).length
  · rw [(h1 r.val h).2, if_pos (h1 r.val h).1]
    rfl
  · rw [if_neg (h2 r.val r.isLt (Nat.not_lt.mp h)), List.getElem?_eq_none (Nat.not_lt.mp h)]
    rfl

theorem dets_walked (r : Fin 300) (j : Fin 6) : dets (atK m 300 c) (ix3 b r j)
    = ((walked m c b ord)[r.val]?).elim 0 fun p => detCell (candAt m c b p) j := by
  rw [dets_at m c b r j 300 le_rfl, if_pos r.isLt]
  exact row_walked m c b ord S (fun p => detCell (candAt m c b p) j) r

theorem logs_walked (r : Fin 300) (j : Fin 80) : logs (atK m 300 c) (ix3 b r j)
    = ((walked m c b ord)[r.val]?).elim 0 fun p => in1 m c (ix3 b p j) := by
  rw [logs_at m c b r j 300 le_rfl, if_pos r.isLt]
  exact row_walked m c b ord S (fun p => in1 m c (ix3 b p j)) r

end Cert.RefRun
end
-- ==== Proof.Agree.lean ====
/-
  The two programs' results at the ideal values are the same arrays, from the same arguments: both are the rows of the
  candidates the greedy walk keeps.
-/
module

public import proofs.«01_k».proof.Proof.TailValue
public import proofs.«01_k».proof.Proof.RefValue

@[expose] public section

set_option maxRecDepth 16384

noncomputable section

namespace Cert.Agree

open Idealize.ShloMosaic Idealize.ShloMosaic.TcCoe

/-- Arrays over three axes with the same entries are the same. -/
theorem ext3 {n0 n1 n2 : ℕ} (f g : (⟨3, ![n0, n1, n2]⟩ : Shape).Idx → EReal) (h : ∀ b r j, f (ix3 b r j) = g (ix3 b r j)) : f = g := by
  funext i
  have e : i = ix3 (i 0) (i 1) (i 2) := by
    funext a
    match a with
    | ⟨0, _⟩ => rfl
    | ⟨1, _⟩ => rfl
    | ⟨2, _⟩ => rfl
  rw [e]
  exact h _ _ _

/-- A kept candidate's row in the kernel's result is the one in the reference's. -/
theorem cell_eq (x : Cert.KernelIdeal.Nms.Cands) (p : Fin 20000) (j : Fin 6) :
    Cert.KernelIdeal.Nms.keptCell x p ⟨j.val, by omega⟩ = Cert.RefRun.detCell (x p) j := by
  match j with
  | ⟨0, _⟩ => rfl
  | ⟨1, _⟩ => rfl
  | ⟨2, _⟩ => rfl
  | ⟨3, _⟩ => rfl
  | ⟨4, _⟩ => rfl
  | ⟨5, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Cert.RefRun.in0 m' c = Cert.KernelIdeal.Nms.arg0 m c) (h1 : Cert.RefRun.in1 m' c = Cert.KernelIdeal.Nms.arg1Of m c)

include h0 in
/-- The kernel's order sorts the reference's scores. -/
theorem sorted_ref (b : Fin 4) : Greedy.Sorted (fun q => Cand.score (Cert.RefRun.candAt m' c b q))
    (Cert.KernelIdeal.Nms.ordOf (Cert.KernelIdeal.Nms.arg0 m c) b) := by
  unfold Cert.RefRun.candAt
  rw [h0]
  exact (Cert.KernelIdeal.Nms.order_sorted (Cert.KernelIdeal.Nms.arg0 m c) b).choose_spec.1

include h0 in
/-- The reference keeps the candidates the kernel keeps. -/
theorem walked_eq (b : Fin 4) : Cert.RefRun.walked m' c b (Cert.KernelIdeal.Nms.ordOf (Cert.KernelIdeal.Nms.arg0 m c) b)
    = Cert.KernelIdeal.Nms.keptOf (Cert.KernelIdeal.Nms.arg0 m c) b := by
  unfold Cert.RefRun.walked Cert.RefRun.candAt
  rw [h0]
  rfl

include h0 in
/-- **The first results agree.** -/
theorem dets_eq : Cert.RefRun.dets (Cert.RefRun.atK m' 300 c)
    = Cert.KernelIdeal.Gen.V8 m (Cert.KernelIdeal.Nms.outs m) c Cert.KernelIdeal.main_v15 := by
  refine ext3 (Cert.RefRun.dets (Cert.RefRun.atK m' 300 c))
    (Cert.KernelIdeal.Gen.V8 m (Cert.KernelIdeal.Nms.outs m) c Cert.KernelIdeal.main_v15 : Cert.KernelIdeal.S4x300x6.Idx → EReal)
    fun b r j => ?_
  refine (Cert.RefRun.dets_walked m' c b _ (sorted_ref m m' c h0 b) r j).trans
    (Eq.trans ?_ (Cert.KernelIdeal.Nms.v15_at m c b r j).symm)
  rw [walked_eq m m' c h0]
  refine congrArg (fun f => Option.elim _ (0 : EReal) f) (funext fun p => ?_)
  rw [cell_eq]
  unfold Cert.RefRun.candAt
  rw [h0]

include h0 h1 in
/-- **The second results agree.** -/
theorem logs_eq : Cert.RefRun.logs (Cert.RefRun.atK m' 300 c)
    = Cert.KernelIdeal.Gen.V8 m (Cert.KernelIdeal.Nms.outs m) c Cert.KernelIdeal.main_v24 := by
  refine ext3 (Cert.RefRun.logs (Cert.RefRun.atK m' 300 c))
    (Cert.KernelIdeal.Gen.V8 m (Cert.KernelIdeal.Nms.outs m) c Cert.KernelIdeal.main_v24 : Cert.KernelIdeal.S4x300x80.Idx → EReal)
    fun b r j => ?_
  refine (Cert.RefRun.logs_walked m' c b _ (sorted_ref m m' c h0 b) r j).trans
    (Eq.trans ?_ (Cert.KernelIdeal.Nms.v24_at m c b r j).symm)
  rw [walked_eq m m' c h0, h1]

end Cert.Agree
end
-- ==== Proof.lean ====
/-
  The proof of `Cert.Claim`: the frames of the kernel's program over the bits and over the extended reals, each from a run
  over any element type; the frame of the reference's program; the idealization; and that
  the kernel's two results over the extended reals are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelRun
public import proofs.«01_k».proof.Proof.Printed.KernelRun
public import proofs.«01_k».proof.Proof.RefFold
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.Kernel

/-- The kernel's program as printed, over the bits, keeps its arguments and ends with every counter at zero. -/
theorem frame_kernel : Cert.quiescent_Kernel := fun m ρ _ =>
  (θ_run Cert.Kernel.defs _ _).mono (fun _ h => ⟨fun c => (h.1 c).1, h.2⟩) (Cert.Kernel.Nms.run_main (F := Bits) m ρ)

/-- And so does its reading over the extended reals. -/
theorem frame_kernelIdeal : Cert.quiescent_KernelIdeal := fun m ρ _ =>
  (θ_run Cert.KernelIdeal.defs _ _).mono (fun _ h => ⟨fun c => (h.1 c).1, h.2⟩) (Cert.KernelIdeal.Nms.run_main (F := Ideal) m ρ)

/-- The reference's program keeps its arguments; it declares no semaphore. -/
theorem frame_referenceIdeal : Cert.quiescent_ReferenceIdeal := fun m ρ _ =>
  (θ_run Cert.ReferenceIdeal.defs _ _).mono
    (fun _ h => ⟨fun c => ⟨(h c Cert.ReferenceIdeal.main_arg0 rfl).trans (Cert.RefRun.final_arg0 m c),
      (h c Cert.ReferenceIdeal.main_arg1 rfl).trans (Cert.RefRun.final_arg1 m c)⟩, sem_eq_zero_of_no_sems (by decide) _⟩)
    (Cert.RefRun.run_fold (F := Ideal) m ρ)

/-- From the same arguments the kernel's program and the reference's end with the same two results. -/
theorem algebraic : Cert.algebraic_KernelIdeal_ReferenceIdeal := fun m ρ m' ρ' _ hm =>
  ⟨fun c => Cert.KernelIdeal.Gen.V8 m (Cert.KernelIdeal.Nms.outs m) c Cert.KernelIdeal.main_v15,
    fun c => Cert.KernelIdeal.Gen.V8 m (Cert.KernelIdeal.Nms.outs m) c Cert.KernelIdeal.main_v24,
    (θ_run Cert.KernelIdeal.defs _ _).mono (fun _ h c => ⟨(h.1 c).2.1, (h.1 c).2.2, (h.1 c).1.1, (h.1 c).1.2⟩)
      (Cert.KernelIdeal.Nms.run_main (F := Ideal) m ρ),
    (θ_run Cert.ReferenceIdeal.defs _ _).mono
      (fun _ h c => ⟨(h c Cert.ReferenceIdeal.main_v33_9 rfl).trans
          ((Cert.RefRun.final_cond m' c Cert.ReferenceIdeal.main_v33_9 (by decide)).trans (Cert.Agree.dets_eq m m' c (hm c).1)),
        (h c Cert.ReferenceIdeal.main_v33_10 rfl).trans
          ((Cert.RefRun.final_cond m' c Cert.ReferenceIdeal.main_v33_10 (by decide)).trans (Cert.Agree.logs_eq m m' c (hm c).1 (hm c).2)),
        (h c Cert.ReferenceIdeal.main_arg0 rfl).trans (Cert.RefRun.final_arg0 m' c),
        (h c Cert.ReferenceIdeal.main_arg1 rfl).trans (Cert.RefRun.final_arg1 m' c)⟩)
      (Cert.RefRun.run_fold (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
